-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.1 = (fun _ => 1#1)
    ∧ (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))).2.2.2.2.2 = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.1 = (fun _ => 1#1)
    ∧ (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))).2.2.2.2.2 = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_mix_in_finite [hPre_mix_in_finite : Cert.Pre_mix_in_finite.Facts] (m : (ℓ : Loc Cert.MixInIdeal.nD Cert.MixInIdeal.τ Cert.MixInIdeal.sig) → Buf (Elt Ideal) ℓ) : Prop :=
  ∀ c : Dev Cert.MixInIdeal.nD,
    (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).2.2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).2.2.2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).2.2.2.2.1 = (fun _ => 1#1)
    ∧ (Cert.Pre_mix_in_finite.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6))).2.2.2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mix_in_finite [hPre_mix_in_finite : Cert.Pre_mix_in_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).2.2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).2.2.2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).2.2.2.2.1 = (fun _ => 1#1)
    ∧ (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6))).2.2.2.2.2 = (fun _ => 1#1)

def Pre_Acts (m : (ℓ : Loc Cert.Acts.nD Cert.Acts.τ Cert.Acts.sig) → Buf (Elt Bits) ℓ) : Prop :=
  True

def Pre_ActsIdeal (m : (ℓ : Loc Cert.ActsIdeal.nD Cert.ActsIdeal.τ Cert.ActsIdeal.sig) → Buf (Elt Ideal) ℓ) : Prop :=
  True

def Pre_ActsIdeal_ffn_finite [hPre_ffn_finite : Cert.Pre_ffn_finite.Facts] (m : (ℓ : Loc Cert.ActsIdeal.nD Cert.ActsIdeal.τ Cert.ActsIdeal.sig) → Buf (Elt Ideal) ℓ) : Prop :=
  ∀ c : Dev Cert.ActsIdeal.nD,
    (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.2.1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.2.2.1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.2.2.2.1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.2.2.2.2.1 = (fun _ => 1#1)
    ∧ (Cert.Pre_ffn_finite.fn (F := Ideal) (m ((c.tc : Thread Cert.ActsIdeal.nD Cert.ActsIdeal.τ).loc Cert.ActsIdeal.main_arg0)) (m ((c.tc : Thread Cert.ActsIdeal.nD Cert.ActsIdeal.τ).loc Cert.ActsIdeal.main_arg1)) (m ((c.tc : Thread Cert.ActsIdeal.nD Cert.ActsIdeal.τ).loc Cert.ActsIdeal.main_arg2)) (m ((c.tc : Thread Cert.ActsIdeal.nD Cert.ActsIdeal.τ).loc Cert.ActsIdeal.main_arg3)) (m ((c.tc : Thread Cert.ActsIdeal.nD Cert.ActsIdeal.τ).loc Cert.ActsIdeal.main_arg4)) (m ((c.tc : Thread Cert.ActsIdeal.nD Cert.ActsIdeal.τ).loc Cert.ActsIdeal.main_arg5)) (m ((c.tc : Thread Cert.ActsIdeal.nD Cert.ActsIdeal.τ).loc Cert.ActsIdeal.main_arg6))).2.2.2.2.2.2 = (fun _ => 1#1)

def Pre_ActsRefIdeal (m : (ℓ : Loc Cert.ActsRefIdeal.nD Cert.ActsRefIdeal.τ Cert.ActsRefIdeal.sig) → Buf (Elt Ideal) ℓ) : Prop :=
  True

def Pre_ActsRefIdeal_ffn_finite [hPre_ffn_finite : Cert.Pre_ffn_finite.Facts] (m : (ℓ : Loc Cert.ActsRefIdeal.nD Cert.ActsRefIdeal.τ Cert.ActsRefIdeal.sig) → Buf (Elt Ideal) ℓ) : Prop :=
  ∀ c : Dev Cert.ActsRefIdeal.nD,
    (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.2.1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.2.2.1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.2.2.2.1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.2.2.2.2.1 = (fun _ => 1#1)
    ∧ (Cert.Pre_ffn_finite.fn (F := Ideal) (m ((c.tc : Thread Cert.ActsRefIdeal.nD Cert.ActsRefIdeal.τ).loc Cert.ActsRefIdeal.main_arg0)) (m ((c.tc : Thread Cert.ActsRefIdeal.nD Cert.ActsRefIdeal.τ).loc Cert.ActsRefIdeal.main_arg1)) (m ((c.tc : Thread Cert.ActsRefIdeal.nD Cert.ActsRefIdeal.τ).loc Cert.ActsRefIdeal.main_arg2)) (m ((c.tc : Thread Cert.ActsRefIdeal.nD Cert.ActsRefIdeal.τ).loc Cert.ActsRefIdeal.main_arg3)) (m ((c.tc : Thread Cert.ActsRefIdeal.nD Cert.ActsRefIdeal.τ).loc Cert.ActsRefIdeal.main_arg4)) (m ((c.tc : Thread Cert.ActsRefIdeal.nD Cert.ActsRefIdeal.τ).loc Cert.ActsRefIdeal.main_arg5)) (m ((c.tc : Thread Cert.ActsRefIdeal.nD Cert.ActsRefIdeal.τ).loc Cert.ActsRefIdeal.main_arg6))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6))).2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ r.2.sem = fun _ => 0)

def quiescent_MixInIdeal_pre_mix_in_finite [hMixInIdeal : Cert.MixInIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_mix_in_finite m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6))
      ∧ r.2.sem = fun _ => 0)

def quiescent_MixInRefIdeal_pre_mix_in_finite [hMixInRefIdeal : Cert.MixInRefIdeal.Facts] [hPre_mix_in_finite : Cert.Pre_mix_in_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mix_in_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6))
      ∧ r.2.sem = fun _ => 0)

def quiescent_Acts [hActs : Cert.Acts.Facts] : Prop :=
  ∀ (m : (ℓ : Loc Cert.Acts.nD Cert.Acts.τ Cert.Acts.sig) → Buf (Elt Bits) ℓ) (g : Dev Cert.Acts.nD → PrngReg), Pre_Acts m →
    θ_run (Cert.Acts.defs (F := Bits)) (onTc (τ := Cert.Acts.τ) (Cert.Acts.main (F := Bits))) ⟨m, fun _ => 0, g⟩ (fun r => (∀ c : Dev Cert.Acts.nD,
      r.2.mem ((c.tc : Thread Cert.Acts.nD Cert.Acts.τ).loc Cert.Acts.main_arg0) = m ((c.tc : Thread Cert.Acts.nD Cert.Acts.τ).loc Cert.Acts.main_arg0)
      ∧ r.2.mem ((c.tc : Thread Cert.Acts.nD Cert.Acts.τ).loc Cert.Acts.main_arg1) = m ((c.tc : Thread Cert.Acts.nD Cert.Acts.τ).loc Cert.Acts.main_arg1)
      ∧ r.2.mem ((c.tc : Thread Cert.Acts.nD Cert.Acts.τ).loc Cert.Acts.main_arg2) = m ((c.tc : Thread Cert.Acts.nD Cert.Acts.τ).loc Cert.Acts.main_arg2)
      ∧ r.2.mem ((c.tc : Thread Cert.Acts.nD Cert.Acts.τ).loc Cert.Acts.main_arg3) = m ((c.tc : Thread Cert.Acts.nD Cert.Acts.τ).loc Cert.Acts.main_arg3)
      ∧ r.2.mem ((c.tc : Thread Cert.Acts.nD Cert.Acts.τ).loc Cert.Acts.main_arg4) = m ((c.tc : Thread Cert.Acts.nD Cert.Acts.τ).loc Cert.Acts.main_arg4)
      ∧ r.2.mem ((c.tc : Thread Cert.Acts.nD Cert.Acts.τ).loc Cert.Acts.main_arg5) = m ((c.tc : Thread Cert.Acts.nD Cert.Acts.τ).loc Cert.Acts.main_arg5)
      ∧ r.2.mem ((c.tc : Thread Cert.Acts.nD Cert.Acts.τ).loc Cert.Acts.main_arg6) = m ((c.tc : Thread Cert.Acts.nD Cert.Acts.τ).loc Cert.Acts.main_arg6))
      ∧ r.2.sem = fun _ => 0)

def quiescent_ActsIdeal [hActsIdeal : Cert.ActsIdeal.Facts] : Prop :=
  ∀ (m : (ℓ : Loc Cert.ActsIdeal.nD Cert.ActsIdeal.τ Cert.ActsIdeal.sig) → Buf (Elt Ideal) ℓ) (g : Dev Cert.ActsIdeal.nD → PrngReg), Pre_ActsIdeal m →
    θ_run (Cert.ActsIdeal.defs (F := Ideal)) (onTc (τ := Cert.ActsIdeal.τ) (Cert.ActsIdeal.main (F := Ideal))) ⟨m, fun _ => 0, g⟩ (fun r => (∀ c : Dev Cert.ActsIdeal.nD,
      r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
      ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
      ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
      ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
      ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
      ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5)
      ∧ r.2.mem ((c.tc : Thread Cert.ActsIdeal.nD Cert.ActsIdeal.τ).loc Cert.ActsIdeal.main_arg6) = m ((c.tc : Thread Cert.ActsIdeal.nD Cert.ActsIdeal.τ).loc Cert.ActsIdeal.main_arg6))
      ∧ r.2.sem = fun _ => 0)

def quiescent_ActsIdeal_pre_ffn_finite [hActsIdeal : Cert.ActsIdeal.Facts] [hPre_ffn_finite : Cert.Pre_ffn_finite.Facts] : Prop :=
  ∀ (m : (ℓ : Loc Cert.ActsIdeal.nD Cert.ActsIdeal.τ Cert.ActsIdeal.sig) → Buf (Elt Ideal) ℓ) (g : Dev Cert.ActsIdeal.nD → PrngReg), Pre_ActsIdeal_ffn_finite m →
    θ_run (Cert.ActsIdeal.defs (F := Ideal)) (onTc (τ := Cert.ActsIdeal.τ) (Cert.ActsIdeal.main (F := Ideal))) ⟨m, fun _ => 0, g⟩ (fun r => (∀ c : Dev Cert.ActsIdeal.nD,
      r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
      ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
      ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
      ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
      ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
      ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5)
      ∧ r.2.mem ((c.tc : Thread Cert.ActsIdeal.nD Cert.ActsIdeal.τ).loc Cert.ActsIdeal.main_arg6) = m ((c.tc : Thread Cert.ActsIdeal.nD Cert.ActsIdeal.τ).loc Cert.ActsIdeal.main_arg6))
      ∧ r.2.sem = fun _ => 0)

def quiescent_ActsRefIdeal [hActsRefIdeal : Cert.ActsRefIdeal.Facts] : Prop :=
  ∀ (m : (ℓ : Loc Cert.ActsRefIdeal.nD Cert.ActsRefIdeal.τ Cert.ActsRefIdeal.sig) → Buf (Elt Ideal) ℓ) (g : Dev Cert.ActsRefIdeal.nD → PrngReg), Pre_ActsRefIdeal m →
    θ_run (Cert.ActsRefIdeal.defs (F := Ideal)) (onTc (τ := Cert.ActsRefIdeal.τ) (Cert.ActsRefIdeal.main (F := Ideal))) ⟨m, fun _ => 0, g⟩ (fun r => (∀ c : Dev Cert.ActsRefIdeal.nD,
      r.2.mem ((c.tc : Thread Cert.ActsRefIdeal.nD Cert.ActsRefIdeal.τ).loc Cert.ActsRefIdeal.main_arg0) = m ((c.tc : Thread Cert.ActsRefIdeal.nD Cert.ActsRefIdeal.τ).loc Cert.ActsRefIdeal.main_arg0)
      ∧ r.2.mem ((c.tc : Thread Cert.ActsRefIdeal.nD Cert.ActsRefIdeal.τ).loc Cert.ActsRefIdeal.main_arg1) = m ((c.tc : Thread Cert.ActsRefIdeal.nD Cert.ActsRefIdeal.τ).loc Cert.ActsRefIdeal.main_arg1)
      ∧ r.2.mem ((c.tc : Thread Cert.ActsRefIdeal.nD Cert.ActsRefIdeal.τ).loc Cert.ActsRefIdeal.main_arg2) = m ((c.tc : Thread Cert.ActsRefIdeal.nD Cert.ActsRefIdeal.τ).loc Cert.ActsRefIdeal.main_arg2)
      ∧ r.2.mem ((c.tc : Thread Cert.ActsRefIdeal.nD Cert.ActsRefIdeal.τ).loc Cert.ActsRefIdeal.main_arg3) = m ((c.tc : Thread Cert.ActsRefIdeal.nD Cert.ActsRefIdeal.τ).loc Cert.ActsRefIdeal.main_arg3)
      ∧ r.2.mem ((c.tc : Thread Cert.ActsRefIdeal.nD Cert.ActsRefIdeal.τ).loc Cert.ActsRefIdeal.main_arg4) = m ((c.tc : Thread Cert.ActsRefIdeal.nD Cert.ActsRefIdeal.τ).loc Cert.ActsRefIdeal.main_arg4)
      ∧ r.2.mem ((c.tc : Thread Cert.ActsRefIdeal.nD Cert.ActsRefIdeal.τ).loc Cert.ActsRefIdeal.main_arg5) = m ((c.tc : Thread Cert.ActsRefIdeal.nD Cert.ActsRefIdeal.τ).loc Cert.ActsRefIdeal.main_arg5)
      ∧ r.2.mem ((c.tc : Thread Cert.ActsRefIdeal.nD Cert.ActsRefIdeal.τ).loc Cert.ActsRefIdeal.main_arg6) = m ((c.tc : Thread Cert.ActsRefIdeal.nD Cert.ActsRefIdeal.τ).loc Cert.ActsRefIdeal.main_arg6))
      ∧ r.2.sem = fun _ => 0)

def quiescent_ActsRefIdeal_pre_ffn_finite [hActsRefIdeal : Cert.ActsRefIdeal.Facts] [hPre_ffn_finite : Cert.Pre_ffn_finite.Facts] : Prop :=
  ∀ (m : (ℓ : Loc Cert.ActsRefIdeal.nD Cert.ActsRefIdeal.τ Cert.ActsRefIdeal.sig) → Buf (Elt Ideal) ℓ) (g : Dev Cert.ActsRefIdeal.nD → PrngReg), Pre_ActsRefIdeal_ffn_finite m →
    θ_run (Cert.ActsRefIdeal.defs (F := Ideal)) (onTc (τ := Cert.ActsRefIdeal.τ) (Cert.ActsRefIdeal.main (F := Ideal))) ⟨m, fun _ => 0, g⟩ (fun r => (∀ c : Dev Cert.ActsRefIdeal.nD,
      r.2.mem ((c.tc : Thread Cert.ActsRefIdeal.nD Cert.ActsRefIdeal.τ).loc Cert.ActsRefIdeal.main_arg0) = m ((c.tc : Thread Cert.ActsRefIdeal.nD Cert.ActsRefIdeal.τ).loc Cert.ActsRefIdeal.main_arg0)
      ∧ r.2.mem ((c.tc : Thread Cert.ActsRefIdeal.nD Cert.ActsRefIdeal.τ).loc Cert.ActsRefIdeal.main_arg1) = m ((c.tc : Thread Cert.ActsRefIdeal.nD Cert.ActsRefIdeal.τ).loc Cert.ActsRefIdeal.main_arg1)
      ∧ r.2.mem ((c.tc : Thread Cert.ActsRefIdeal.nD Cert.ActsRefIdeal.τ).loc Cert.ActsRefIdeal.main_arg2) = m ((c.tc : Thread Cert.ActsRefIdeal.nD Cert.ActsRefIdeal.τ).loc Cert.ActsRefIdeal.main_arg2)
      ∧ r.2.mem ((c.tc : Thread Cert.ActsRefIdeal.nD Cert.ActsRefIdeal.τ).loc Cert.ActsRefIdeal.main_arg3) = m ((c.tc : Thread Cert.ActsRefIdeal.nD Cert.ActsRefIdeal.τ).loc Cert.ActsRefIdeal.main_arg3)
      ∧ r.2.mem ((c.tc : Thread Cert.ActsRefIdeal.nD Cert.ActsRefIdeal.τ).loc Cert.ActsRefIdeal.main_arg4) = m ((c.tc : Thread Cert.ActsRefIdeal.nD Cert.ActsRefIdeal.τ).loc Cert.ActsRefIdeal.main_arg4)
      ∧ r.2.mem ((c.tc : Thread Cert.ActsRefIdeal.nD Cert.ActsRefIdeal.τ).loc Cert.ActsRefIdeal.main_arg5) = m ((c.tc : Thread Cert.ActsRefIdeal.nD Cert.ActsRefIdeal.τ).loc Cert.ActsRefIdeal.main_arg5)
      ∧ r.2.mem ((c.tc : Thread Cert.ActsRefIdeal.nD Cert.ActsRefIdeal.τ).loc Cert.ActsRefIdeal.main_arg6) = m ((c.tc : Thread Cert.ActsRefIdeal.nD Cert.ActsRefIdeal.τ).loc Cert.ActsRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v10_0)) (v1 : (c : Dev Cert.FfnInIdeal.nD) → Buf (Elt Ideal) ((c.tc : Thread Cert.FfnInIdeal.nD Cert.FfnInIdeal.τ).loc Cert.FfnInIdeal.main_v10_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v10_0) = v0 c
          ∧ r.2.mem ((c.tc : Thread Cert.FfnInIdeal.nD Cert.FfnInIdeal.τ).loc Cert.FfnInIdeal.main_v10_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v44) = v0 c
          ∧ r.2.mem ((c.tc : Thread Cert.FfnInRefIdeal.nD Cert.FfnInRefIdeal.τ).loc Cert.FfnInRefIdeal.main_v45) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_MixIn_MixInIdeal : Prop :=
  True

def algebraic_MixInIdeal_MixInRefIdeal_pre_mix_in_finite [hMixInIdeal : Cert.MixInIdeal.Facts] [hMixInRefIdeal : Cert.MixInRefIdeal.Facts] [hPre_mix_in_finite : Cert.Pre_mix_in_finite.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_mix_in_finite m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)) →
    ∃ (v0 : (c : Dev Cert.MixInIdeal.nD) → Buf (Elt Ideal) ((c.tc : Thread Cert.MixInIdeal.nD Cert.MixInIdeal.τ).loc Cert.MixInIdeal.main_v6_0)) (v1 : (c : Dev Cert.MixInIdeal.nD) → Buf (Elt Ideal) ((c.tc : Thread Cert.MixInIdeal.nD Cert.MixInIdeal.τ).loc Cert.MixInIdeal.main_v6_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v6_0) = v0 c
          ∧ r.2.mem ((c.tc : Thread Cert.MixInIdeal.nD Cert.MixInIdeal.τ).loc Cert.MixInIdeal.main_v6_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v44) = v0 c
          ∧ r.2.mem ((c.tc : Thread Cert.MixInRefIdeal.nD Cert.MixInRefIdeal.τ).loc Cert.MixInRefIdeal.main_v45) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6))

def preserves_Acts_ActsIdeal : Prop :=
  True

def algebraic_ActsIdeal_ActsRefIdeal_pre_ffn_finite [hActsIdeal : Cert.ActsIdeal.Facts] [hActsRefIdeal : Cert.ActsRefIdeal.Facts] [hPre_ffn_finite : Cert.Pre_ffn_finite.Facts] : Prop :=
  ∀ (m : (ℓ : Loc Cert.ActsIdeal.nD Cert.ActsIdeal.τ Cert.ActsIdeal.sig) → Buf (Elt Ideal) ℓ) (g : Dev Cert.ActsIdeal.nD → PrngReg)
    (m' : (ℓ : Loc Cert.ActsRefIdeal.nD Cert.ActsRefIdeal.τ Cert.ActsRefIdeal.sig) → Buf (Elt Ideal) ℓ) (g' : Dev Cert.ActsRefIdeal.nD → PrngReg), Pre_ActsIdeal_ffn_finite m →
    (∀ c : Dev Cert.ActsIdeal.nD,
      m' ((c.tc : Thread Cert.ActsRefIdeal.nD Cert.ActsRefIdeal.τ).loc Cert.ActsRefIdeal.main_arg0) = m ((c.tc : Thread Cert.ActsIdeal.nD Cert.ActsIdeal.τ).loc Cert.ActsIdeal.main_arg0)
      ∧ m' ((c.tc : Thread Cert.ActsRefIdeal.nD Cert.ActsRefIdeal.τ).loc Cert.ActsRefIdeal.main_arg1) = m ((c.tc : Thread Cert.ActsIdeal.nD Cert.ActsIdeal.τ).loc Cert.ActsIdeal.main_arg1)
      ∧ m' ((c.tc : Thread Cert.ActsRefIdeal.nD Cert.ActsRefIdeal.τ).loc Cert.ActsRefIdeal.main_arg2) = m ((c.tc : Thread Cert.ActsIdeal.nD Cert.ActsIdeal.τ).loc Cert.ActsIdeal.main_arg2)
      ∧ m' ((c.tc : Thread Cert.ActsRefIdeal.nD Cert.ActsRefIdeal.τ).loc Cert.ActsRefIdeal.main_arg3) = m ((c.tc : Thread Cert.ActsIdeal.nD Cert.ActsIdeal.τ).loc Cert.ActsIdeal.main_arg3)
      ∧ m' ((c.tc : Thread Cert.ActsRefIdeal.nD Cert.ActsRefIdeal.τ).loc Cert.ActsRefIdeal.main_arg4) = m ((c.tc : Thread Cert.ActsIdeal.nD Cert.ActsIdeal.τ).loc Cert.ActsIdeal.main_arg4)
      ∧ m' ((c.tc : Thread Cert.ActsRefIdeal.nD Cert.ActsRefIdeal.τ).loc Cert.ActsRefIdeal.main_arg5) = m ((c.tc : Thread Cert.ActsIdeal.nD Cert.ActsIdeal.τ).loc Cert.ActsIdeal.main_arg5)
      ∧ m' ((c.tc : Thread Cert.ActsRefIdeal.nD Cert.ActsRefIdeal.τ).loc Cert.ActsRefIdeal.main_arg6) = m ((c.tc : Thread Cert.ActsIdeal.nD Cert.ActsIdeal.τ).loc Cert.ActsIdeal.main_arg6)) →
    ∃ (v0 : (c : Dev Cert.ActsIdeal.nD) → Buf (Elt Ideal) ((c.tc : Thread Cert.ActsIdeal.nD Cert.ActsIdeal.τ).loc Cert.ActsIdeal.main_v27_0)) (v1 : (c : Dev Cert.ActsIdeal.nD) → Buf (Elt Ideal) ((c.tc : Thread Cert.ActsIdeal.nD Cert.ActsIdeal.τ).loc Cert.ActsIdeal.main_v27_1)) (v2 : (c : Dev Cert.ActsIdeal.nD) → Buf (Elt Ideal) ((c.tc : Thread Cert.ActsIdeal.nD Cert.ActsIdeal.τ).loc Cert.ActsIdeal.main_v27_2)) (v3 : (c : Dev Cert.ActsIdeal.nD) → Buf (Elt Ideal) ((c.tc : Thread Cert.ActsIdeal.nD Cert.ActsIdeal.τ).loc Cert.ActsIdeal.main_v27_3)),
      θ_run (Cert.ActsIdeal.defs (F := Ideal)) (onTc (τ := Cert.ActsIdeal.τ) (Cert.ActsIdeal.main (F := Ideal))) ⟨m, fun _ => 0, g⟩ (fun r => ∀ c : Dev Cert.ActsIdeal.nD,
          r.2.mem ((c.tc : Thread Cert.ActsIdeal.nD Cert.ActsIdeal.τ).loc Cert.ActsIdeal.main_v27_0) = v0 c
          ∧ r.2.mem ((c.tc : Thread Cert.ActsIdeal.nD Cert.ActsIdeal.τ).loc Cert.ActsIdeal.main_v27_1) = v1 c
          ∧ r.2.mem ((c.tc : Thread Cert.ActsIdeal.nD Cert.ActsIdeal.τ).loc Cert.ActsIdeal.main_v27_2) = v2 c
          ∧ r.2.mem ((c.tc : Thread Cert.ActsIdeal.nD Cert.ActsIdeal.τ).loc Cert.ActsIdeal.main_v27_3) = v3 c
          ∧ r.2.mem ((c.tc : Thread Cert.ActsIdeal.nD Cert.ActsIdeal.τ).loc Cert.ActsIdeal.main_arg0) = m ((c.tc : Thread Cert.ActsIdeal.nD Cert.ActsIdeal.τ).loc Cert.ActsIdeal.main_arg0)
          ∧ r.2.mem ((c.tc : Thread Cert.ActsIdeal.nD Cert.ActsIdeal.τ).loc Cert.ActsIdeal.main_arg1) = m ((c.tc : Thread Cert.ActsIdeal.nD Cert.ActsIdeal.τ).loc Cert.ActsIdeal.main_arg1)
          ∧ r.2.mem ((c.tc : Thread Cert.ActsIdeal.nD Cert.ActsIdeal.τ).loc Cert.ActsIdeal.main_arg2) = m ((c.tc : Thread Cert.ActsIdeal.nD Cert.ActsIdeal.τ).loc Cert.ActsIdeal.main_arg2)
          ∧ r.2.mem ((c.tc : Thread Cert.ActsIdeal.nD Cert.ActsIdeal.τ).loc Cert.ActsIdeal.main_arg3) = m ((c.tc : Thread Cert.ActsIdeal.nD Cert.ActsIdeal.τ).loc Cert.ActsIdeal.main_arg3)
          ∧ r.2.mem ((c.tc : Thread Cert.ActsIdeal.nD Cert.ActsIdeal.τ).loc Cert.ActsIdeal.main_arg4) = m ((c.tc : Thread Cert.ActsIdeal.nD Cert.ActsIdeal.τ).loc Cert.ActsIdeal.main_arg4)
          ∧ r.2.mem ((c.tc : Thread Cert.ActsIdeal.nD Cert.ActsIdeal.τ).loc Cert.ActsIdeal.main_arg5) = m ((c.tc : Thread Cert.ActsIdeal.nD Cert.ActsIdeal.τ).loc Cert.ActsIdeal.main_arg5)
          ∧ r.2.mem ((c.tc : Thread Cert.ActsIdeal.nD Cert.ActsIdeal.τ).loc Cert.ActsIdeal.main_arg6) = m ((c.tc : Thread Cert.ActsIdeal.nD Cert.ActsIdeal.τ).loc Cert.ActsIdeal.main_arg6))
      ∧ θ_run (Cert.ActsRefIdeal.defs (F := Ideal)) (onTc (τ := Cert.ActsRefIdeal.τ) (Cert.ActsRefIdeal.main (F := Ideal))) ⟨m', fun _ => 0, g'⟩ (fun r => ∀ c : Dev Cert.ActsRefIdeal.nD,
          r.2.mem ((c.tc : Thread Cert.ActsRefIdeal.nD Cert.ActsRefIdeal.τ).loc Cert.ActsRefIdeal.main_v102) = v0 c
          ∧ r.2.mem ((c.tc : Thread Cert.ActsRefIdeal.nD Cert.ActsRefIdeal.τ).loc Cert.ActsRefIdeal.main_v105) = v1 c
          ∧ r.2.mem ((c.tc : Thread Cert.ActsRefIdeal.nD Cert.ActsRefIdeal.τ).loc Cert.ActsRefIdeal.main_v106) = v2 c
          ∧ r.2.mem ((c.tc : Thread Cert.ActsRefIdeal.nD Cert.ActsRefIdeal.τ).loc Cert.ActsRefIdeal.main_v70) = v3 c
          ∧ r.2.mem ((c.tc : Thread Cert.ActsRefIdeal.nD Cert.ActsRefIdeal.τ).loc Cert.ActsRefIdeal.main_arg0) = m' ((c.tc : Thread Cert.ActsRefIdeal.nD Cert.ActsRefIdeal.τ).loc Cert.ActsRefIdeal.main_arg0)
          ∧ r.2.mem ((c.tc : Thread Cert.ActsRefIdeal.nD Cert.ActsRefIdeal.τ).loc Cert.ActsRefIdeal.main_arg1) = m' ((c.tc : Thread Cert.ActsRefIdeal.nD Cert.ActsRefIdeal.τ).loc Cert.ActsRefIdeal.main_arg1)
          ∧ r.2.mem ((c.tc : Thread Cert.ActsRefIdeal.nD Cert.ActsRefIdeal.τ).loc Cert.ActsRefIdeal.main_arg2) = m' ((c.tc : Thread Cert.ActsRefIdeal.nD Cert.ActsRefIdeal.τ).loc Cert.ActsRefIdeal.main_arg2)
          ∧ r.2.mem ((c.tc : Thread Cert.ActsRefIdeal.nD Cert.ActsRefIdeal.τ).loc Cert.ActsRefIdeal.main_arg3) = m' ((c.tc : Thread Cert.ActsRefIdeal.nD Cert.ActsRefIdeal.τ).loc Cert.ActsRefIdeal.main_arg3)
          ∧ r.2.mem ((c.tc : Thread Cert.ActsRefIdeal.nD Cert.ActsRefIdeal.τ).loc Cert.ActsRefIdeal.main_arg4) = m' ((c.tc : Thread Cert.ActsRefIdeal.nD Cert.ActsRefIdeal.τ).loc Cert.ActsRefIdeal.main_arg4)
          ∧ r.2.mem ((c.tc : Thread Cert.ActsRefIdeal.nD Cert.ActsRefIdeal.τ).loc Cert.ActsRefIdeal.main_arg5) = m' ((c.tc : Thread Cert.ActsRefIdeal.nD Cert.ActsRefIdeal.τ).loc Cert.ActsRefIdeal.main_arg5)
          ∧ r.2.mem ((c.tc : Thread Cert.ActsRefIdeal.nD Cert.ActsRefIdeal.τ).loc Cert.ActsRefIdeal.main_arg6) = m' ((c.tc : Thread Cert.ActsRefIdeal.nD Cert.ActsRefIdeal.τ).loc Cert.ActsRefIdeal.main_arg6))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v33_0)) (v1 : (c : Dev Cert.FfnIdeal.nD) → Buf (Elt Ideal) ((c.tc : Thread Cert.FfnIdeal.nD Cert.FfnIdeal.τ).loc Cert.FfnIdeal.main_v33_1)) (v2 : (c : Dev Cert.FfnIdeal.nD) → Buf (Elt Ideal) ((c.tc : Thread Cert.FfnIdeal.nD Cert.FfnIdeal.τ).loc Cert.FfnIdeal.main_v33_2)) (v3 : (c : Dev Cert.FfnIdeal.nD) → Buf (Elt Ideal) ((c.tc : Thread Cert.FfnIdeal.nD Cert.FfnIdeal.τ).loc Cert.FfnIdeal.main_v33_3)) (v4 : (c : Dev Cert.FfnIdeal.nD) → Buf (Elt Ideal) ((c.tc : Thread Cert.FfnIdeal.nD Cert.FfnIdeal.τ).loc Cert.FfnIdeal.main_v33_4)) (v5 : (c : Dev Cert.FfnIdeal.nD) → Buf (Elt Ideal) ((c.tc : Thread Cert.FfnIdeal.nD Cert.FfnIdeal.τ).loc Cert.FfnIdeal.main_v33_5)) (v6 : (c : Dev Cert.FfnIdeal.nD) → Buf (Elt Ideal) ((c.tc : Thread Cert.FfnIdeal.nD Cert.FfnIdeal.τ).loc Cert.FfnIdeal.main_v33_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v33_0) = v0 c
          ∧ r.2.mem ((c.tc : Thread Cert.FfnIdeal.nD Cert.FfnIdeal.τ).loc Cert.FfnIdeal.main_v33_1) = v1 c
          ∧ r.2.mem ((c.tc : Thread Cert.FfnIdeal.nD Cert.FfnIdeal.τ).loc Cert.FfnIdeal.main_v33_2) = v2 c
          ∧ r.2.mem ((c.tc : Thread Cert.FfnIdeal.nD Cert.FfnIdeal.τ).loc Cert.FfnIdeal.main_v33_3) = v3 c
          ∧ r.2.mem ((c.tc : Thread Cert.FfnIdeal.nD Cert.FfnIdeal.τ).loc Cert.FfnIdeal.main_v33_4) = v4 c
          ∧ r.2.mem ((c.tc : Thread Cert.FfnIdeal.nD Cert.FfnIdeal.τ).loc Cert.FfnIdeal.main_v33_5) = v5 c
          ∧ r.2.mem ((c.tc : Thread Cert.FfnIdeal.nD Cert.FfnIdeal.τ).loc Cert.FfnIdeal.main_v33_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v98) = v0 c
          ∧ r.2.mem ((c.tc : Thread Cert.FfnRefIdeal.nD Cert.FfnRefIdeal.τ).loc Cert.FfnRefIdeal.main_v121) = v1 c
          ∧ r.2.mem ((c.tc : Thread Cert.FfnRefIdeal.nD Cert.FfnRefIdeal.τ).loc Cert.FfnRefIdeal.main_v102) = v2 c
          ∧ r.2.mem ((c.tc : Thread Cert.FfnRefIdeal.nD Cert.FfnRefIdeal.τ).loc Cert.FfnRefIdeal.main_v105) = v3 c
          ∧ r.2.mem ((c.tc : Thread Cert.FfnRefIdeal.nD Cert.FfnRefIdeal.τ).loc Cert.FfnRefIdeal.main_v106) = v4 c
          ∧ r.2.mem ((c.tc : Thread Cert.FfnRefIdeal.nD Cert.FfnRefIdeal.τ).loc Cert.FfnRefIdeal.main_v99) = v5 c
          ∧ r.2.mem ((c.tc : Thread Cert.FfnRefIdeal.nD Cert.FfnRefIdeal.τ).loc Cert.FfnRefIdeal.main_v70) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v27)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v27) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v59) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Bias_BiasIdeal : Prop :=
  True

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v8_0)) (v1 : (c : Dev Cert.LossIdeal.nD) → Buf (Elt Ideal) ((c.tc : Thread Cert.LossIdeal.nD Cert.LossIdeal.τ).loc Cert.LossIdeal.main_v8_1)) (v2 : (c : Dev Cert.LossIdeal.nD) → Buf (Elt Ideal) ((c.tc : Thread Cert.LossIdeal.nD Cert.LossIdeal.τ).loc Cert.LossIdeal.main_v8_2)) (v3 : (c : Dev Cert.LossIdeal.nD) → Buf (Elt Ideal) ((c.tc : Thread Cert.LossIdeal.nD Cert.LossIdeal.τ).loc Cert.LossIdeal.main_v8_3)) (v4 : (c : Dev Cert.LossIdeal.nD) → Buf (Elt Ideal) ((c.tc : Thread Cert.LossIdeal.nD Cert.LossIdeal.τ).loc Cert.LossIdeal.main_v8_4)) (v5 : (c : Dev Cert.LossIdeal.nD) → Buf (Elt Ideal) ((c.tc : Thread Cert.LossIdeal.nD Cert.LossIdeal.τ).loc Cert.LossIdeal.main_v8_5)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v8_0) = v0 c
          ∧ r.2.mem ((c.tc : Thread Cert.LossIdeal.nD Cert.LossIdeal.τ).loc Cert.LossIdeal.main_v8_1) = v1 c
          ∧ r.2.mem ((c.tc : Thread Cert.LossIdeal.nD Cert.LossIdeal.τ).loc Cert.LossIdeal.main_v8_2) = v2 c
          ∧ r.2.mem ((c.tc : Thread Cert.LossIdeal.nD Cert.LossIdeal.τ).loc Cert.LossIdeal.main_v8_3) = v3 c
          ∧ r.2.mem ((c.tc : Thread Cert.LossIdeal.nD Cert.LossIdeal.τ).loc Cert.LossIdeal.main_v8_4) = v4 c
          ∧ r.2.mem ((c.tc : Thread Cert.LossIdeal.nD Cert.LossIdeal.τ).loc Cert.LossIdeal.main_v8_5) = v5 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v57) = v1 c
          ∧ r.2.mem ((c.tc : Thread Cert.LossRefIdeal.nD Cert.LossRefIdeal.τ).loc Cert.LossRefIdeal.main_v60) = v2 c
          ∧ r.2.mem ((c.tc : Thread Cert.LossRefIdeal.nD Cert.LossRefIdeal.τ).loc Cert.LossRefIdeal.main_v63) = v3 c
          ∧ r.2.mem ((c.tc : Thread Cert.LossRefIdeal.nD Cert.LossRefIdeal.τ).loc Cert.LossRefIdeal.main_v18) = v4 c
          ∧ r.2.mem ((c.tc : Thread Cert.LossRefIdeal.nD Cert.LossRefIdeal.τ).loc Cert.LossRefIdeal.main_v39) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)) (v2 : (c : Dev Cert.UpIdeal.nD) → Buf (Elt Ideal) ((c.tc : Thread Cert.UpIdeal.nD Cert.UpIdeal.τ).loc Cert.UpIdeal.main_v6_2)) (v3 : (c : Dev Cert.UpIdeal.nD) → Buf (Elt Ideal) ((c.tc : Thread Cert.UpIdeal.nD Cert.UpIdeal.τ).loc Cert.UpIdeal.main_v6_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_v6_2) = v2 c
          ∧ r.2.mem ((c.tc : Thread Cert.UpIdeal.nD Cert.UpIdeal.τ).loc Cert.UpIdeal.main_v6_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v16) = v0 c
          ∧ r.2.mem ((c.tc : Thread Cert.UpRefIdeal.nD Cert.UpRefIdeal.τ).loc Cert.UpRefIdeal.main_v19) = v1 c
          ∧ r.2.mem ((c.tc : Thread Cert.UpRefIdeal.nD Cert.UpRefIdeal.τ).loc Cert.UpRefIdeal.main_v22) = v2 c
          ∧ r.2.mem ((c.tc : Thread Cert.UpRefIdeal.nD Cert.UpRefIdeal.τ).loc Cert.UpRefIdeal.main_v27) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v18) = v0 c
          ∧ r.2.mem ((c.tc : Thread Cert.DownRefIdeal.nD Cert.DownRefIdeal.τ).loc Cert.DownRefIdeal.main_v1) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_1)) (v2 : (c : Dev Cert.ProjIdeal.nD) → Buf (Elt Ideal) ((c.tc : Thread Cert.ProjIdeal.nD Cert.ProjIdeal.τ).loc Cert.ProjIdeal.main_v6_2)) (v3 : (c : Dev Cert.ProjIdeal.nD) → Buf (Elt Ideal) ((c.tc : Thread Cert.ProjIdeal.nD Cert.ProjIdeal.τ).loc Cert.ProjIdeal.main_v6_3)) (v4 : (c : Dev Cert.ProjIdeal.nD) → Buf (Elt Ideal) ((c.tc : Thread Cert.ProjIdeal.nD Cert.ProjIdeal.τ).loc Cert.ProjIdeal.main_v6_4)) (v5 : (c : Dev Cert.ProjIdeal.nD) → Buf (Elt Ideal) ((c.tc : Thread Cert.ProjIdeal.nD Cert.ProjIdeal.τ).loc Cert.ProjIdeal.main_v6_5)) (v6 : (c : Dev Cert.ProjIdeal.nD) → Buf (Elt Ideal) ((c.tc : Thread Cert.ProjIdeal.nD Cert.ProjIdeal.τ).loc Cert.ProjIdeal.main_v6_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_1) = v1 c
          ∧ r.2.mem ((c.tc : Thread Cert.ProjIdeal.nD Cert.ProjIdeal.τ).loc Cert.ProjIdeal.main_v6_2) = v2 c
          ∧ r.2.mem ((c.tc : Thread Cert.ProjIdeal.nD Cert.ProjIdeal.τ).loc Cert.ProjIdeal.main_v6_3) = v3 c
          ∧ r.2.mem ((c.tc : Thread Cert.ProjIdeal.nD Cert.ProjIdeal.τ).loc Cert.ProjIdeal.main_v6_4) = v4 c
          ∧ r.2.mem ((c.tc : Thread Cert.ProjIdeal.nD Cert.ProjIdeal.τ).loc Cert.ProjIdeal.main_v6_5) = v5 c
          ∧ r.2.mem ((c.tc : Thread Cert.ProjIdeal.nD Cert.ProjIdeal.τ).loc Cert.ProjIdeal.main_v6_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_v32) = v1 c
          ∧ r.2.mem ((c.tc : Thread Cert.ProjRefIdeal.nD Cert.ProjRefIdeal.τ).loc Cert.ProjRefIdeal.main_v33) = v2 c
          ∧ r.2.mem ((c.tc : Thread Cert.ProjRefIdeal.nD Cert.ProjRefIdeal.τ).loc Cert.ProjRefIdeal.main_v34) = v3 c
          ∧ r.2.mem ((c.tc : Thread Cert.ProjRefIdeal.nD Cert.ProjRefIdeal.τ).loc Cert.ProjRefIdeal.main_v18) = v4 c
          ∧ r.2.mem ((c.tc : Thread Cert.ProjRefIdeal.nD Cert.ProjRefIdeal.τ).loc Cert.ProjRefIdeal.main_v35) = v5 c
          ∧ r.2.mem ((c.tc : Thread Cert.ProjRefIdeal.nD Cert.ProjRefIdeal.τ).loc Cert.ProjRefIdeal.main_v36) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)) (v3 : (c : Dev Cert.MergeIdeal.nD) → Buf (Elt Ideal) ((c.tc : Thread Cert.MergeIdeal.nD Cert.MergeIdeal.τ).loc Cert.MergeIdeal.main_v10_3)) (v4 : (c : Dev Cert.MergeIdeal.nD) → Buf (Elt Ideal) ((c.tc : Thread Cert.MergeIdeal.nD Cert.MergeIdeal.τ).loc Cert.MergeIdeal.main_v10_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_v10_2) = v2 c
          ∧ r.2.mem ((c.tc : Thread Cert.MergeIdeal.nD Cert.MergeIdeal.τ).loc Cert.MergeIdeal.main_v10_3) = v3 c
          ∧ r.2.mem ((c.tc : Thread Cert.MergeIdeal.nD Cert.MergeIdeal.τ).loc Cert.MergeIdeal.main_v10_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_v32) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_v50) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def Claim : Prop :=
  ∃ (hFfnIn : Cert.FfnIn.Facts) (hFfnInIdeal : Cert.FfnInIdeal.Facts) (hFfnInRefIdeal : Cert.FfnInRefIdeal.Facts) (hMixIn : Cert.MixIn.Facts) (hMixInIdeal : Cert.MixInIdeal.Facts) (hMixInRefIdeal : Cert.MixInRefIdeal.Facts) (hActs : Cert.Acts.Facts) (hActsIdeal : Cert.ActsIdeal.Facts) (hActsRefIdeal : Cert.ActsRefIdeal.Facts) (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hBias : Cert.Bias.Facts) (hBiasIdeal : Cert.BiasIdeal.Facts) (hLoss : Cert.Loss.Facts) (hLossIdeal : Cert.LossIdeal.Facts) (hLossRefIdeal : Cert.LossRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hPre_ffn_in_finite : Cert.Pre_ffn_in_finite.Facts) (hPre_mix_in_finite : Cert.Pre_mix_in_finite.Facts) (hPre_ffn_finite : Cert.Pre_ffn_finite.Facts) (hPre_attn_finite : Cert.Pre_attn_finite.Facts),
    quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_MixIn (hMixIn := hMixIn)
    ∧ quiescent_MixInIdeal (hMixInIdeal := hMixInIdeal)
    ∧ quiescent_MixInIdeal_pre_mix_in_finite (hMixInIdeal := hMixInIdeal) (hPre_mix_in_finite := hPre_mix_in_finite)
    ∧ quiescent_MixInRefIdeal (hMixInRefIdeal := hMixInRefIdeal)
    ∧ quiescent_MixInRefIdeal_pre_mix_in_finite (hMixInRefIdeal := hMixInRefIdeal) (hPre_mix_in_finite := hPre_mix_in_finite)
    ∧ quiescent_Acts (hActs := hActs)
    ∧ quiescent_ActsIdeal (hActsIdeal := hActsIdeal)
    ∧ quiescent_ActsIdeal_pre_ffn_finite (hActsIdeal := hActsIdeal) (hPre_ffn_finite := hPre_ffn_finite)
    ∧ quiescent_ActsRefIdeal (hActsRefIdeal := hActsRefIdeal)
    ∧ quiescent_ActsRefIdeal_pre_ffn_finite (hActsRefIdeal := hActsRefIdeal) (hPre_ffn_finite := hPre_ffn_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Bias (hBias := hBias)
    ∧ quiescent_BiasIdeal (hBiasIdeal := hBiasIdeal)
    ∧ quiescent_Loss (hLoss := hLoss)
    ∧ quiescent_LossIdeal (hLossIdeal := hLossIdeal)
    ∧ quiescent_LossRefIdeal (hLossRefIdeal := hLossRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_MixIn_MixInIdeal
    ∧ algebraic_MixInIdeal_MixInRefIdeal_pre_mix_in_finite (hMixInIdeal := hMixInIdeal) (hMixInRefIdeal := hMixInRefIdeal) (hPre_mix_in_finite := hPre_mix_in_finite)
    ∧ preserves_Acts_ActsIdeal
    ∧ algebraic_ActsIdeal_ActsRefIdeal_pre_ffn_finite (hActsIdeal := hActsIdeal) (hActsRefIdeal := hActsRefIdeal) (hPre_ffn_finite := hPre_ffn_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Bias_BiasIdeal
    ∧ preserves_Loss_LossIdeal
    ∧ algebraic_LossIdeal_LossRefIdeal (hLossIdeal := hLossIdeal) (hLossRefIdeal := hLossRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
-- ==== Pre_attn_finite.lean ====
abbrev S4096x1024 : Shape := ⟨2, ![4096, 1024]⟩
abbrev S4096x256 : Shape := ⟨2, ![4096, 256]⟩
abbrev S16 : Shape := ⟨1, ![16]⟩
abbrev S16x64x192 : Shape := ⟨3, ![16, 64, 192]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4096x256 : S_.BroadcastsInDim S4096x256 (![] : Fin 0 → Fin S4096x256.rank)
  bcast_S_S16 : S_.BroadcastsInDim S16 (![] : Fin 0 → Fin S16.rank)
  bcast_S_S16x64x192 : S_.BroadcastsInDim S16x64x192 (![] : Fin 0 → Fin S16x64x192.rank)

variable [Facts]

def fn {F : FTy → Type} [FloatOps F] (main_arg0 : FVec F S4096x1024 .bf16) (main_arg1 : FVec F S4096x256 .bf16) (main_arg2 : FVec F S4096x256 .bf16) (main_arg3 : FVec F S16 .f32) (main_arg4 : FVec F S16x64x192 .f32) : IVec S4096x1024 1 × IVec S4096x256 1 × IVec S4096x256 1 × IVec S16 1 × IVec S16x64x192 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x256 .f32 := (extf .f32 · bitsLt_bf16_f32) main_arg1
  let main_v5 : FVec F S4096x256 .f32 := Host.absf main_v4
  let main_cst_0 : FVec F S_ .f32 := constant S_ .f32 0x7F800000#32
  let main_v6 : FVec F S4096x256 .f32 := broadcastInDim S4096x256 ![] bcast_S_S4096x256 main_cst_0
  let main_v7 : IVec S4096x256 1 := cmpf .olt main_v5 main_v6
  let main_v8 : FVec F S4096x256 .f32 := (extf .f32 · bitsLt_bf16_f32) main_arg2
  let main_v9 : FVec F S4096x256 .f32 := Host.absf main_v8
  let main_cst_1 : FVec F S_ .f32 := constant S_ .f32 0x7F800000#32
  let main_v10 : FVec F S4096x256 .f32 := broadcastInDim S4096x256 ![] bcast_S_S4096x256 main_cst_1
  let main_v11 : IVec S4096x256 1 := cmpf .olt main_v9 main_v10
  let main_v12 : FVec F S16 .f32 := Host.absf main_arg3
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S16x64x192 .f32 := Host.absf main_arg4
  let main_cst_3 : FVec F S_ .f32 := constant S_ .f32 0x7F800000#32
  let main_v16 : FVec F S16x64x192 .f32 := broadcastInDim S16x64x192 ![] bcast_S_S16x64x192 main_cst_3
  let main_v17 : IVec S16x64x192 1 := cmpf .olt main_v15 main_v16
  (main_v3, main_v7, main_v11, main_v14, main_v17)
-- ==== Pre_ffn_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1x1024 .f32) (main_v2 : IVec S4096x1024 1) (main_v5 : IVec S4096x1024 1) (main_v8 : IVec S1x1024 1) (main_v11 : IVec S1024x2816 1) (main_v14 : IVec S1024x2816 1) (main_v17 : IVec S2816x1024 1) : IVec S4096x1024 1 × IVec S4096x1024 1 × IVec S1x1024 1 × IVec S1024x2816 1 × IVec S1024x2816 1 × IVec S2816x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) (main_arg6 : FVec F S1x1024 .f32) : IVec S4096x1024 1 × IVec S4096x1024 1 × IVec S1x1024 1 × IVec S1024x2816 1 × IVec S1024x2816 1 × IVec S2816x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Pre_ffn_in_finite.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2816 : S_.BroadcastsInDim S4096x2816 (![] : Fin 0 → Fin S4096x2816.rank)
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn_part1 {F : FTy → Type} [FloatOps F] (main_v2 : IVec S4096x1024 1) (main_v6 : IVec S4096x2816 1) (main_v10 : IVec S4096x2816 1) (main_v13 : IVec S1x1024 1) (main_v16 : IVec S1024x2816 1) (main_v17 : FVec F S1024x2816 .f32) (main_cst_4 : FVec F S_ .f32) : IVec S4096x1024 1 × IVec S4096x2816 1 × IVec S4096x2816 1 × IVec S1x1024 1 × IVec S1024x2816 1 × IVec S1024x2816 1 :=
  let main_v18 : FVec F S1024x2816 .f32 := broadcastInDim S1024x2816 ![] bcast_S_S1024x2816 main_cst_4
  let main_v19 : IVec S1024x2816 1 := cmpf .olt main_v17 main_v18
  (main_v2, main_v6, main_v10, main_v13, main_v16, main_v19)

def fn {F : FTy → Type} [FloatOps F] (main_arg0 : FVec F S4096x1024 .f32) (main_arg1 : FVec F S4096x1024 .f32) (main_arg2 : FVec F S4096x2816 .bf16) (main_arg3 : FVec F S4096x2816 .bf16) (main_arg4 : FVec F S1x1024 .f32) (main_arg5 : FVec F S1024x2816 .f32) (main_arg6 : FVec F S1024x2816 .f32) : IVec S4096x1024 1 × IVec S4096x2816 1 × IVec S4096x2816 1 × IVec S1x1024 1 × IVec S1024x2816 1 × IVec S1024x2816 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2816 .f32 := (extf .f32 · bitsLt_bf16_f32) main_arg2
  let main_v4 : FVec F S4096x2816 .f32 := Host.absf main_v3
  let main_cst_0 : FVec F S_ .f32 := constant S_ .f32 0x7F800000#32
  let main_v5 : FVec F S4096x2816 .f32 := broadcastInDim S4096x2816 ![] bcast_S_S4096x2816 main_cst_0
  let main_v6 : IVec S4096x2816 1 := cmpf .olt main_v4 main_v5
  let main_v7 : FVec F S4096x2816 .f32 := (extf .f32 · bitsLt_bf16_f32) main_arg3
  let main_v8 : FVec F S4096x2816 .f32 := Host.absf main_v7
  let main_cst_1 : FVec F S_ .f32 := constant S_ .f32 0x7F800000#32
  let main_v9 : FVec F S4096x2816 .f32 := broadcastInDim S4096x2816 ![] bcast_S_S4096x2816 main_cst_1
  let main_v10 : IVec S4096x2816 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1024x2816 .f32 := Host.absf main_arg5
  let main_cst_3 : FVec F S_ .f32 := constant S_ .f32 0x7F800000#32
  let main_v15 : FVec F S1024x2816 .f32 := broadcastInDim S1024x2816 ![] bcast_S_S1024x2816 main_cst_3
  let main_v16 : IVec S1024x2816 1 := cmpf .olt main_v14 main_v15
  let main_v17 : FVec F S1024x2816 .f32 := Host.absf main_arg6
  let main_cst_4 : FVec F S_ .f32 := constant S_ .f32 0x7F800000#32
  fn_part1 (F := F) main_v2 main_v6 main_v10 main_v13 main_v16 main_v17 main_cst_4
-- ==== Pre_mix_in_finite.lean ====
abbrev S4096x3584 : Shape := ⟨2, ![4096, 3584]⟩
abbrev S4096x2048 : Shape := ⟨2, ![4096, 2048]⟩
abbrev S4096x1024 : Shape := ⟨2, ![4096, 1024]⟩
abbrev S1x1024 : Shape := ⟨2, ![1, 1024]⟩
abbrev S1024x3584 : Shape := ⟨2, ![1024, 3584]⟩
abbrev S1024x2048 : Shape := ⟨2, ![1024, 2048]⟩
abbrev S_ : Shape := ⟨0, ![]⟩

class Facts : Prop where
  bitsLt_bf16_f32 : FTy.bits .bf16 < FTy.bits .f32
  bcast_S_S4096x3584 : S_.BroadcastsInDim S4096x3584 (![] : Fin 0 → Fin S4096x3584.rank)
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3584 : S_.BroadcastsInDim S1024x3584 (![] : Fin 0 → Fin S1024x3584.rank)
  bcast_S_S1024x2048 : S_.BroadcastsInDim S1024x2048 (![] : Fin 0 → Fin S1024x2048.rank)

variable [Facts]

def fn_part1 {F : FTy → Type} [FloatOps F] (main_v3 : IVec S4096x3584 1) (main_v7 : IVec S4096x2048 1) (main_v10 : IVec S4096x1024 1) (main_v13 : IVec S1x1024 1) (main_v16 : IVec S1024x3584 1) (main_v17 : FVec F S1024x2048 .f32) (main_cst_4 : FVec F S_ .f32) : IVec S4096x3584 1 × IVec S4096x2048 1 × IVec S4096x1024 1 × IVec S1x1024 1 × IVec S1024x3584 1 × IVec S1024x2048 1 :=
  let main_v18 : FVec F S1024x2048 .f32 := broadcastInDim S1024x2048 ![] bcast_S_S1024x2048 main_cst_4
  let main_v19 : IVec S1024x2048 1 := cmpf .olt main_v17 main_v18
  (main_v3, main_v7, main_v10, main_v13, main_v16, main_v19)

def fn {F : FTy → Type} [FloatOps F] (main_arg0 : FVec F S4096x3584 .bf16) (main_arg1 : FVec F S4096x2048 .bf16) (main_arg2 : FVec F S4096x1024 .f32) (main_arg3 : FVec F S4096x1024 .f32) (main_arg4 : FVec F S1x1024 .f32) (main_arg5 : FVec F S1024x3584 .f32) (main_arg6 : FVec F S1024x2048 .f32) : IVec S4096x3584 1 × IVec S4096x2048 1 × IVec S4096x1024 1 × IVec S1x1024 1 × IVec S1024x3584 1 × IVec S1024x2048 1 :=
  let main_v0 : FVec F S4096x3584 .f32 := (extf .f32 · bitsLt_bf16_f32) main_arg0
  let main_v1 : FVec F S4096x3584 .f32 := Host.absf main_v0
  let main_cst : FVec F S_ .f32 := constant S_ .f32 0x7F800000#32
  let main_v2 : FVec F S4096x3584 .f32 := broadcastInDim S4096x3584 ![] bcast_S_S4096x3584 main_cst
  let main_v3 : IVec S4096x3584 1 := cmpf .olt main_v1 main_v2
  let main_v4 : FVec F S4096x2048 .f32 := (extf .f32 · bitsLt_bf16_f32) main_arg1
  let main_v5 : FVec F S4096x2048 .f32 := Host.absf main_v4
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S1024x3584 .f32 := Host.absf main_arg5
  let main_cst_3 : FVec F S_ .f32 := constant S_ .f32 0x7F800000#32
  let main_v15 : FVec F S1024x3584 .f32 := broadcastInDim S1024x3584 ![] bcast_S_S1024x3584 main_cst_3
  let main_v16 : IVec S1024x3584 1 := cmpf .olt main_v14 main_v15
  let main_v17 : FVec F S1024x2048 .f32 := Host.absf main_arg6
  let main_cst_4 : FVec F S_ .f32 := constant S_ .f32 0x7F800000#32
  fn_part1 (F := F) main_v3 main_v7 main_v10 main_v13 main_v16 main_v17 main_cst_4
-- ==== FfnIn.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S4096x4x704, .bf16⟩
  | .hbm, ⟨8, _⟩ => ⟨S4x4096x704, .bf16⟩
  | .hbm, ⟨9, _⟩ => ⟨S4096x4x704, .bf16⟩
  | .hbm, ⟨10, _⟩ => ⟨S4x4096x704, .bf16⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | .hbm, ⟨17, _⟩ => ⟨S4096x1024, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInRefIdeal.lean ====
abbrev S4096x1024 : Shape := ⟨2, ![4096, 1024]⟩
abbrev S4096x2816 : Shape := ⟨2, ![4096, 2816]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2816, .bf16⟩
  | .hbm, ⟨3, _⟩ => ⟨S4096x2816, .bf16⟩
  | .hbm, ⟨4, _⟩ => ⟨S1x1024, .f32⟩
  | .hbm, ⟨5, _⟩ => ⟨S1024x2816, .f32⟩
  | .hbm, ⟨6, _⟩ => ⟨S1024x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== MixIn.lean ====
abbrev S4096x3584 : Shape := ⟨2, ![4096, 3584]⟩
abbrev S4096x2048 : Shape := ⟨2, ![4096, 2048]⟩
abbrev S4096x1024 : Shape := ⟨2, ![4096, 1024]⟩
abbrev S1x1024 : Shape := ⟨2, ![1, 1024]⟩
abbrev S1024x3584 : Shape := ⟨2, ![1024, 3584]⟩
abbrev S1024x2048 : Shape := ⟨2, ![1024, 2048]⟩
abbrev S1024x4x896 : Shape := ⟨3, ![1024, 4, 896]⟩
abbrev S4x1024x896 : Shape := ⟨3, ![4, 1024, 896]⟩
abbrev S1024x4x512 : Shape := ⟨3, ![1024, 4, 512]⟩
abbrev S4x1024x512 : Shape := ⟨3, ![4, 1024, 512]⟩
abbrev S512x3584 : Shape := ⟨2, ![512, 3584]⟩
abbrev S512x2048 : Shape := ⟨2, ![512, 2048]⟩
abbrev S512x1024 : Shape := ⟨2, ![512, 1024]⟩
abbrev S512x896 : Shape := ⟨2, ![512, 896]⟩
abbrev S1x1024x896 : Shape := ⟨3, ![1, 1024, 896]⟩
abbrev S1024x896 : Shape := ⟨2, ![1024, 896]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 14
  | .smem => 0
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x3584, .f32⟩
  | .hbm, ⟨6, _⟩ => ⟨S1024x2048, .f32⟩
  | .hbm, ⟨7, _⟩ => ⟨S1024x4x896, .f32⟩
  | .hbm, ⟨8, _⟩ => ⟨S4x1024x896, .f32⟩
  | .hbm, ⟨9, _⟩ => ⟨S4x1024x896, .bf16⟩
  | .hbm, ⟨10, _⟩ => ⟨S1024x4x512, .f32⟩
  | .hbm, ⟨11, _⟩ => ⟨S4x1024x512, .f32⟩
  | .hbm, ⟨12, _⟩ => ⟨S4x1024x512, .bf16⟩
  | .hbm, ⟨13, _⟩ => ⟨S4096x1024, .f32⟩
  | .hbm, ⟨14, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4x1024x896, .bf16⟩
  | .local _ .vmem, ⟨10, _⟩ => ⟨S4x1024x512, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixInRefIdeal.lean ====
abbrev S4096x3584 : Shape := ⟨2, ![4096, 3584]⟩
abbrev S4096x2048 : Shape := ⟨2, ![4096, 2048]⟩
abbrev S4096x1024 : Shape := ⟨2, ![4096, 1024]⟩
abbrev S1x1024 : Shape := ⟨2, ![1, 1024]⟩
abbrev S1024x3584 : Shape := ⟨2, ![1024, 3584]⟩
abbrev S1024x2048 : Shape := ⟨2, ![1024, 2048]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x2048, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x3584, .f32⟩
  | .hbm, ⟨6, _⟩ => ⟨S1024x2048, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x3584, .f32⟩
  | .hbm, ⟨29, _⟩ => ⟨S4096x2048, .f32⟩
  | .hbm, ⟨30, _⟩ => ⟨S4096x3584, .f32⟩
  | .hbm, ⟨31, _⟩ => ⟨S4096x2048, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Acts.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 49
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S4x704x1024, .f32⟩
  | .hbm, ⟨44, _⟩ => ⟨S4x704x1024, .bf16⟩
  | .hbm, ⟨45, _⟩ => ⟨S4x4096x704, .bf16⟩
  | .hbm, ⟨46, _⟩ => ⟨S4x4096x704, .bf16⟩
  | .hbm, ⟨47, _⟩ => ⟨S4096x1024, .bf16⟩
  | .hbm, ⟨48, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x512x704, .bf16⟩
  | .local _ .vmem, ⟨5, _⟩ => ⟨S4x512x704, .bf16⟩
  | .local _ .vmem, ⟨6, _⟩ => ⟨S4x512x704, .bf16⟩
  | .local _ .vmem, ⟨7, _⟩ => ⟨S4x512x704, .bf16⟩
  | .local _ .vmem, ⟨8, _⟩ => ⟨S1x1024, .f32⟩
  | .local _ .vmem, ⟨9, _⟩ => ⟨S4x704x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27_0 : Ref sig .tc := ⟨.hbm, 45, rfl⟩
abbrev main_v27_1 : Ref sig .tc := ⟨.hbm, 46, rfl⟩
abbrev main_v27_2 : Ref sig .tc := ⟨.hbm, 47, rfl⟩
abbrev main_v27_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ActsRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩

abbrev nBuf : Space → Nat
  | .hbm => 151
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2816, .f32⟩
  | 4 => ⟨S1024x2816, .f32⟩
  | 5 => ⟨S2816x1024, .f32⟩
  | 6 => ⟨S1x1024, .f32⟩
  | 7 => ⟨S_, .f32⟩
  | 8 => ⟨S4096x2816, .f32⟩
  | 9 => ⟨S_, .f32⟩
  | 10 => ⟨S4096x1024, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x2816, .f32⟩
  | 33 => ⟨S4096x2816, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S4096x1024, .f32⟩
  | 52 => ⟨S1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S_, .f32⟩
  | 88 => ⟨S1024, .f32⟩
  | 89 => ⟨S4096x1024, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S1x1024, .f32⟩
  | 107 => ⟨S4096x2816, .f32⟩
  | 108 => ⟨S4096x2816, .f32⟩
  | 109 => ⟨S4096x2816, .f32⟩
  | 110 => ⟨S4096x1024, .f32⟩
  | 111 => ⟨S4096x2816, .f32⟩
  | 112 => ⟨S4096x2816, .f32⟩
  | 113 => ⟨S4096x2816, .f32⟩
  | 114 => ⟨S4096x2816, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S4096x4x704, .f32⟩
  | 17 => ⟨S4x4096x704, .f32⟩
  | 18 => ⟨S4x4096x704, .bf16⟩
  | 19 => ⟨S4096x4x704, .f32⟩
  | 20 => ⟨S4x4096x704, .f32⟩
  | 21 => ⟨S4x4096x704, .bf16⟩
  | 22 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩

abbrev nD : Nat := 1
abbrev τ : Topo := Topo.v7x

variable {F : FTy → Type} [FloatOps F]
-- ==== Ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩
abbrev S4x704x1024 : Shape := ⟨3, ![4, 704, 1024]⟩
abbrev S256x1024 : Shape := ⟨2, ![256, 1024]⟩
abbrev S4x256x704 : Shape := ⟨3, ![4, 256, 704]⟩
abbrev S256 : Shape := ⟨1, ![256]⟩
abbrev S256x1 : Shape := ⟨2, ![256, 1]⟩
abbrev S1x256x704 : Shape := ⟨3, ![1, 256, 704]⟩
abbrev S256x704 : Shape := ⟨2, ![256, 704]⟩
abbrev S1x704x1024 : Shape := ⟨3, ![1, 704, 1024]⟩
abbrev S704x1024 : Shape := ⟨2, ![704, 1024]⟩

abbrev nBuf : Space → Nat
  | .hbm => 58
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x4x704, .f32⟩
  | .hbm, ⟨38, _⟩ => ⟨S4x4096x704, .f32⟩
  | .hbm, ⟨39, _⟩ => ⟨S4x4096x704, .bf16⟩
  | .hbm, ⟨40, _⟩ => ⟨S4096x4x704, .f32⟩
  | .hbm, ⟨41, _⟩ => ⟨S4x4096x704, .f32⟩
  | .hbm, ⟨42, _⟩ => ⟨S4x4096x704, .bf16⟩
  | .hbm, ⟨43, _⟩ => ⟨S2816x1024, .f32⟩
  | .hbm, ⟨44, _⟩ => ⟨S4x704x1024, .f32⟩
  | .hbm, ⟨45, _⟩ => ⟨S4x704x1024, .bf16⟩
  | .hbm, ⟨46, _⟩ => ⟨S2816x1024, .f32⟩
  | .hbm, ⟨47, _⟩ => ⟨S4x704x1024, .f32⟩
  | .hbm, ⟨48, _⟩ => ⟨S4x704x1024, .bf16⟩
  | .hbm, ⟨49, _⟩ => ⟨S4x704x1024, .f32⟩
  | .hbm, ⟨50, _⟩ => ⟨S4x704x1024, .bf16⟩
  | .hbm, ⟨51, _⟩ => ⟨S4096x1024, .f32⟩
  | .hbm, ⟨52, _⟩ => ⟨S4096x1024, .bf16⟩
  | .hbm, ⟨53, _⟩ => ⟨S4x4096x704, .bf16⟩
  | .hbm, ⟨54, _⟩ => ⟨S4x4096x704, .bf16⟩
  | .hbm, ⟨55, _⟩ => ⟨S4096x1024, .bf16⟩
  | .hbm, ⟨56, _⟩ => ⟨S1x1024, .f32⟩
  | .hbm, ⟨57, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x256x704, .bf16⟩
  | .local _ .vmem, ⟨10, _⟩ => ⟨S1x1024, .f32⟩
  | .local _ .vmem, ⟨11, _⟩ => ⟨S1x1024, .f32⟩
  | .local _ .vmem, ⟨12, _⟩ => ⟨S4x704x1024, .bf16⟩
  | .local _ .vmem, ⟨13, _⟩ => ⟨S4x704x1024, .bf16⟩
  | .local _ .vmem, ⟨14, _⟩ => ⟨S4x704x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_v33_3 : Ref sig .tc := ⟨.hbm, 54, rfl⟩
abbrev main_v33_4 : Ref sig .tc := ⟨.hbm, 55, rfl⟩
abbrev main_v33_5 : Ref sig .tc := ⟨.hbm, 56, rfl⟩
abbrev main_v33_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x704x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x704x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== FfnRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1024 : Shape := ⟨1, ![1024]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩

abbrev nBuf : Space → Nat
  | .hbm => 169
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2816, .f32⟩
  | 4 => ⟨S1024x2816, .f32⟩
  | 5 => ⟨S2816x1024, .f32⟩
  | 6 => ⟨S1x1024, .f32⟩
  | 7 => ⟨S_, .f32⟩
  | 8 => ⟨S4096x2816, .f32⟩
  | 9 => ⟨S_, .f32⟩
  | 10 => ⟨S4096x1024, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1024, .f32⟩
  | 28 => ⟨S4096x1024, .f32⟩
  | 29 => ⟨S1x1024, .f32⟩
  | 30 => ⟨S4096x1024, .f32⟩
  | 31 => ⟨S4096x1024, .f32⟩
  | 32 => ⟨S4096x2816, .f32⟩
  | 33 => ⟨S4096x2816, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S4096x2816, .f32⟩
  | 47 => ⟨S4096x2816, .f32⟩
  | 48 => ⟨S4096x2816, .f32⟩
  | 49 => ⟨S4096x2816, .f32⟩
  | 50 => ⟨S4096x1024, .f32⟩
  | 51 => ⟨S4096x1024, .f32⟩
  | 52 => ⟨S1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S1x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S4096x1024, .f32⟩
  | 82 => ⟨S_, .f32⟩
  | 83 => ⟨S1024, .f32⟩
  | 84 => ⟨S1x1024, .f32⟩
  | 85 => ⟨S4096x1024, .f32⟩
  | 86 => ⟨S4096x1024, .f32⟩
  | 87 => ⟨S_, .f32⟩
  | 88 => ⟨S1024, .f32⟩
  | 89 => ⟨S4096x1024, .f32⟩
  | 90 => ⟨S_, .f32⟩
  | 91 => ⟨S4096, .f32⟩
  | 92 => ⟨S4096x1, .f32⟩
  | 93 => ⟨S4096x1024, .f32⟩
  | 94 => ⟨S4096x1024, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S1x1024, .f32⟩
  | 107 => ⟨S4096x2816, .f32⟩
  | 108 => ⟨S4096x2816, .f32⟩
  | 109 => ⟨S4096x2816, .f32⟩
  | 110 => ⟨S4096x1024, .f32⟩
  | 111 => ⟨S4096x2816, .f32⟩
  | 112 => ⟨S4096x2816, .f32⟩
  | 113 => ⟨S4096x2816, .f32⟩
  | 114 => ⟨S4096x2816, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S4096x1024, .f32⟩
  | 122 => ⟨S4096x1024, .f32⟩
  | 123 => ⟨S_, .f32⟩
  | 124 => ⟨S1024, .f32⟩
  | 125 => ⟨S4096x1024, .f32⟩
  | 126 => ⟨S_, .f32⟩
  | 127 => ⟨S4096, .f32⟩
  | _ => ⟨S4096x1024, .f32⟩

abbrev hbmTy0_1 (i : Nat) : BufTy := match i % 128 with
  | 0 => ⟨S4096x1, .f32⟩
  | 1 => ⟨S4096x1024, .f32⟩
  | 2 => ⟨S4096x1024, .f32⟩
  | 3 => ⟨S4096x1024, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S1x1024, .f32⟩
  | 16 => ⟨S4096x4x704, .f32⟩
  | 17 => ⟨S4x4096x704, .f32⟩
  | 18 => ⟨S4x4096x704, .bf16⟩
  | 19 => ⟨S4096x4x704, .f32⟩
  | 20 => ⟨S4x4096x704, .f32⟩
  | 21 => ⟨S4x4096x704, .bf16⟩
  | 22 => ⟨S4096x1024, .bf16⟩
  | 23 => ⟨S1024, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1, .f32⟩
  | 35 => ⟨S4096x1024, .f32⟩
  | 36 => ⟨S4096x1024, .f32⟩
  | 37 => ⟨S1x1024, .f32⟩
  | 38 => ⟨S4096x1024, .f32⟩
  | 39 => ⟨S4096x1024, .f32⟩
  | 40 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_cst_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_14 : Ref sig .tc := ⟨.hbm, 96, rfl⟩
abbrev main_v62 : Ref sig .tc := ⟨.hbm, 97, rfl⟩
abbrev main_v63 : Ref sig .tc := ⟨.hbm, 98, rfl⟩
abbrev main_cst_15 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_16 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_19 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_21 : Ref sig .tc := ⟨.hbm, 153, rfl⟩
abbrev main_v109 : Ref sig .tc := ⟨.hbm, 154, rfl⟩
abbrev main_v110 : Ref sig .tc := ⟨.hbm, 155, rfl⟩
abbrev main_cst_22 : Ref sig .tc := ⟨.hbm, 156, rfl⟩
abbrev main_v111 : Ref sig .tc := ⟨.hbm, 157, rfl⟩
abbrev main_v112 : Ref sig .tc := ⟨.hbm, 158, rfl⟩
abbrev main_cst_23 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩

abbrev nD : Nat := 1
abbrev τ : Topo := Topo.v7x

variable {F : FTy → Type} [FloatOps F]
-- ==== Attn.lean ====
abbrev S4096x1024 : Shape := ⟨2, ![4096, 1024]⟩
abbrev S4096x256 : Shape := ⟨2, ![4096, 256]⟩
abbrev S16 : Shape := ⟨1, ![16]⟩
abbrev S16x64x192 : Shape := ⟨3, ![16, 64, 192]⟩
abbrev S4x4x64x192 : Shape := ⟨4, ![4, 4, 64, 192]⟩
abbrev S4x192x4x64 : Shape := ⟨4, ![4, 192, 4, 64]⟩
abbrev S_ : Shape := ⟨0, ![]⟩
abbrev S768x256 : Shape := ⟨2, ![768, 256]⟩
abbrev S4x4 : Shape := ⟨2, ![4, 4]⟩
abbrev S4x4x64 : Shape := ⟨3, ![4, 4, 64]⟩
abbrev S4x256 : Shape := ⟨2, ![4, 256]⟩
abbrev S8x256 : Shape := ⟨2, ![8, 256]⟩
abbrev S768 : Shape := ⟨1, ![768]⟩
abbrev S768x1 : Shape := ⟨2, ![768, 1]⟩
abbrev S256 : Shape := ⟨1, ![256]⟩
abbrev S1x256 : Shape := ⟨2, ![1, 256]⟩
abbrev S4224x256 : Shape := ⟨2, ![4224, 256]⟩
abbrev S512x1024 : Shape := ⟨2, ![512, 1024]⟩
abbrev S192x256 : Shape := ⟨2, ![192, 256]⟩
abbrev S64x1024 : Shape := ⟨2, ![64, 1024]⟩
abbrev S64x64 : Shape := ⟨2, ![64, 64]⟩
abbrev S64x256 : Shape := ⟨2, ![64, 256]⟩
abbrev S256x256 : Shape := ⟨2, ![256, 256]⟩
abbrev S192x1 : Shape := ⟨2, ![192, 1]⟩

abbrev nBuf : Space → Nat
  | .hbm => 97
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S16, .f32⟩
  | .hbm, ⟨4, _⟩ => ⟨S16x64x192, .f32⟩
  | .hbm, ⟨5, _⟩ => ⟨S4x4x64x192, .f32⟩
  | .hbm, ⟨6, _⟩ => ⟨S4x192x4x64, .f32⟩
  | .hbm, ⟨7, _⟩ => ⟨S_, .i32⟩
  | .hbm, ⟨8, _⟩ => ⟨S_, .f32⟩
  | .hbm, ⟨9, _⟩ => ⟨S4x192x4x64, .f32⟩
  | .hbm, ⟨10, _⟩ => ⟨S768x256, .f32⟩
  | .hbm, ⟨11, _⟩ => ⟨S4x4, .f32⟩
  | .hbm, ⟨12, _⟩ => ⟨S4x4x64, .f32⟩
  | .hbm, ⟨13, _⟩ => ⟨S4x256, .f32⟩
  | .hbm, ⟨14, _⟩ => ⟨S_, .i32⟩
  | .hbm, ⟨15, _⟩ => ⟨S_, .f32⟩
  | .hbm, ⟨16, _⟩ => ⟨S8x256, .f32⟩
  | .hbm, ⟨17, _⟩ => ⟨S768, .i32⟩
  | .hbm, ⟨18, _⟩ => ⟨S768x1, .i32⟩
  | .hbm, ⟨19, _⟩ => ⟨S_, .i32⟩
  | .hbm, ⟨20, _⟩ => ⟨S_, .i32⟩
  | .hbm, ⟨21, _⟩ => ⟨S768x1, .i32⟩
  | .hbm, ⟨22, _⟩ => ⟨S768x1, .i32⟩
  | .hbm, ⟨23, _⟩ => ⟨S768x1, .i32⟩
  | .hbm, ⟨24, _⟩ => ⟨S_, .i32⟩
  | .hbm, ⟨25, _⟩ => ⟨S768x1, .i32⟩
  | .hbm, ⟨26, _⟩ => ⟨S768x1, .i1⟩
  | .hbm, ⟨27, _⟩ => ⟨S768x1, .i32⟩
  | .hbm, ⟨28, _⟩ => ⟨S768x1, .i32⟩
  | .hbm, ⟨29, _⟩ => ⟨S_, .i32⟩
  | .hbm, ⟨30, _⟩ => ⟨S768x1, .i32⟩
  | .hbm, ⟨31, _⟩ => ⟨S768x1, .i1⟩
  | .hbm, ⟨32, _⟩ => ⟨S768x1, .i1⟩
  | .hbm, ⟨33, _⟩ => ⟨S_, .i32⟩
  | .hbm, ⟨34, _⟩ => ⟨S768x1, .i32⟩
  | .hbm, ⟨35, _⟩ => ⟨S768x1, .i32⟩
  | .hbm, ⟨36, _⟩ => ⟨S768x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i32⟩
  | .hbm, ⟨48, _⟩ => ⟨S1x256, .i32⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x256, .i1⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S1x256, .i32⟩
  | .hbm, ⟨57, _⟩ => ⟨S768x256, .i32⟩
  | .hbm, ⟨58, _⟩ => ⟨S768x256, .i32⟩
  | .hbm, ⟨59, _⟩ => ⟨S768x256, .i1⟩
  | .hbm, ⟨60, _⟩ => ⟨S768, .i32⟩
  | .hbm, ⟨61, _⟩ => ⟨S768x1, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S768x1, .i32⟩
  | .hbm, ⟨69, _⟩ => ⟨S768x1, .i32⟩
  | .hbm, ⟨70, _⟩ => ⟨S_, .i32⟩
  | .hbm, ⟨71, _⟩ => ⟨S768x1, .i32⟩
  | .hbm, ⟨72, _⟩ => ⟨S768x1, .i1⟩
  | .hbm, ⟨73, _⟩ => ⟨S_, .i32⟩
  | .hbm, ⟨74, _⟩ => ⟨S768x1, .i32⟩
  | .hbm, ⟨75, _⟩ => ⟨S768x1, .i1⟩
  | .hbm, ⟨76, _⟩ => ⟨S_, .i32⟩
  | .hbm, ⟨77, _⟩ => ⟨S_, .i1⟩
  | .hbm, ⟨78, _⟩ => ⟨S768x1, .i1⟩
  | .hbm, ⟨79, _⟩ => ⟨S768x1, .i1⟩
  | .hbm, ⟨80, _⟩ => ⟨S768x1, .i1⟩
  | .hbm, ⟨81, _⟩ => ⟨S768x1, .i32⟩
  | .hbm, ⟨82, _⟩ => ⟨S768x1, .i32⟩
  | .hbm, ⟨83, _⟩ => ⟨S768x1, .i32⟩
  | .hbm, ⟨84, _⟩ => ⟨S_, .i32⟩
  | .hbm, ⟨85, _⟩ => ⟨S768x1, .i32⟩
  | .hbm, ⟨86, _⟩ => ⟨S768x1, .i1⟩
  | .hbm, ⟨87, _⟩ => ⟨S768x256, .i1⟩
  | .hbm, ⟨88, _⟩ => ⟨S768x256, .i1⟩
  | .hbm, ⟨89, _⟩ => ⟨S768x256, .bf16⟩
  | .hbm, ⟨90, _⟩ => ⟨S_, .i32⟩
  | .hbm, ⟨91, _⟩ => ⟨S_, .bf16⟩
  | .hbm, ⟨92, _⟩ => ⟨S4224x256, .bf16⟩
  | .hbm, ⟨93, _⟩ => ⟨S_, .i32⟩
  | .hbm, ⟨94, _⟩ => ⟨S_, .bf16⟩
  | .hbm, ⟨95, _⟩ => ⟨S4224x256, .bf16⟩
  | .hbm, ⟨96, _⟩ => ⟨S4096x1024, .bf16⟩
  | .local _ .vmem, ⟨0, _⟩ => ⟨S8x256, .f32⟩
  | .local _ .vmem, ⟨1, _⟩ => ⟨S512x1024, .bf16⟩
  | .local _ .vmem, ⟨2, _⟩ => ⟨S512x1024, .bf16⟩
  | .local _ .vmem, ⟨3, _⟩ => ⟨S4224x256, .bf16⟩
  | .local _ .vmem, ⟨4, _⟩ => ⟨S4224x256, .bf16⟩
  | .local _ .vmem, ⟨5, _⟩ => ⟨S768x256, .f32⟩
  | .local _ .vmem, ⟨6, _⟩ => ⟨S768x256, .bf16⟩
  | .local _ .vmem, ⟨7, _⟩ => ⟨S512x1024, .bf16⟩
  | .local _ .vmem, ⟨8, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_c : Ref sig .tc := ⟨.hbm, 29, rfl⟩
abbrev main_call2_v9 : Ref sig .tc := ⟨.hbm, 30, rfl⟩
abbrev main_call2_v10 : Ref sig .tc := ⟨.hbm, 31, rfl⟩
abbrev main_call2_v11 : Ref sig .tc := ⟨.hbm, 32, rfl⟩
abbrev main_call2_c_0 : Ref sig .tc := ⟨.hbm, 33, rfl⟩
abbrev main_call2_v12 : Ref sig .tc := ⟨.hbm, 34, rfl⟩
abbrev main_call2_v13 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_call3_v0 : Ref sig .tc := ⟨.hbm, 40, rfl⟩
abbrev main_call3_v1 : Ref sig .tc := ⟨.hbm, 41, rfl⟩
abbrev main_call3_v2 : Ref sig .tc := ⟨.hbm, 42, rfl⟩
abbrev main_call3_v3 : Ref sig .tc := ⟨.hbm, 43, rfl⟩
abbrev main_call3_v4 : Ref sig .tc := ⟨.hbm, 44, rfl⟩
abbrev main_call3_v5 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_c : Ref sig .tc := ⟨.hbm, 49, rfl⟩
abbrev main_call3_v9 : Ref sig .tc := ⟨.hbm, 50, rfl⟩
abbrev main_call3_v10 : Ref sig .tc := ⟨.hbm, 51, rfl⟩
abbrev main_call3_v11 : Ref sig .tc := ⟨.hbm, 52, rfl⟩
abbrev main_call3_c_0 : Ref sig .tc := ⟨.hbm, 53, rfl⟩
abbrev main_call3_v12 : Ref sig .tc := ⟨.hbm, 54, rfl⟩
abbrev main_call3_v13 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_c_3 : Ref sig .tc := ⟨.hbm, 62, rfl⟩
abbrev main_call4_v0 : Ref sig .tc := ⟨.hbm, 63, rfl⟩
abbrev main_call4_c : Ref sig .tc := ⟨.hbm, 64, rfl⟩
abbrev main_call4_v1 : Ref sig .tc := ⟨.hbm, 65, rfl⟩
abbrev main_call4_c_0 : Ref sig .tc := ⟨.hbm, 66, rfl⟩
abbrev main_call4_v2 : Ref sig .tc := ⟨.hbm, 67, rfl⟩
abbrev main_call4_v3 : Ref sig .tc := ⟨.hbm, 68, rfl⟩
abbrev main_call4_v4 : Ref sig .tc := ⟨.hbm, 69, rfl⟩
abbrev main_call4_c_1 : Ref sig .tc := ⟨.hbm, 70, rfl⟩
abbrev main_call4_v5 : Ref sig .tc := ⟨.hbm, 71, rfl⟩
abbrev main_call4_v6 : Ref sig .tc := ⟨.hbm, 72, rfl⟩
abbrev main_call4_c_2 : Ref sig .tc := ⟨.hbm, 73, rfl⟩
abbrev main_call4_v7 : Ref sig .tc := ⟨.hbm, 74, rfl⟩
abbrev main_call4_v8 : Ref sig .tc := ⟨.hbm, 75, rfl⟩
abbrev main_call4_c_3 : Ref sig .tc := ⟨.hbm, 76, rfl⟩
abbrev main_call4_v9 : Ref sig .tc := ⟨.hbm, 77, rfl⟩
abbrev main_call4_v10 : Ref sig .tc := ⟨.hbm, 78, rfl⟩
abbrev main_call4_v11 : Ref sig .tc := ⟨.hbm, 79, rfl⟩
abbrev main_call4_v12 : Ref sig .tc := ⟨.hbm, 80, rfl⟩
abbrev main_call4_v13 : Ref sig .tc := ⟨.hbm, 81, rfl⟩
abbrev main_call4_v14 : Ref sig .tc := ⟨.hbm, 82, rfl⟩
abbrev main_v19 : Ref sig .tc := ⟨.hbm, 83, rfl⟩
abbrev main_c_4 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_c_5 : Ref sig .tc := ⟨.hbm, 90, rfl⟩
abbrev main_call5_v0 : Ref sig .tc := ⟨.hbm, 91, rfl⟩
abbrev main_v25 : Ref sig .tc := ⟨.hbm, 92, rfl⟩
abbrev main_c_6 : Ref sig .tc := ⟨.hbm, 93, rfl⟩
abbrev main_call6_v0 : Ref sig .tc := ⟨.hbm, 94, rfl⟩
abbrev main_v26 : Ref sig .tc := ⟨.hbm, 95, rfl⟩
abbrev main_v27 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c8_i32 : BitVec 32 := 8#32
  let v8 : BitVec 32 := Scalar.muli arg0 c8_i32
  let c0_i32 : BitVec 32 := 0#32
  let v9 : BitVec 32 := Scalar.addi v8 c0_i32
  let c64_i32 : BitVec 32 := 64#32
  let v10 : BitVec 32 := Scalar.muli v9 c64_i32
  v10
def k0_off1 (i : grid0.Coords) (c0_i32 : BitVec 32) : Fin 2 → Nat :=
  let arg0 : BitVec 32 := BitVec.ofNat 32 (i 0).val
  let c8_i32 : BitVec 32 := 8#32
  let v8 : BitVec 32 := Scalar.muli arg0 c8_i32
  let v9 : BitVec 32 := Scalar.addi v8 c0_i32
  let c64_i32 : BitVec 32 := 64#32
  let v10 : BitVec 32 := Scalar.muli v9 c64_i32
  let v11 : BitVec 32 := v10
  let v12 : Index := Scalar.indexCast v11
  let c0_4 : Index := 0#32
  ![v12.toNat, 0]
def k0_mult2 (i : grid0.Coords) : BitVec 32 :=
  let arg0 : BitVec 32 := BitVec.ofNat 32 (i 0).val
  let c8_i32_52 : BitVec 32 := 8#32
  let v194 : BitVec 32 := Scalar.muli arg0 c8_i32_52
  let c1_i32 : BitVec 32 := 1#32
  let v195 : BitVec 32 := Scalar.addi v194 c1_i32
  let c64_i32_53 : BitVec 32 := 64#32
  let v196 : BitVec 32 := Scalar.muli v195 c64_i32_53
  v196
def k0_mult3 (i : grid0.Coords) : BitVec 32 :=
  let arg0 : BitVec 32 := BitVec.ofNat 32 (i 0).val
  let c8_i32_106 : BitVec 32 := 8#32
  let v380 : BitVec 32 := Scalar.muli arg0 c8_i32_106
  let c2_i32 : BitVec 32 := 2#32
  let v381 : BitVec 32 := Scalar.addi v380 c2_i32
  let c64_i32_107 : BitVec 32 := 64#32
  let v382 : BitVec 32 := Scalar.muli v381 c64_i32_107
  v382
def k0_mult4 (i : grid0.Coords) : BitVec 32 :=
  let arg0 : BitVec 32 := BitVec.ofNat 32 (i 0).val
  let c8_i32_160 : BitVec 32 := 8#32
  let v566 : BitVec 32 := Scalar.muli arg0 c8_i32_160
  let c3_i32 : BitVec 32 := 3#32
  let v567 : BitVec 32 := Scalar.addi v566 c3_i32
  let c64_i32_161 : BitVec 32 := 64#32
  let v568 : BitVec 32 := Scalar.muli v567 c64_i32_161
  v568
def k0_mult5 (i : grid0.Coords) : BitVec 32 :=
  let arg0 : BitVec 32 := BitVec.ofNat 32 (i 0).val
  let c8_i32_215 : BitVec 32 := 8#32
  let v752 : BitVec 32 := Scalar.muli arg0 c8_i32_215
  let c4_i32 : BitVec 32 := 4#32
  let v753 : BitVec 32 := Scalar.addi v752 c4_i32
  let c64_i32_216 : BitVec 32 := 64#32
  let v754 : BitVec 32 := Scalar.muli v753 c64_i32_216
  v754
def k0_mult6 (i : grid0.Coords) : BitVec 32 :=
  let arg0 : BitVec 32 := BitVec.ofNat 32 (i 0).val
  let c8_i32_269 : BitVec 32 := 8#32
  let v938 : BitVec 32 := Scalar.muli arg0 c8_i32_269
  let c5_i32 : BitVec 32 := 5#32
  let v939 : BitVec 32 := Scalar.addi v938 c5_i32
  let c64_i32_270 : BitVec 32 := 64#32
  let v940 : BitVec 32 := Scalar.muli v939 c64_i32_270
  v940
def k0_mult7 (i : grid0.Coords) : BitVec 32 :=
  let arg0 : BitVec 32 := BitVec.ofNat 32 (i 0).val
  let c8_i32_323 : BitVec 32 := 8#32
  let v1124 : BitVec 32 := Scalar.muli arg0 c8_i32_323
  let c6_i32 : BitVec 32 := 6#32
  let v1125 : BitVec 32 := Scalar.addi v1124 c6_i32
  let c64_i32_324 : BitVec 32 := 64#32
  let v1126 : BitVec 32 := Scalar.muli v1125 c64_i32_324
  v1126
def k0_mult8 (i : grid0.Coords) : BitVec 32 :=
  let arg0 : BitVec 32 := BitVec.ofNat 32 (i 0).val
  let c8_i32_378 : BitVec 32 := 8#32
  let v1310 : BitVec 32 := Scalar.muli arg0 c8_i32_378
  let c7_i32 : BitVec 32 := 7#32
  let v1311 : BitVec 32 := Scalar.addi v1310 c7_i32
  let c64_i32_379 : BitVec 32 := 64#32
  let v1312 : BitVec 32 := Scalar.muli v1311 c64_i32_379
  v1312
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4224x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4224x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnRefIdeal.lean ====
abbrev S4096x1024 : Shape := ⟨2, ![4096, 1024]⟩
abbrev S4096x256 : Shape := ⟨2, ![4096, 256]⟩
abbrev S16 : Shape := ⟨1, ![16]⟩
abbrev S16x64x192 : Shape := ⟨3, ![16, 64, 192]⟩
abbrev S4x4x1 : Shape := ⟨3, ![4, 4, 1]⟩
abbrev S4x4x64 : Shape := ⟨3, ![4, 4, 64]⟩
abbrev S64x64x4x4x64 : Shape := ⟨5, ![64, 64, 4, 4, 64]⟩
abbrev S_ : Shape := ⟨0, ![]⟩
abbrev S128x256 : Shape := ⟨2, ![128, 256]⟩
abbrev S4224x256 : Shape := ⟨2, ![4224, 256]⟩
abbrev S66x64x4x64 : Shape := ⟨4, ![66, 64, 4, 64]⟩
abbrev S64x64x4x64 : Shape := ⟨4, ![64, 64, 4, 64]⟩
abbrev S64x192x4x64 : Shape := ⟨4, ![64, 192, 4, 64]⟩
abbrev S64x4x192x64x4 : Shape := ⟨5, ![64, 4, 192, 64, 4]⟩
abbrev S64x4x4x64x192 : Shape := ⟨5, ![64, 4, 4, 64, 192]⟩
abbrev S4x4x64x192 : Shape := ⟨4, ![4, 4, 64, 192]⟩
abbrev S1x4x4x64x192 : Shape := ⟨5, ![1, 4, 4, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S64x1x1x1x192 : Shape := ⟨5, ![64, 1, 1, 1, 192]⟩
abbrev S1x4x4x64x1 : Shape := ⟨5, ![1, 4, 4, 64, 1]⟩
abbrev S64x4x4x64x1 : Shape := ⟨5, ![64, 4, 4, 64, 1]⟩
abbrev S64x4x4x64x193 : Shape := ⟨5, ![64, 4, 4, 64, 193]⟩
abbrev S64x4x4x64 : Shape := ⟨4, ![64, 4, 4, 64]⟩
abbrev S64x4x64x4x64 : Shape := ⟨5, ![64, 4, 64, 4, 64]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S16, .f32⟩
  | .hbm, ⟨4, _⟩ => ⟨S16x64x192, .f32⟩
  | .hbm, ⟨5, _⟩ => ⟨S4096x1024, .f32⟩
  | .hbm, ⟨6, _⟩ => ⟨S4096x256, .f32⟩
  | .hbm, ⟨7, _⟩ => ⟨S4096x256, .f32⟩
  | .hbm, ⟨8, _⟩ => ⟨S4x4x1, .f32⟩
  | .hbm, ⟨9, _⟩ => ⟨S4x4x64, .f32⟩
  | .hbm, ⟨10, _⟩ => ⟨S64x64x4x4x64, .f32⟩
  | .hbm, ⟨11, _⟩ => ⟨S_, .f32⟩
  | .hbm, ⟨12, _⟩ => ⟨S128x256, .f32⟩
  | .hbm, ⟨13, _⟩ => ⟨S4224x256, .f32⟩
  | .hbm, ⟨14, _⟩ => ⟨S66x64x4x64, .f32⟩
  | .hbm, ⟨15, _⟩ => ⟨S4224x256, .f32⟩
  | .hbm, ⟨16, _⟩ => ⟨S66x64x4x64, .f32⟩
  | .hbm, ⟨17, _⟩ => ⟨S64x64x4x64, .f32⟩
  | .hbm, ⟨18, _⟩ => ⟨S64x64x4x64, .f32⟩
  | .hbm, ⟨19, _⟩ => ⟨S64x64x4x64, .f32⟩
  | .hbm, ⟨20, _⟩ => ⟨S64x192x4x64, .f32⟩
  | .hbm, ⟨21, _⟩ => ⟨S64x64x4x64, .f32⟩
  | .hbm, ⟨22, _⟩ => ⟨S64x64x4x64, .f32⟩
  | .hbm, ⟨23, _⟩ => ⟨S64x64x4x64, .f32⟩
  | .hbm, ⟨24, _⟩ => ⟨S64x192x4x64, .f32⟩
  | .hbm, ⟨25, _⟩ => ⟨S64x4x192x64x4, .f32⟩
  | .hbm, ⟨26, _⟩ => ⟨S64x4x4x64x192, .f32⟩
  | .hbm, ⟨27, _⟩ => ⟨S_, .f32⟩
  | .hbm, ⟨28, _⟩ => ⟨S64x4x4x64x192, .f32⟩
  | .hbm, ⟨29, _⟩ => ⟨S64x4x4x64x192, .f32⟩
  | .hbm, ⟨30, _⟩ => ⟨S4x4x64x192, .f32⟩
  | .hbm, ⟨31, _⟩ => ⟨S1x4x4x64x192, .f32⟩
  | .hbm, ⟨32, _⟩ => ⟨S64x4x4x64x192, .f32⟩
  | .hbm, ⟨33, _⟩ => ⟨S64x4x4x64x192, .f32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S192, .i32⟩
  | .hbm, ⟨40, _⟩ => ⟨S1x192, .i32⟩
  | .hbm, ⟨41, _⟩ => ⟨S_, .i32⟩
  | .hbm, ⟨42, _⟩ => ⟨S_, .i32⟩
  | .hbm, ⟨43, _⟩ => ⟨S1x192, .i32⟩
  | .hbm, ⟨44, _⟩ => ⟨S1x192, .i32⟩
  | .hbm, ⟨45, _⟩ => ⟨S1x192, .i32⟩
  | .hbm, ⟨46, _⟩ => ⟨S_, .i32⟩
  | .hbm, ⟨47, _⟩ => ⟨S1x192, .i32⟩
  | .hbm, ⟨48, _⟩ => ⟨S1x192, .i1⟩
  | .hbm, ⟨49, _⟩ => ⟨S1x192, .i32⟩
  | .hbm, ⟨50, _⟩ => ⟨S1x192, .i32⟩
  | .hbm, ⟨51, _⟩ => ⟨S_, .i32⟩
  | .hbm, ⟨52, _⟩ => ⟨S1x192, .i32⟩
  | .hbm, ⟨53, _⟩ => ⟨S1x192, .i1⟩
  | .hbm, ⟨54, _⟩ => ⟨S1x192, .i1⟩
  | .hbm, ⟨55, _⟩ => ⟨S_, .i32⟩
  | .hbm, ⟨56, _⟩ => ⟨S1x192, .i32⟩
  | .hbm, ⟨57, _⟩ => ⟨S1x192, .i32⟩
  | .hbm, ⟨58, _⟩ => ⟨S1x192, .i32⟩
  | .hbm, ⟨59, _⟩ => ⟨S64x192, .i32⟩
  | .hbm, ⟨60, _⟩ => ⟨S64x192, .i32⟩
  | .hbm, ⟨61, _⟩ => ⟨S64x192, .i32⟩
  | .hbm, ⟨62, _⟩ => ⟨S_, .i32⟩
  | .hbm, ⟨63, _⟩ => ⟨S64x192, .i32⟩
  | .hbm, ⟨64, _⟩ => ⟨S64x192, .i1⟩
  | .hbm, ⟨65, _⟩ => ⟨S64x1x1x1x192, .i1⟩
  | .hbm, ⟨66, _⟩ => ⟨S_, .f32⟩
  | .hbm, ⟨67, _⟩ => ⟨S_, .f32⟩
  | .hbm, ⟨68, _⟩ => ⟨S64x4x4x64x192, .i1⟩
  | .hbm, ⟨69, _⟩ => ⟨S64x4x4x64x192, .f32⟩
  | .hbm, ⟨70, _⟩ => ⟨S64x4x4x64x192, .f32⟩
  | .hbm, ⟨71, _⟩ => ⟨S1x4x4x64x1, .f32⟩
  | .hbm, ⟨72, _⟩ => ⟨S64x4x4x64x1, .f32⟩
  | .hbm, ⟨73, _⟩ => ⟨S64x4x4x64x193, .f32⟩
  | .hbm, ⟨74, _⟩ => ⟨S_, .f32⟩
  | .hbm, ⟨75, _⟩ => ⟨S64x4x4x64, .f32⟩
  | .hbm, ⟨76, _⟩ => ⟨S_, .f32⟩
  | .hbm, ⟨77, _⟩ => ⟨S64x4x4x64, .f32⟩
  | .hbm, ⟨78, _⟩ => ⟨S64x4x4x64, .f32⟩
  | .hbm, ⟨79, _⟩ => ⟨S64x4x4x64x1, .f32⟩
  | .hbm, ⟨80, _⟩ => ⟨S64x4x4x64x193, .f32⟩
  | .hbm, ⟨81, _⟩ => ⟨S64x4x4x64x193, .f32⟩
  | .hbm, ⟨82, _⟩ => ⟨S64x4x4x64x193, .f32⟩
  | .hbm, ⟨83, _⟩ => ⟨S_, .f32⟩
  | .hbm, ⟨84, _⟩ => ⟨S64x4x4x64, .f32⟩
  | .hbm, ⟨85, _⟩ => ⟨S64x4x4x64x1, .f32⟩
  | .hbm, ⟨86, _⟩ => ⟨S64x4x4x64x193, .f32⟩
  | .hbm, ⟨87, _⟩ => ⟨S64x4x4x64x193, .f32⟩
  | .hbm, ⟨88, _⟩ => ⟨S64x4x4x64x192, .f32⟩
  | .hbm, ⟨89, _⟩ => ⟨S64x4x64x4x64, .f32⟩
  | .hbm, ⟨90, _⟩ => ⟨S64x64x4x4x64, .f32⟩
  | .hbm, ⟨91, _⟩ => ⟨S4096x1024, .f32⟩
  | .hbm, ⟨92, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_2 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Bias.lean ====
abbrev S16x64x192 : Shape := ⟨3, ![16, 64, 192]⟩
abbrev S4x4x64 : Shape := ⟨3, ![4, 4, 64]⟩
abbrev S4x256 : Shape := ⟨2, ![4, 256]⟩
abbrev S_ : Shape := ⟨0, ![]⟩
abbrev S8x256 : Shape := ⟨2, ![8, 256]⟩
abbrev S16x12288 : Shape := ⟨2, ![16, 12288]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S1x12288 : Shape := ⟨2, ![1, 12288]⟩
abbrev S32 : Shape := ⟨1, ![32]⟩
abbrev S32x1 : Shape := ⟨2, ![32, 1]⟩
abbrev S32x12288 : Shape := ⟨2, ![32, 12288]⟩
abbrev S16x32 : Shape := ⟨2, ![16, 32]⟩
abbrev S8x128 : Shape := ⟨2, ![8, 128]⟩
abbrev S8x64 : Shape := ⟨2, ![8, 64]⟩
abbrev S8 : Shape := ⟨1, ![8]⟩
abbrev S8x1 : Shape := ⟨2, ![8, 1]⟩

abbrev nBuf : Space → Nat
  | .hbm => 62
  | .vmem => 5
  | .smem => 0
  | _ => 0

abbrev bufTy : (tb : Table) → Fin (tcTables nBuf tb) → BufTy
  | .hbm, ⟨0, _⟩ => ⟨S16x64x192, .f32⟩
  | .hbm, ⟨1, _⟩ => ⟨S4x4x64, .f32⟩
  | .hbm, ⟨2, _⟩ => ⟨S4x256, .f32⟩
  | .hbm, ⟨3, _⟩ => ⟨S_, .i32⟩
  | .hbm, ⟨4, _⟩ => ⟨S_, .f32⟩
  | .hbm, ⟨5, _⟩ => ⟨S8x256, .f32⟩
  | .hbm, ⟨6, _⟩ => ⟨S16x12288, .f32⟩
  | .hbm, ⟨7, _⟩ => ⟨S192, .i32⟩
  | .hbm, ⟨8, _⟩ => ⟨S1x192, .i32⟩
  | .hbm, ⟨9, _⟩ => ⟨S_, .i32⟩
  | .hbm, ⟨10, _⟩ => ⟨S1x192, .i32⟩
  | .hbm, ⟨11, _⟩ => ⟨S1x192, .i32⟩
  | .hbm, ⟨12, _⟩ => ⟨S64, .i32⟩
  | .hbm, ⟨13, _⟩ => ⟨S64x1, .i32⟩
  | .hbm, ⟨14, _⟩ => ⟨S64x192, .i32⟩
  | .hbm, ⟨15, _⟩ => ⟨S64x192, .i32⟩
  | .hbm, ⟨16, _⟩ => ⟨S64x192, .i32⟩
  | .hbm, ⟨17, _⟩ => ⟨S_, .i32⟩
  | .hbm, ⟨18, _⟩ => ⟨S64x192, .i32⟩
  | .hbm, ⟨19, _⟩ => ⟨S64x192, .i1⟩
  | .hbm, ⟨20, _⟩ => ⟨S_, .i32⟩
  | .hbm, ⟨21, _⟩ => ⟨S_, .i32⟩
  | .hbm, ⟨22, _⟩ => ⟨S64x192, .i32⟩
  | .hbm, ⟨23, _⟩ => ⟨S64x192, .i32⟩
  | .hbm, ⟨24, _⟩ => ⟨S64x192, .i32⟩
  | .hbm, ⟨25, _⟩ => ⟨S64x192, .i32⟩
  | .hbm, ⟨26, _⟩ => ⟨S_, .i32⟩
  | .hbm, ⟨27, _⟩ => ⟨S64x192, .i32⟩
  | .hbm, ⟨28, _⟩ => ⟨S64x192, .i32⟩
  | .hbm, ⟨29, _⟩ => ⟨S64x192, .f32⟩
  | .hbm, ⟨30, _⟩ => ⟨S_, .f32⟩
  | .hbm, ⟨31, _⟩ => ⟨S64x192, .f32⟩
  | .hbm, ⟨32, _⟩ => ⟨S64x192, .f32⟩
  | .hbm, ⟨33, _⟩ => ⟨S64x192, .f32⟩
  | .hbm, ⟨34, _⟩ => ⟨S_, .f32⟩
  | .hbm, ⟨35, _⟩ => ⟨S64x192, .f32⟩
  | .hbm, ⟨36, _⟩ => ⟨S64x192, .f32⟩
  | .hbm, ⟨37, _⟩ => ⟨S_, .f32⟩
  | .hbm, ⟨38, _⟩ => ⟨S64x192, .f32⟩
  | .hbm, ⟨39, _⟩ => ⟨S64x192, .f32⟩
  | .hbm, ⟨40, _⟩ => ⟨S64x192, .i32⟩
  | .hbm, ⟨41, _⟩ => ⟨S_, .i32⟩
  | .hbm, ⟨42, _⟩ => ⟨S64x192, .i32⟩
  | .hbm, ⟨43, _⟩ => ⟨S64x192, .i32⟩
  | .hbm, ⟨44, _⟩ => ⟨S_, .i32⟩
  | .hbm, ⟨45, _⟩ => ⟨S64x192, .i32⟩
  | .hbm, ⟨46, _⟩ => ⟨S64x192, .i32⟩
  | .hbm, ⟨47, _⟩ => ⟨S_, .i32⟩
  | .hbm, ⟨48, _⟩ => ⟨S64x192, .i32⟩
  | .hbm, ⟨49, _⟩ => ⟨S64x192, .i1⟩
  | .hbm, ⟨50, _⟩ => ⟨S64x192, .i32⟩
  | .hbm, ⟨51, _⟩ => ⟨S64x192, .i32⟩
  | .hbm, ⟨52, _⟩ => ⟨S64x192, .i32⟩
  | .hbm, ⟨53, _⟩ => ⟨S1x12288, .i32⟩
  | .hbm, ⟨54, _⟩ => ⟨S32, .i32⟩
  | .hbm, ⟨55, _⟩ => ⟨S32x1, .i32⟩
  | .hbm, ⟨56, _⟩ => ⟨S32x12288, .i32⟩
  | .hbm, ⟨57, _⟩ => ⟨S32x12288, .i32⟩
  | .hbm, ⟨58, _⟩ => ⟨S32x12288, .i1⟩
  | .hbm, ⟨59, _⟩ => ⟨S32x12288, .f32⟩
  | .hbm, ⟨60, _⟩ => ⟨S16x32, .f32⟩
  | .hbm, ⟨61, _⟩ => ⟨S8x128, .f32⟩
  | .local _ .vmem, ⟨0, _⟩ => ⟨S16x12288, .f32⟩
  | .local _ .vmem, ⟨1, _⟩ => ⟨S32x12288, .f32⟩
  | .local _ .vmem, ⟨2, _⟩ => ⟨S8x256, .f32⟩
  | .local _ .vmem, ⟨3, _⟩ => ⟨S16x32, .f32⟩
  | .local _ .vmem, ⟨4, _⟩ => ⟨S8x128, .f32⟩
  | _, _ => ⟨S16x64x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_c_8 : Ref sig .tc := ⟨.hbm, 44, rfl⟩
abbrev main_v29 : Ref sig .tc := ⟨.hbm, 45, rfl⟩
abbrev main_v30 : Ref sig .tc := ⟨.hbm, 46, rfl⟩
abbrev main_c_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43_0 : Ref sig .tc := ⟨.hbm, 60, rfl⟩
abbrev main_v43_1 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Loss.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S1x128 : Shape := ⟨2, ![1, 128]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩
abbrev S1024 : Shape := ⟨1, ![1024]⟩
abbrev S1 : Shape := ⟨1, ![1]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x704x1024, .f32⟩
  | .hbm, ⟨14, _⟩ => ⟨S4x704x1024, .bf16⟩
  | .hbm, ⟨15, _⟩ => ⟨S4096x1024, .f32⟩
  | .hbm, ⟨16, _⟩ => ⟨S4x4096x704, .bf16⟩
  | .hbm, ⟨17, _⟩ => ⟨S4x4096x704, .bf16⟩
  | .hbm, ⟨18, _⟩ => ⟨S4x4096x704, .bf16⟩
  | .hbm, ⟨19, _⟩ => ⟨S4096x1024, .f32⟩
  | .hbm, ⟨20, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S4x704x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S4x512x704, .bf16⟩
  | .local _ .vmem, ⟨16, _⟩ => ⟨S4x512x704, .bf16⟩
  | .local _ .vmem, ⟨17, _⟩ => ⟨S512x1024, .f32⟩
  | .local _ .vmem, ⟨18, _⟩ => ⟨S512x1024, .f32⟩
  | .local _ .vmem, ⟨19, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x128 : Shape := ⟨2, ![1, 128]⟩
abbrev S4096x4x704 : Shape := ⟨3, ![4096, 4, 704]⟩
abbrev S4x4096x704 : Shape := ⟨3, ![4, 4096, 704]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S_, .f32⟩
  | .hbm, ⟨62, _⟩ => ⟨S1x128, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x4x704, .f32⟩
  | .hbm, ⟨87, _⟩ => ⟨S4x4096x704, .f32⟩
  | .hbm, ⟨88, _⟩ => ⟨S4x4096x704, .bf16⟩
  | .hbm, ⟨89, _⟩ => ⟨S4096x4x704, .f32⟩
  | .hbm, ⟨90, _⟩ => ⟨S4x4096x704, .f32⟩
  | .hbm, ⟨91, _⟩ => ⟨S4x4096x704, .bf16⟩
  | .hbm, ⟨92, _⟩ => ⟨S4096x4x704, .f32⟩
  | .hbm, ⟨93, _⟩ => ⟨S4x4096x704, .f32⟩
  | .hbm, ⟨94, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_cst_12 : Ref sig .tc := ⟨.hbm, 77, rfl⟩
abbrev main_cst_13 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S4x4096x704 : Shape := ⟨3, ![4, 4096, 704]⟩
abbrev S512x1024 : Shape := ⟨2, ![512, 1024]⟩
abbrev S4x512x704 : Shape := ⟨3, ![4, 512, 704]⟩
abbrev S512 : Shape := ⟨1, ![512]⟩
abbrev S512x1 : Shape := ⟨2, ![512, 1]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x704x1024, .f32⟩
  | .hbm, ⟨6, _⟩ => ⟨S4x704x1024, .bf16⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4096x1024, .bf16⟩
  | .hbm, ⟨11, _⟩ => ⟨S4x4096x704, .bf16⟩
  | .hbm, ⟨12, _⟩ => ⟨S4x4096x704, .bf16⟩
  | .hbm, ⟨13, _⟩ => ⟨S4x4096x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x704x1024, .bf16⟩
  | .local _ .vmem, ⟨4, _⟩ => ⟨S4x704x1024, .bf16⟩
  | .local _ .vmem, ⟨5, _⟩ => ⟨S512x1024, .bf16⟩
  | .local _ .vmem, ⟨6, _⟩ => ⟨S512x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpRefIdeal.lean ====
abbrev S4096x1024 : Shape := ⟨2, ![4096, 1024]⟩
abbrev S1x1024 : Shape := ⟨2, ![1, 1024]⟩
abbrev S1024x2816 : Shape := ⟨2, ![1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x1024, .bf16⟩
  | .hbm, ⟨24, _⟩ => ⟨S4096x4x704, .f32⟩
  | .hbm, ⟨25, _⟩ => ⟨S4x4096x704, .f32⟩
  | .hbm, ⟨26, _⟩ => ⟨S4x4096x704, .bf16⟩
  | .hbm, ⟨27, _⟩ => ⟨S4096x4x704, .f32⟩
  | .hbm, ⟨28, _⟩ => ⟨S4x4096x704, .f32⟩
  | .hbm, ⟨29, _⟩ => ⟨S4x4096x704, .bf16⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x4x704, .f32⟩
  | .hbm, ⟨41, _⟩ => ⟨S4x4096x704, .f32⟩
  | .hbm, ⟨42, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S512x1024 : Shape := ⟨2, ![512, 1024]⟩
abbrev S4x512x704 : Shape := ⟨3, ![4, 512, 704]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1x1024, .f32⟩
  | .hbm, ⟨4, _⟩ => ⟨S4096x4x704, .bf16⟩
  | .hbm, ⟨5, _⟩ => ⟨S4x4096x704, .bf16⟩
  | .hbm, ⟨6, _⟩ => ⟨S4x704x1024, .f32⟩
  | .hbm, ⟨7, _⟩ => ⟨S4x704x1024, .bf16⟩
  | .hbm, ⟨8, _⟩ => ⟨S4096x1024, .f32⟩
  | .hbm, ⟨9, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2816, .bf16⟩
  | .hbm, ⟨2, _⟩ => ⟨S2816x1024, .f32⟩
  | .hbm, ⟨3, _⟩ => ⟨S1x1024, .f32⟩
  | .hbm, ⟨4, _⟩ => ⟨S4096x2816, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proj.lean ====
abbrev S4096x1024 : Shape := ⟨2, ![4096, 1024]⟩
abbrev S1x1024 : Shape := ⟨2, ![1, 1024]⟩
abbrev S1024x3584 : Shape := ⟨2, ![1024, 3584]⟩
abbrev S1024x2048 : Shape := ⟨2, ![1024, 2048]⟩
abbrev S1x2048 : Shape := ⟨2, ![1, 2048]⟩
abbrev S1024x4x896 : Shape := ⟨3, ![1024, 4, 896]⟩
abbrev S4x1024x896 : Shape := ⟨3, ![4, 1024, 896]⟩
abbrev S1024x4x512 : Shape := ⟨3, ![1024, 4, 512]⟩
abbrev S4x1024x512 : Shape := ⟨3, ![4, 1024, 512]⟩
abbrev S4096x256 : Shape := ⟨2, ![4096, 256]⟩
abbrev S4096x2048 : Shape := ⟨2, ![4096, 2048]⟩
abbrev S512x1024 : Shape := ⟨2, ![512, 1024]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩
abbrev S512x128 : Shape := ⟨2, ![512, 128]⟩
abbrev S512x768 : Shape := ⟨2, ![512, 768]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩

abbrev nBuf : Space → Nat
  | .hbm => 18
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x2048, .f32⟩
  | .hbm, ⟨4, _⟩ => ⟨S1x2048, .f32⟩
  | .hbm, ⟨5, _⟩ => ⟨S1024x4x896, .f32⟩
  | .hbm, ⟨6, _⟩ => ⟨S4x1024x896, .f32⟩
  | .hbm, ⟨7, _⟩ => ⟨S4x1024x896, .bf16⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S4096x1024, .bf16⟩
  | .hbm, ⟨12, _⟩ => ⟨S4096x1024, .bf16⟩
  | .hbm, ⟨13, _⟩ => ⟨S4096x256, .bf16⟩
  | .hbm, ⟨14, _⟩ => ⟨S4096x256, .bf16⟩
  | .hbm, ⟨15, _⟩ => ⟨S4096x1024, .f32⟩
  | .hbm, ⟨16, _⟩ => ⟨S4096x1024, .bf16⟩
  | .hbm, ⟨17, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x896, .bf16⟩
  | .local _ .vmem, ⟨4, _⟩ => ⟨S4x1024x512, .bf16⟩
  | .local _ .vmem, ⟨5, _⟩ => ⟨S1x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S4096x1024 : Shape := ⟨2, ![4096, 1024]⟩
abbrev S1x1024 : Shape := ⟨2, ![1, 1024]⟩
abbrev S1024x3584 : Shape := ⟨2, ![1024, 3584]⟩
abbrev S1024x2048 : Shape := ⟨2, ![1024, 2048]⟩
abbrev S1x2048 : Shape := ⟨2, ![1, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3584 : Shape := ⟨2, ![4096, 3584]⟩
abbrev S4096x256 : Shape := ⟨2, ![4096, 256]⟩
abbrev S4096x2048 : Shape := ⟨2, ![4096, 2048]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S1024x2048, .f32⟩
  | .hbm, ⟨4, _⟩ => ⟨S1x2048, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x3584, .f32⟩
  | .hbm, ⟨23, _⟩ => ⟨S4096x1024, .f32⟩
  | .hbm, ⟨24, _⟩ => ⟨S4096x256, .f32⟩
  | .hbm, ⟨25, _⟩ => ⟨S4096x256, .f32⟩
  | .hbm, ⟨26, _⟩ => ⟨S4096x1024, .f32⟩
  | .hbm, ⟨27, _⟩ => ⟨S4096x1024, .f32⟩
  | .hbm, ⟨28, _⟩ => ⟨S4096x2048, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x1024, .bf16⟩
  | .hbm, ⟨42, _⟩ => ⟨S4096x1024, .bf16⟩
  | .hbm, ⟨43, _⟩ => ⟨S4096x256, .bf16⟩
  | .hbm, ⟨44, _⟩ => ⟨S4096x256, .bf16⟩
  | .hbm, ⟨45, _⟩ => ⟨S4096x1024, .bf16⟩
  | .hbm, ⟨46, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Merge.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 25
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | .hbm, ⟨24, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_v10_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S4096x1024 : Shape := ⟨2, ![4096, 1024]⟩
abbrev S4096x2048 : Shape := ⟨2, ![4096, 2048]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S4096x1024, .bf16⟩
  | .hbm, ⟨68, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Proof.Reals.lean ====
/-
  Extended reals that are real numbers: the constants the programs name, and the operations of the ideal reading at real
  arguments. Every value proof here first shows its arguments to be real, then lifts both sides to a statement about ℝ.
-/
module

public import Idealize.ShloMosaic.Lib.Pointwise

@[expose] public section

namespace Reals

open Idealize.ShloMosaic

/-- Below infinity in absolute value: a real number. -/
theorem exists_real {x : EReal} (h : max x (-x) < ⊤) : ∃ r : ℝ, x = (r : EReal) := by
  induction x with
  | bot => simp at h
  | top => simp at h
  | coe r => exact ⟨r, rfl⟩

theorem cinf : Ideal.ofBits FTy.f32 2139095040#32 = ⊤ := by
  simp [Ideal.ofBits, Ideal.ieee]

/-- What the precondition says of one array: every element is a real number. -/
theorem real_of_test {s : Shape} {x y : FVec Ideal s .f32} (h : cmpf .olt (Host.absf x) y = fun _ => 1#1)
    (hy : ∀ i, y i = Ideal.ofBits FTy.f32 2139095040#32) (i : s.Idx) :
    (show EReal from x i) = (((show EReal from x i).toReal : ℝ) : EReal) := by
  have h' : Ideal.cmp .olt (max (x i) (-(x i))) (y i) = 1#1 := congrFun h i
  rw [hy, cinf] at h'
  have h2 : (max (x i) (-(x i)) : EReal) < ⊤ := by
    by_contra hc
    simp [Ideal.cmp, hc] at h'
  obtain ⟨r, hr⟩ := exists_real h2
  show (x i : EReal) = _
  rw [hr, EReal.toReal_coe]

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_real (x : ℝ) {y : ℝ} (h : y ≠ 0) : Ideal.div (x : EReal) (y : EReal) = ((x / y : ℝ) : EReal) := by
  rw [Ideal.div_coe h, ← EReal.coe_mul]; congr 1; field_simp

theorem rsqrt_real {x : ℝ} (h : 0 < x) : Ideal.rsqrt (x : EReal) = (((Real.sqrt x)⁻¹ : ℝ) : EReal) := by
  rw [Ideal.rsqrt_coe, if_neg (by linarith), if_neg (by linarith)]

/-- The width of a row, 1024. -/
theorem c1024 : Ideal.ofBits FTy.f32 1149239296#32 = ((1024 : ℝ) : EReal) := by
  simp [Ideal.ofBits, Ideal.ieee]; rw [← EReal.coe_mul]; norm_num

/-- The norm's epsilon, the float nearest to 1e-6. -/
noncomputable def eps : ℝ := 8796093 / 8796093022208

theorem eps_pos : 0 < eps := by unfold eps; positivity

theorem ceps : Ideal.ofBits FTy.f32 897988541#32 = (eps : EReal) := by
  simp [Ideal.ofBits, Ideal.ieee, eps]; rw [← EReal.coe_mul]; norm_num

theorem cmhalf : Ideal.ofBits FTy.f32 3204448256#32 = ((-(1 / 2) : ℝ) : EReal) := by
  simp [Ideal.ofBits, Ideal.ieee]; rw [← EReal.coe_mul]; norm_num

theorem chalf : Ideal.ofBits FTy.f32 1056964608#32 = ((1 / 2 : ℝ) : EReal) := by
  simp [Ideal.ofBits, Ideal.ieee]; rw [← EReal.coe_mul]; norm_num

theorem cone : Ideal.ofBits FTy.f32 1065353216#32 = ((1 : ℝ) : EReal) := by
  simp [Ideal.ofBits, Ideal.ieee]; rw [← EReal.coe_mul]; norm_num

theorem czero : Ideal.ofBits FTy.f32 0#32 = ((0 : ℝ) : EReal) := by
  simp [Ideal.ofBits, Ideal.ieee]

end Reals

end
-- ==== Proof.Rms.lean ====
/-
  The gradient of a root-mean-square norm of one row of 1024 numbers, over ℝ: the kernels' closed form
  r·(d·g − x·r·mean(d·g·x·r)) and what reverse differentiation of x·r·g through r = (mean(x²) + ε)^(-1/2) gives.
-/
module

public import proofs.«01_k».proof.Proof.Reals
public import Mathlib.Tactic.LinearCombination
public import Mathlib.Tactic.FieldSimp

@[expose] public section

noncomputable section

namespace Rms

open Idealize.ShloMosaic

/-- The mean of the squares, plus epsilon. -/
def v (x : Fin 1024 → ℝ) : ℝ := (∑ k, x k * x k) / 1024 + Reals.eps

/-- Its reciprocal root. -/
def r (x : Fin 1024 → ℝ) : ℝ := (Real.sqrt (v x))⁻¹

theorem v_pos (x : Fin 1024 → ℝ) : 0 < v x := by
  have h : 0 ≤ ∑ k, x k * x k := Finset.sum_nonneg fun k _ => mul_self_nonneg _
  have := Reals.eps_pos
  unfold v; positivity

theorem r_sq (x : Fin 1024 → ℝ) : r x * r x * v x = 1 := by
  have h := v_pos x
  have hs := Real.mul_self_sqrt h.le
  have h0 : Real.sqrt (v x) ≠ 0 := (Real.sqrt_pos.mpr h).ne'
  unfold r
  field_simp
  rw [sq, hs]

theorem v_coe (x : Fin 1024 → ℝ) :
    Ideal.div (∑ k, (x k : EReal) * (x k : EReal)) (Ideal.ofBits FTy.f32 1149239296#32) + Ideal.ofBits FTy.f32 897988541#32
      = (v x : EReal) := by
  simp only [Reals.c1024, Reals.ceps, ← EReal.coe_mul, Reals.coe_sum]
  rw [Reals.div_real _ (by norm_num), ← EReal.coe_add]; rfl

theorem r_coe (x : Fin 1024 → ℝ) :
    Ideal.rsqrt (Ideal.div (∑ k, (x k : EReal) * (x k : EReal)) (Ideal.ofBits FTy.f32 1149239296#32)
      + Ideal.ofBits FTy.f32 897988541#32) = (r x : EReal) := by
  rw [v_coe, Reals.rsqrt_real (v_pos x)]; rfl

/-- The gradient at one place of the row, in the kernels' form. -/
def dx (d x g : Fin 1024 → ℝ) (l : Fin 1024) : ℝ :=
  r x * (d l * g l - x l * r x * ((∑ k, d k * g k * (x k * r x)) / 1024))

/-- The kernels' text at real arguments. -/
theorem dx_coe (d x g : Fin 1024 → ℝ) (l : Fin 1024) :
    (r x : EReal) * ((d l : EReal) * (g l : EReal) - (x l : EReal) * (r x : EReal)
      * Ideal.div (∑ k, (d k : EReal) * (g k : EReal) * ((x k : EReal) * (r x : EReal))) (Ideal.ofBits FTy.f32 1149239296#32))
      = (dx d x g l : EReal) := by
  simp only [Reals.c1024, ← EReal.coe_mul, Reals.coe_sum]
  rw [Reals.div_real _ (by norm_num)]
  simp only [← EReal.coe_mul, ← EReal.coe_sub]; rfl

/-- The derivative through the reciprocal root: what reverse differentiation adds twice. -/
def back (s : ℝ) (x : Fin 1024 → ℝ) : ℝ := s * (-(1 / 2) * (r x / v x)) / 1024

theorem back_coe (s : ℝ) (x : Fin 1024 → ℝ) :
    Ideal.div ((s : EReal) * (Ideal.ofBits FTy.f32 3204448256#32 * Ideal.div (r x : EReal) (v x : EReal)))
      (Ideal.ofBits FTy.f32 1149239296#32) = (back s x : EReal) := by
  rw [Reals.c1024, Reals.cmhalf, Reals.div_real _ (v_pos x).ne', ← EReal.coe_mul, ← EReal.coe_mul,
    Reals.div_real _ (by norm_num)]; rfl

/-- The two forms agree. -/
theorem dx_eq (d x g : Fin 1024 → ℝ) (l : Fin 1024) :
    dx d x g l = d l * g l * r x + x l * back (∑ k, x k * (d k * g k)) x + x l * back (∑ k, x k * (d k * g k)) x := by
  have hs : ∑ k, d k * g k * (x k * r x) = r x * ∑ k, x k * (d k * g k) := by
    rw [Finset.mul_sum]; exact Finset.sum_congr rfl fun k _ => by ring
  have hv : v x ≠ 0 := (v_pos x).ne'
  have h1 : r x / v x = r x * r x * r x := by
    field_simp
    linear_combination (-(r x)) * r_sq x
  unfold dx back
  rw [hs, h1]
  ring

/-- The sum of two products with transposed weights, at one place: what reaches a norm's output from two readers. -/
def two {K L : ℕ} (A : Fin 4096 → Fin K → ℝ) (V : Fin 1024 → Fin K → ℝ) (B : Fin 4096 → Fin L → ℝ)
    (W : Fin 1024 → Fin L → ℝ) (i : Fin 4096) (l : Fin 1024) : ℝ :=
  ∑ k, A i k * V l k + ∑ k, B i k * W l k

end Rms

end

end
-- ==== Proof.FfnInKernel.lean ====
/-
  The gradient of the first feed-forward layer with respect to its input, as the kernel leaves it: the two result arrays
  at an index, over real arguments.
-/
module

public import proofs.«01_k».proof.Proof.Gen.FfnInIdeal.Value
public import proofs.«01_k».proof.Proof.Rms
public import Idealize.ShloMosaic.Lib.Pipeline.ValueKit.Point

@[expose] public section

set_option maxRecDepth 16384

noncomputable section

namespace Cert.FfnInIdeal.Proof

open Cert.FfnInIdeal Cert.FfnInIdeal.Gen Idealize.ShloMosaic Idealize.ShloMosaic.TcCoe Idealize.SL.Sem

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![0, t.val, 0] ∧ win0_3.index t = ![0, t.val, 0] ∧ win0_4.index t = ![0, 0]
    ∧ win0_5.index t = ![0, 0, 0] ∧ win0_6.index t = ![0, 0, 0] ∧ win0_7.index t = ![t.val, 0]
    ∧ win0_8.index t = ![0, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- Column `j` of slot `k`. -/
def col (k : Fin 4) (j : Fin 704) : Fin 2816 := ⟨k.val * 704 + j.val, by omega⟩

/-- The gradient that reaches the norm's output, as the body sums it at a grid point. -/
def dn (c : Dev nD) (t : Fin cfg0.N) : FVec Ideal S512x1024 .f32 :=
  k0_pay8
    (k0_pay6 (View.ld (iblk m c 2 t) (Rect.unit ![0, 0, 0] ![1, 512, 704] inb_S4x512x704_S1x512x704_0_0_0))
      (View.ld (iblk m c 5 t) (Rect.unit ![0, 0, 0] ![1, 704, 1024] inb_S4x704x1024_S1x704x1024_0_0_0))
      (View.ld (iblk m c 3 t) (Rect.unit ![0, 0, 0] ![1, 512, 704] inb_S4x512x704_S1x512x704_0_0_0))
      (View.ld (iblk m c 6 t) (Rect.unit ![0, 0, 0] ![1, 704, 1024] inb_S4x704x1024_S1x704x1024_0_0_0))
      (View.ld (iblk m c 2 t) (Rect.unit ![1, 0, 0] ![1, 512, 704] inb_S4x512x704_S1x512x704_1_0_0))
      (View.ld (iblk m c 5 t) (Rect.unit ![1, 0, 0] ![1, 704, 1024] inb_S4x704x1024_S1x704x1024_1_0_0)))
    (k0_pay7 (View.ld (iblk m c 3 t) (Rect.unit ![1, 0, 0] ![1, 512, 704] inb_S4x512x704_S1x512x704_1_0_0))
      (View.ld (iblk m c 6 t) (Rect.unit ![1, 0, 0] ![1, 704, 1024] inb_S4x704x1024_S1x704x1024_1_0_0)))
    (View.ld (iblk m c 2 t) (Rect.unit ![2, 0, 0] ![1, 512, 704] inb_S4x512x704_S1x512x704_2_0_0))
    (View.ld (iblk m c 5 t) (Rect.unit ![2, 0, 0] ![1, 704, 1024] inb_S4x704x1024_S1x704x1024_2_0_0))
    (View.ld (iblk m c 3 t) (Rect.unit ![2, 0, 0] ![1, 512, 704] inb_S4x512x704_S1x512x704_2_0_0))
    (View.ld (iblk m c 6 t) (Rect.unit ![2, 0, 0] ![1, 704, 1024] inb_S4x704x1024_S1x704x1024_2_0_0))
    (View.ld (iblk m c 2 t) (Rect.unit ![3, 0, 0] ![1, 512, 704] inb_S4x512x704_S1x512x704_3_0_0))
    (View.ld (iblk m c 5 t) (Rect.unit ![3, 0, 0] ![1, 704, 1024] inb_S4x704x1024_S1x704x1024_3_0_0))
    (View.ld (iblk m c 3 t) (Rect.unit ![3, 0, 0] ![1, 512, 704] inb_S4x512x704_S1x512x704_3_0_0))
    (View.ld (iblk m c 6 t) (Rect.unit ![3, 0, 0] ![1, 704, 1024] inb_S4x704x1024_S1x704x1024_3_0_0))

/-- What the body leaves in the row block of the first result. -/
theorem out7 (c : Dev nD) (t : Fin cfg0.N) : (outsAt0 m c t.val t.isLt).1
    = k0_pay4 (dn m c t) (iblk m c 1 t) (iblk m c 4 t) (k0_pay9 (iblk m c 1 t)) (iblk m c 0 t) := by
  by_cases h : t.val % 8 = 0
  · rw [outsAt0_A m c t h]; frame_out; rfl
  · rw [outsAt0_B m c t h]; frame_out; rfl

/-- The second result at the first grid point. -/
theorem out8_first (c : Dev nD) (t : Fin cfg0.N) (h : t.val % 8 = 0) : (outsAt0 m c t.val t.isLt).2
    = k0_pay3 (dn m c t) (iblk m c 1 t) (k0_pay9 (iblk m c 1 t)) (k0_pay5 (F := Ideal)) := by
  rw [outsAt0_A m c t h]; frame_out; rfl

/-- The second result at a later grid point, from the point before it. -/
theorem out8_next (c : Dev nD) (t : Fin cfg0.N) (h : ¬t.val % 8 = 0) : (outsAt0 m c t.val t.isLt).2
    = k0_pay3 (dn m c t) (iblk m c 1 t) (k0_pay9 (iblk m c 1 t))
        (outsAt0 m c (t.val - 1) (Nat.lt_of_le_of_lt (Nat.sub_le _ _) t.isLt)).2 := by
  rw [outsAt0_B m c t h]; frame_out; rfl

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (r : Fin 512) (l : Fin 1024) :
    iblk m c 1 t (ix2 r l) = m (Thread.loc (Dev.tc c) main_arg1) (ix2 (row t r) l) := by
  unfold row; blk_ext! [iblk, V, idx t]

theorem iblk2 (c : Dev nD) (t : Fin cfg0.N) (k : Fin 4) (r : Fin 512) (j : Fin 704) :
    iblk m c 2 t (ix3 k r j) = m (Thread.loc (Dev.tc c) main_arg2) (ix2 (row t r) (col k j)) := by
  unfold row col; blk_ext! [iblk, V, idx t]

theorem iblk3 (c : Dev nD) (t : Fin cfg0.N) (k : Fin 4) (r : Fin 512) (j : Fin 704) :
    iblk m c 3 t (ix3 k r j) = m (Thread.loc (Dev.tc c) main_arg3) (ix2 (row t r) (col k j)) := by
  unfold row col; blk_ext! [iblk, V, idx t]

theorem iblk4 (c : Dev nD) (t : Fin cfg0.N) (r : Fin 1) (l : Fin 1024) :
    iblk m c 4 t (ix2 r l) = m (Thread.loc (Dev.tc c) main_arg4) (ix2 r l) := by
  blk_ext! [iblk, V, idx t]

theorem iblk5 (c : Dev nD) (t : Fin cfg0.N) (k : Fin 4) (j : Fin 704) (l : Fin 1024) :
    iblk m c 5 t (ix3 k j l) = m (Thread.loc (Dev.tc c) main_arg5) (ix2 l (col k j)) := by
  unfold col; blk_ext! [iblk, V, idx t]

theorem iblk6 (c : Dev nD) (t : Fin cfg0.N) (k : Fin 4) (j : Fin 704) (l : Fin 1024) :
    iblk m c 6 t (ix3 k j l) = m (Thread.loc (Dev.tc c) main_arg6) (ix2 l (col k j)) := by
  unfold col; blk_ext! [iblk, V, idx t]

section Real

variable {m} {c : Dev nD} {H : Fin 4096 → Fin 1024 → EReal}
  {X : Fin 4096 → Fin 1024 → ℝ} {A B : Fin 4096 → Fin 2816 → ℝ} {g : Fin 1024 → ℝ}
  {W1 W3 : Fin 1024 → Fin 2816 → ℝ}

/-- The four slots' products are the two whole products. -/
theorem dn_apply (hA : ∀ i k, m (Thread.loc (Dev.tc c) main_arg2) (ix2 i k) = (A i k : EReal))
    (hB : ∀ i k, m (Thread.loc (Dev.tc c) main_arg3) (ix2 i k) = (B i k : EReal))
    (h1 : ∀ i k, m (Thread.loc (Dev.tc c) main_arg5) (ix2 i k) = (W1 i k : EReal))
    (h3 : ∀ i k, m (Thread.loc (Dev.tc c) main_arg6) (ix2 i k) = (W3 i k : EReal))
    (t : Fin cfg0.N) (r : Fin 512) (l : Fin 1024) :
    dn m c t (ix2 r l) = (Rms.two B W3 A W1 (row t r) l : EReal) := by
  unfold dn
  pointwise [k0_pay8, k0_pay6, k0_pay7]
  simp only [iblk2, iblk3, iblk5, iblk6, hA, hB, h1, h3, ← EReal.coe_mul, Reals.coe_sum, ← EReal.coe_add]
  congr 1
  unfold Rms.two
  rw [← Fin.sum_mul_add_fin 4 704 fun k => B (row t r) k * W3 l k, ← Fin.sum_mul_add_fin 4 704 fun k => A (row t r) k * W1 l k,
    Fin.sum_univ_four, Fin.sum_univ_four]
  simp only [col]
  ring

/-- The first result at an index: the cotangent passed by, plus the norm's gradient. -/
theorem dx_apply (hH : ∀ i l, m (Thread.loc (Dev.tc c) main_arg0) (ix2 i l) = H i l)
    (hX : ∀ i l, m (Thread.loc (Dev.tc c) main_arg1) (ix2 i l) = (X i l : EReal))
    (hA : ∀ i k, m (Thread.loc (Dev.tc c) main_arg2) (ix2 i k) = (A i k : EReal))
    (hB : ∀ i k, m (Thread.loc (Dev.tc c) main_arg3) (ix2 i k) = (B i k : EReal))
    (hg : ∀ l, m (Thread.loc (Dev.tc c) main_arg4) (ix2 0 l) = (g l : EReal))
    (h1 : ∀ i k, m (Thread.loc (Dev.tc c) main_arg5) (ix2 i k) = (W1 i k : EReal))
    (h3 : ∀ i k, m (Thread.loc (Dev.tc c) main_arg6) (ix2 i k) = (W3 i k : EReal))
    (t : Fin cfg0.N) (r : Fin 512) (l : Fin 1024) :
    (outsAt0 m c t.val t.isLt).1 (ix2 r l) = H (row t r) l
      + (Rms.dx (Rms.two B W3 A W1 (row t r)) (X (row t r)) g l : EReal) := by
  rw [out7]
  pointwise [k0_pay4, k0_pay2, k0_pay1, k0_pay9]
  simp only [iblk0, iblk1, iblk4, dn_apply hA hB h1 h3, hH, hX, hg, Rms.r_coe]
  rw [Rms.dx_coe]

/-- One grid point's part of the norm weight's gradient. -/
theorem dg_step (hX : ∀ i l, m (Thread.loc (Dev.tc c) main_arg1) (ix2 i l) = (X i l : EReal))
    (hA : ∀ i k, m (Thread.loc (Dev.tc c) main_arg2) (ix2 i k) = (A i k : EReal))
    (hB : ∀ i k, m (Thread.loc (Dev.tc c) main_arg3) (ix2 i k) = (B i k : EReal))
    (h1 : ∀ i k, m (Thread.loc (Dev.tc c) main_arg5) (ix2 i k) = (W1 i k : EReal))
    (h3 : ∀ i k, m (Thread.loc (Dev.tc c) main_arg6) (ix2 i k) = (W3 i k : EReal))
    (t : Fin cfg0.N) (u : Vec Ideal S1x1024 .f32) (l : Fin 1024) :
    k0_pay3 (dn m c t) (iblk m c 1 t) (k0_pay9 (iblk m c 1 t)) u (ix2 0 l)
      = u (ix2 0 l) + ((∑ r : Fin 512, Rms.two B W3 A W1 (row t r) l * (X (row t r) l * Rms.r (X (row t r))) : ℝ) : EReal) := by
  pointwise [k0_pay3, k0_pay2, k0_pay1, k0_pay9]
  simp only [iblk1, dn_apply hA hB h1 h3, hX, Rms.r_coe]
  simp only [← EReal.coe_mul, Reals.coe_sum]

/-- A sum over the grid's points and a block's rows is the sum over all rows. -/
theorem sum_rows (f : Fin 4096 → ℝ) : ∑ t : Fin cfg0.N, ∑ r : Fin 512, f (row t r) = ∑ i, f i :=
  Fin.sum_mul_add_congr (S := 8) (n := 512) fun _ _ _ => rfl

/-- The second result at an index: the norm weight's gradient, summed over all rows. -/
theorem dg_apply (hX : ∀ i l, m (Thread.loc (Dev.tc c) main_arg1) (ix2 i l) = (X i l : EReal))
    (hA : ∀ i k, m (Thread.loc (Dev.tc c) main_arg2) (ix2 i k) = (A i k : EReal))
    (hB : ∀ i k, m (Thread.loc (Dev.tc c) main_arg3) (ix2 i k) = (B i k : EReal))
    (h1 : ∀ i k, m (Thread.loc (Dev.tc c) main_arg5) (ix2 i k) = (W1 i k : EReal))
    (h3 : ∀ i k, m (Thread.loc (Dev.tc c) main_arg6) (ix2 i k) = (W3 i k : EReal))
    (l : Fin 1024) :
    (outsAt0 m c t0_7.val t0_7.isLt).2 (ix2 0 l)
      = ((∑ i : Fin 4096, Rms.two B W3 A W1 i l * (X i l * Rms.r (X i)) : ℝ) : EReal) := by
  have h := Pipeline.eq_sum_fin_of_reset_step_apply_last (fun n h (l : Fin 1024) => (outsAt0 m c n h).2 (ix2 0 l)) 8
    (fun _ => (0 : EReal))
    (fun t l => ((∑ r : Fin 512, Rms.two B W3 A W1 (row t r) l * (X (row t r) l * Rms.r (X (row t r))) : ℝ) : EReal))
    (fun t h l => by
      beta_reduce; rw [out8_first m c t h, dg_step hX hA hB h1 h3]; congr 1; pointwise [k0_pay5])
    (fun t h l => by beta_reduce; rw [out8_next m c t h, dg_step hX hA hB h1 h3]) (le_of_eq Gen.N_0) t0_7 rfl l
  beta_reduce at h
  rw [h, zero_add, Reals.coe_sum, sum_rows fun i => Rms.two B W3 A W1 i l * (X i l * Rms.r (X i))]

end Real

end Cert.FfnInIdeal.Proof

end

end
-- ==== Proof.FfnInRef.lean ====
/-
  The gradient of the first feed-forward layer with respect to its input, as reverse differentiation leaves it: the two
  results of the reference at an index, over real arguments.
-/
module

public import proofs.«01_k».proof.Proof.Gen.FfnInRefIdeal.Run
public import proofs.«01_k».proof.Proof.Gen.FfnInRefIdeal.Read
public import proofs.«01_k».proof.Proof.Rms

@[expose] public section

set_option maxRecDepth 16384

noncomputable section

namespace Cert.FfnInRefIdeal.Proof

open Cert.FfnInRefIdeal Cert.FfnInRefIdeal.Read Idealize.ShloMosaic Idealize.ShloMosaic.TcCoe

variable {dh x : FVec Ideal S4096x1024 .f32} {da db : FVec Ideal S4096x2816 .bf16} {g : FVec Ideal S1x1024 .f32}
  {w1 w3 : FVec Ideal S1024x2816 .f32} {X : Fin 4096 → Fin 1024 → ℝ} {A B : Fin 4096 → Fin 2816 → ℝ}
  {G : Fin 1024 → ℝ} {W1 W3 : Fin 1024 → Fin 2816 → ℝ}

theorem dn_apply (hA : ∀ i k, da (ix2 i k) = (A i k : EReal)) (hB : ∀ i k, db (ix2 i k) = (B i k : EReal))
    (h1 : ∀ i k, w1 (ix2 i k) = (W1 i k : EReal)) (h3 : ∀ i k, w3 (ix2 i k) = (W3 i k : EReal))
    (i : Fin 4096) (l : Fin 1024) : val_main_v23 (F := Ideal) da db w1 w3 (ix2 i l) = (Rms.two B W3 A W1 i l : EReal) := by
  pointwise [val_main_v23, val_main_v22, val_main_v21, val_main_v20, val_main_v19]
  simp only [hA, hB, h1, h3, ← EReal.coe_mul, Reals.coe_sum, ← EReal.coe_add]
  rfl

theorem v_apply (hX : ∀ i l, x (ix2 i l) = (X i l : EReal)) (i : Fin 4096) (q : Fin 1) :
    val_main_v7 (F := Ideal) x (ix2 i q) = (Rms.v (X i) : EReal) := by
  pointwise [val_main_v7, val_main_v6, val_main_v5, val_main_v4, val_main_v3, val_main_v2, val_main_v1, val_main_cst,
    val_main_cst_0, val_main_cst_1]
  simp only [hX, Rms.v_coe]

theorem r_apply (hX : ∀ i l, x (ix2 i l) = (X i l : EReal)) (i : Fin 4096) (q : Fin 1) :
    val_main_v8 (F := Ideal) x (ix2 i q) = (Rms.r (X i) : EReal) := by
  pointwise [val_main_v8]
  rw [v_apply hX, Reals.rsqrt_real (Rms.v_pos _)]; rfl

theorem dx_apply (hX : ∀ i l, x (ix2 i l) = (X i l : EReal))
    (hA : ∀ i k, da (ix2 i k) = (A i k : EReal)) (hB : ∀ i k, db (ix2 i k) = (B i k : EReal))
    (hg : ∀ l, g (ix2 0 l) = (G l : EReal))
    (h1 : ∀ i k, w1 (ix2 i k) = (W1 i k : EReal)) (h3 : ∀ i k, w3 (ix2 i k) = (W3 i k : EReal))
    (i : Fin 4096) (l : Fin 1024) : val_main_v44 (F := Ideal) dh x da db g w1 w3 (ix2 i l)
      = dh (ix2 i l) + (Rms.dx (Rms.two B W3 A W1 i) (X i) G l : EReal) := by
  pointwise [val_main_v44, val_main_v43, val_main_v42, val_main_v41, val_main_v40, val_main_v39, val_main_v38,
    val_main_v37, val_main_v36, val_main_v35, val_main_v34, val_main_v33, val_main_v32, val_main_v31, val_main_v30,
    val_main_v28, val_main_v27, val_main_v14, val_main_v0, val_main_v11, val_main_v9, val_main_v10,
    val_main_cst_2, val_main_cst_5, val_main_cst_6, val_main_cst_7]
  simp only [hX, hg, dn_apply hA hB h1 h3, r_apply hX, v_apply hX]
  simp only [← EReal.coe_mul, Reals.coe_sum]
  simp only [Finset.univ_unique, Finset.sum_const, Finset.card_singleton, one_smul]
  rw [Rms.back_coe, Rms.dx_eq]
  simp only [← EReal.coe_mul, add_assoc, ← EReal.coe_add]
  congr 2
  ring

theorem dg_apply (hX : ∀ i l, x (ix2 i l) = (X i l : EReal))
    (hA : ∀ i k, da (ix2 i k) = (A i k : EReal)) (hB : ∀ i k, db (ix2 i k) = (B i k : EReal))
    (h1 : ∀ i k, w1 (ix2 i k) = (W1 i k : EReal)) (h3 : ∀ i k, w3 (ix2 i k) = (W3 i k : EReal))
    (l : Fin 1024) : val_main_v45 (F := Ideal) x da db w1 w3 (ix2 0 l)
      = ((∑ i : Fin 4096, Rms.two B W3 A W1 i l * (X i l * Rms.r (X i)) : ℝ) : EReal) := by
  pointwise [val_main_v45, val_main_v29, val_main_v26, val_main_v25, val_main_v24, val_main_v13, val_main_v12,
    val_main_cst_3, val_main_cst_4]
  simp only [hX, dn_apply hA hB h1 h3, r_apply hX]
  simp only [← EReal.coe_mul, Reals.coe_sum, EReal.coe_eq_coe_iff]
  simp only [Finset.univ_unique, Finset.sum_const, Finset.card_singleton, one_smul]
  exact Finset.sum_congr rfl fun i _ => by ring

end Cert.FfnInRefIdeal.Proof

end

end
-- ==== Proof.FfnInClaim.lean ====
/-
  The gradient of the first feed-forward layer with respect to its input: kernel and reference end with the same arrays.
-/
module

public import proofs.«01_k».proof.Defs
public import proofs.«01_k».proof.Proof.FfnInKernel
public import proofs.«01_k».proof.Proof.FfnInRef
public import proofs.«01_k».proof.Proof.Gen.Pre_ffn_in_finite

@[expose] public section

set_option maxRecDepth 16384

noncomputable section

open Idealize.ShloMosaic Idealize.SL.Sem

namespace Cert.FfnInIdeal.Proof

open Cert.FfnInIdeal Cert.FfnInIdeal.Gen Idealize.ShloMosaic Idealize.ShloMosaic.TcCoe Idealize.SL.Sem
open Cert.FfnInRefIdeal.Read (val_main_v44 val_main_v45)

/-- Under the precondition every element of the norm's and the products' arguments is a real number. -/
structure Args (m : (ℓ : Loc nD τ sig) → Buf (Elt Ideal) ℓ) (c : Dev nD) (X : Fin 4096 → Fin 1024 → ℝ)
    (A B : Fin 4096 → Fin 2816 → ℝ) (g : Fin 1024 → ℝ) (W1 W3 : Fin 1024 → Fin 2816 → ℝ) : Prop where
  x : ∀ i l, m (Thread.loc (Dev.tc c) main_arg1) (ix2 i l) = (X i l : EReal)
  a : ∀ i k, m (Thread.loc (Dev.tc c) main_arg2) (ix2 i k) = (A i k : EReal)
  b : ∀ i k, m (Thread.loc (Dev.tc c) main_arg3) (ix2 i k) = (B i k : EReal)
  g : ∀ l, m (Thread.loc (Dev.tc c) main_arg4) (ix2 0 l) = (g l : EReal)
  w1 : ∀ i k, m (Thread.loc (Dev.tc c) main_arg5) (ix2 i k) = (W1 i k : EReal)
  w3 : ∀ i k, m (Thread.loc (Dev.tc c) main_arg6) (ix2 i k) = (W3 i k : EReal)

theorem args_of_pre {m : (ℓ : Loc nD τ sig) → Buf (Elt Ideal) ℓ} (h : Cert.Pre_FfnInIdeal_ffn_in_finite m) (c : Dev nD) :
    ∃ X A B g W1 W3, Args m c X A B g W1 W3 := by
  obtain ⟨h1, h2, h3, h4, h5, h6⟩ := h c
  exact ⟨_, _, _, _, _, _, fun _ _ => Reals.real_of_test h1 (fun _ => rfl) _, fun _ _ => Reals.real_of_test h2 (fun _ => rfl) _,
    fun _ _ => Reals.real_of_test h3 (fun _ => rfl) _, fun _ => Reals.real_of_test h4 (fun _ => rfl) _,
    fun _ _ => Reals.real_of_test h5 (fun _ => rfl) _, fun _ _ => Reals.real_of_test h6 (fun _ => rfl) _⟩

variable {m : (ℓ : Loc nD τ sig) → Buf (Elt Ideal) ℓ} {c : Dev nD} {X : Fin 4096 → Fin 1024 → ℝ}
  {A B : Fin 4096 → Fin 2816 → ℝ} {g : Fin 1024 → ℝ} {W1 W3 : Fin 1024 → Fin 2816 → ℝ}

/-- The first result array is the reference's. -/
theorem result7 (h : Args m c X A B g W1 W3) : (dats m 0 c).arrAt 7 cfg0.N
    = val_main_v44 (F := Ideal) (m (Thread.loc (Dev.tc c) main_arg0)) (m (Thread.loc (Dev.tc c) main_arg1))
        (m (Thread.loc (Dev.tc c) main_arg2)) (m (Thread.loc (Dev.tc c) main_arg3)) (m (Thread.loc (Dev.tc c) main_arg4))
        (m (Thread.loc (Dev.tc c) main_arg5)) (m (Thread.loc (Dev.tc c) main_arg6)) := by
  have point : ∀ (t : Fin cfg0.N) (y : S512x1024.Idx) (e : S4096x1024.Idx), e = ix2 (row t (y 0)) (y 1) →
      (outsAt0 m c t.val t.isLt).1 y = val_main_v44 (F := Ideal) (m (Thread.loc (Dev.tc c) main_arg0))
        (m (Thread.loc (Dev.tc c) main_arg1)) (m (Thread.loc (Dev.tc c) main_arg2)) (m (Thread.loc (Dev.tc c) main_arg3))
        (m (Thread.loc (Dev.tc c) main_arg4)) (m (Thread.loc (Dev.tc c) main_arg5)) (m (Thread.loc (Dev.tc c) main_arg6)) e := by
    intro t y e he
    obtain ⟨r, l, rfl⟩ : ∃ (r : Fin 512) (l : Fin 1024), y = ix2 r l := ⟨y 0, y 1, eq_ix2 y⟩
    obtain rfl : e = ix2 (row t r) l := he
    rw [Cert.FfnInRefIdeal.Proof.dx_apply h.x h.a h.b h.g h.w1 h.w3,
      dx_apply (fun _ _ => rfl) h.x h.a h.b h.g h.w1 h.w3]
  refine (dats m 0 c).arrAt_eq_of_covers 7 _ (by decide +kernel) fun t _ y => ?_
  blk_simp
  rw [after0_7]
  refine point t y _ ?_
  unfold row
  blk_ext [idx t]

/-- The second result array is the reference's. -/
theorem result8 (h : Args m c X A B g W1 W3) : (dats m 0 c).arrAt 8 cfg0.N
    = val_main_v45 (F := Ideal) (m (Thread.loc (Dev.tc c) main_arg1))
        (m (Thread.loc (Dev.tc c) main_arg2)) (m (Thread.loc (Dev.tc c) main_arg3))
        (m (Thread.loc (Dev.tc c) main_arg5)) (m (Thread.loc (Dev.tc c) main_arg6)) := by
  have point : ∀ (y e : S1x1024.Idx), e = y →
      (outsAt0 m c t0_7.val t0_7.isLt).2 y = val_main_v45 (F := Ideal) (m (Thread.loc (Dev.tc c) main_arg1))
        (m (Thread.loc (Dev.tc c) main_arg2)) (m (Thread.loc (Dev.tc c) main_arg3))
        (m (Thread.loc (Dev.tc c) main_arg5)) (m (Thread.loc (Dev.tc c) main_arg6)) e := by
    intro y e he
    obtain ⟨l, hl⟩ : ∃ l : Fin 1024, y = ix2 0 l := ⟨y 1, by rw [eq_ix2 y]; congr 1; exact Subsingleton.elim (α := Fin 1) _ _⟩
    rw [he, hl, Cert.FfnInRefIdeal.Proof.dg_apply h.x h.a h.b h.w1 h.w3, dg_apply h.x h.a h.b h.w1 h.w3]
  refine (dats m 0 c).arrAt_eq_of_covers 8 _ (by decide +kernel) fun t hf y => ?_
  have ht : t = t0_7 := (by decide +kernel : ∀ t : Fin grid0.N, win0_8.flush t = true → t = t0_7) t hf
  blk_simp
  rw [after0_8]
  subst ht
  refine point y _ ?_
  blk_ext [idx t0_7]

/-- Kernel and reference, from memories that agree on the arguments, end with equal results. -/
theorem algebraic : Cert.algebraic_FfnInIdeal_FfnInRefIdeal_pre_ffn_in_finite := by
  intro m ρ m' ρ' hpre hag
  refine ⟨fun c => (dats m 0 c).arrAt 7 cfg0.N, fun c => (dats m 0 c).arrAt 8 cfg0.N,
    Value.run_blocks m ρ, ?_⟩
  refine (θ_run Cert.FfnInRefIdeal.defs _ _).mono (fun r h c => ?_) (Cert.FfnInRefIdeal.Value.run (F := Ideal) m' ρ')
  obtain ⟨X, A, B, g, W1, W3, hA⟩ := args_of_pre hpre c
  obtain ⟨e0, e1, e2, e3, e4, e5, e6⟩ := hag c
  refine ⟨(h c).1.trans ?_, (h c).2.1.trans ?_, (h c).2.2⟩
  · rw [Cert.FfnInRefIdeal.Read.val_main_v44_eq, e0, e1, e2, e3, e4, e5, e6]; exact (result7 hA).symm
  · rw [Cert.FfnInRefIdeal.Read.val_main_v45_eq, e1, e2, e3, e5, e6]; exact (result8 hA).symm

end Cert.FfnInIdeal.Proof

/-- The reference's frame: its run, read at the arguments; it declares no semaphore. -/
theorem Cert.FfnInRefIdeal.Proof.frame : Cert.quiescent_FfnInRefIdeal := fun m ρ _ =>
  (θ_run Cert.FfnInRefIdeal.defs _ _).mono (fun _ h => ⟨fun c => (h c).2.2, funext fun q => nomatch q⟩)
    (Cert.FfnInRefIdeal.Value.run (F := Ideal) m ρ)

end

end
-- ==== Proof.MixInKernel.lean ====
/-
  The gradient of the mixing layer with respect to its input, as the kernel leaves it: the two result arrays
  at an index, over real arguments.
-/
module

public import proofs.«01_k».proof.Proof.Gen.MixInIdeal.Value
public import proofs.«01_k».proof.Proof.Rms
public import Idealize.ShloMosaic.Lib.Pipeline.ValueKit.Point

@[expose] public section

set_option maxRecDepth 16384

noncomputable section

namespace Cert.MixInIdeal.Proof

open Cert.MixInIdeal Cert.MixInIdeal.Gen Idealize.ShloMosaic Idealize.ShloMosaic.TcCoe Idealize.SL.Sem

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0, 0] ∧ win0_6.index t = ![0, 0, 0] ∧ win0_7.index t = ![t.val, 0]
    ∧ win0_8.index t = ![0, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- The first two slots' part of the gradient that reaches the norm's output. -/
def half (c : Dev nD) (t : Fin cfg0.N) : FVec Ideal S512x1024 .f32 :=
  k0_pay4 (View.ld (iblk m c 0 t) (Rect.unit ![0, 0] ![512, 896] inb_S512x3584_S512x896_0_0))
    (View.ld (iblk m c 5 t) (Rect.unit ![0, 0, 0] ![1, 1024, 896] inb_S4x1024x896_S1x1024x896_0_0_0))
    (View.ld (iblk m c 1 t) (Rect.unit ![0, 0] ![512, 512] inb_S512x2048_S512x512_0_0))
    (View.ld (iblk m c 6 t) (Rect.unit ![0, 0, 0] ![1, 1024, 512] inb_S4x1024x512_S1x1024x512_0_0_0))
    (View.ld (iblk m c 0 t) (Rect.unit ![0, 896] ![512, 896] inb_S512x3584_S512x896_0_896))
    (View.ld (iblk m c 5 t) (Rect.unit ![1, 0, 0] ![1, 1024, 896] inb_S4x1024x896_S1x1024x896_1_0_0))
    (View.ld (iblk m c 1 t) (Rect.unit ![0, 512] ![512, 512] inb_S512x2048_S512x512_0_512))
    (View.ld (iblk m c 6 t) (Rect.unit ![1, 0, 0] ![1, 1024, 512] inb_S4x1024x512_S1x1024x512_1_0_0))

/-- The gradient that reaches the norm's output, as the body sums it at a grid point. -/
def dn (c : Dev nD) (t : Fin cfg0.N) : FVec Ideal S512x1024 .f32 :=
  k0_pay5 (half m c t)
    (View.ld (iblk m c 0 t) (Rect.unit ![0, 1792] ![512, 896] inb_S512x3584_S512x896_0_1792))
    (View.ld (iblk m c 5 t) (Rect.unit ![2, 0, 0] ![1, 1024, 896] inb_S4x1024x896_S1x1024x896_2_0_0))
    (View.ld (iblk m c 1 t) (Rect.unit ![0, 1024] ![512, 512] inb_S512x2048_S512x512_0_1024))
    (View.ld (iblk m c 6 t) (Rect.unit ![2, 0, 0] ![1, 1024, 512] inb_S4x1024x512_S1x1024x512_2_0_0))
    (View.ld (iblk m c 0 t) (Rect.unit ![0, 2688] ![512, 896] inb_S512x3584_S512x896_0_2688))
    (View.ld (iblk m c 5 t) (Rect.unit ![3, 0, 0] ![1, 1024, 896] inb_S4x1024x896_S1x1024x896_3_0_0))
    (View.ld (iblk m c 1 t) (Rect.unit ![0, 1536] ![512, 512] inb_S512x2048_S512x512_0_1536))
    (View.ld (iblk m c 6 t) (Rect.unit ![3, 0, 0] ![1, 1024, 512] inb_S4x1024x512_S1x1024x512_3_0_0))

/-- One grid point's part of the norm weight's gradient, as the body sums it. -/
def part (c : Dev nD) (t : Fin cfg0.N) : FVec Ideal S1x1024 .f32 :=
  k0_pay8 (half m c t)
    (View.ld (iblk m c 0 t) (Rect.unit ![0, 1792] ![512, 896] inb_S512x3584_S512x896_0_1792))
    (View.ld (iblk m c 5 t) (Rect.unit ![2, 0, 0] ![1, 1024, 896] inb_S4x1024x896_S1x1024x896_2_0_0))
    (View.ld (iblk m c 1 t) (Rect.unit ![0, 1024] ![512, 512] inb_S512x2048_S512x512_0_1024))
    (View.ld (iblk m c 6 t) (Rect.unit ![2, 0, 0] ![1, 1024, 512] inb_S4x1024x512_S1x1024x512_2_0_0))
    (View.ld (iblk m c 0 t) (Rect.unit ![0, 2688] ![512, 896] inb_S512x3584_S512x896_0_2688))
    (View.ld (iblk m c 5 t) (Rect.unit ![3, 0, 0] ![1, 1024, 896] inb_S4x1024x896_S1x1024x896_3_0_0))
    (View.ld (iblk m c 1 t) (Rect.unit ![0, 1536] ![512, 512] inb_S512x2048_S512x512_0_1536))
    (View.ld (iblk m c 6 t) (Rect.unit ![3, 0, 0] ![1, 1024, 512] inb_S4x1024x512_S1x1024x512_3_0_0))
    (iblk m c 2 t)

/-- What the body leaves in the row block of the first result. -/
theorem out7 (c : Dev nD) (t : Fin cfg0.N) : (outsAt0 m c t.val t.isLt).1
    = k0_pay2 (dn m c t) (iblk m c 4 t) (k0_pay6 (iblk m c 2 t)) (k0_pay7 (iblk m c 2 t)) (iblk m c 3 t) := by
  by_cases h : t.val % 8 = 0
  · rw [outsAt0_A m c t h]; frame_out; rfl
  · rw [outsAt0_B m c t h]; frame_out; rfl

/-- The second result at the first grid point. -/
theorem out8_first (c : Dev nD) (t : Fin cfg0.N) (h : t.val % 8 = 0) : (outsAt0 m c t.val t.isLt).2
    = k0_pay1 (part m c t) (k0_pay3 (F := Ideal)) := by
  rw [outsAt0_A m c t h]; frame_out; rfl

/-- The second result at a later grid point, from the point before it. -/
theorem out8_next (c : Dev nD) (t : Fin cfg0.N) (h : ¬t.val % 8 = 0) : (outsAt0 m c t.val t.isLt).2
    = k0_pay1 (part m c t) (outsAt0 m c (t.val - 1) (Nat.lt_of_le_of_lt (Nat.sub_le _ _) t.isLt)).2 := by
  rw [outsAt0_B m c t h]; frame_out; rfl

theorem iblk0 (c : Dev nD) (t : Fin cfg0.N) (r : Fin 512) (k : Fin 3584) :
    iblk m c 0 t (ix2 r k) = m (Thread.loc (Dev.tc c) main_arg0) (ix2 (row t r) k) := by
  unfold row; blk_ext! [iblk, V, idx t]

theorem iblk1 (c : Dev nD) (t : Fin cfg0.N) (r : Fin 512) (k : Fin 2048) :
    iblk m c 1 t (ix2 r k) = m (Thread.loc (Dev.tc c) main_arg1) (ix2 (row t r) k) := by
  unfold row; blk_ext! [iblk, V, idx t]

theorem iblk2 (c : Dev nD) (t : Fin cfg0.N) (r : Fin 512) (l : Fin 1024) :
    iblk m c 2 t (ix2 r l) = m (Thread.loc (Dev.tc c) main_arg2) (ix2 (row t r) l) := by
  unfold row; blk_ext! [iblk, V, idx t]

theorem iblk3 (c : Dev nD) (t : Fin cfg0.N) (r : Fin 512) (l : Fin 1024) :
    iblk m c 3 t (ix2 r l) = m (Thread.loc (Dev.tc c) main_arg3) (ix2 (row t r) l) := by
  unfold row; blk_ext! [iblk, V, idx t]

theorem iblk4 (c : Dev nD) (t : Fin cfg0.N) (r : Fin 1) (l : Fin 1024) :
    iblk m c 4 t (ix2 r l) = m (Thread.loc (Dev.tc c) main_arg4) (ix2 r l) := by
  blk_ext! [iblk, V, idx t]

theorem iblk5 (c : Dev nD) (t : Fin cfg0.N) (k : Fin 4) (l : Fin 1024) (j : Fin 896) :
    iblk m c 5 t (ix3 k l j) = m (Thread.loc (Dev.tc c) main_arg5) (ix2 l ⟨k.val * 896 + j.val, by omega⟩) := by
  blk_ext! [iblk, V, idx t]

theorem iblk6 (c : Dev nD) (t : Fin cfg0.N) (k : Fin 4) (l : Fin 1024) (j : Fin 512) :
    iblk m c 6 t (ix3 k l j) = m (Thread.loc (Dev.tc c) main_arg6) (ix2 l ⟨k.val * 512 + j.val, by omega⟩) := by
  blk_ext! [iblk, V, idx t]

section Real

variable {m} {c : Dev nD} {H : Fin 4096 → Fin 1024 → EReal} {X : Fin 4096 → Fin 1024 → ℝ} {P : Fin 4096 → Fin 3584 → ℝ}
  {G : Fin 4096 → Fin 2048 → ℝ} {g : Fin 1024 → ℝ} {W : Fin 1024 → Fin 3584 → ℝ} {V : Fin 1024 → Fin 2048 → ℝ}

/-- The four slots' products are the two whole products. -/
theorem dn_apply (hP : ∀ i k, m (Thread.loc (Dev.tc c) main_arg0) (ix2 i k) = (P i k : EReal))
    (hG : ∀ i k, m (Thread.loc (Dev.tc c) main_arg1) (ix2 i k) = (G i k : EReal))
    (hW : ∀ i k, m (Thread.loc (Dev.tc c) main_arg5) (ix2 i k) = (W i k : EReal))
    (hV : ∀ i k, m (Thread.loc (Dev.tc c) main_arg6) (ix2 i k) = (V i k : EReal))
    (t : Fin cfg0.N) (r : Fin 512) (l : Fin 1024) :
    dn m c t (ix2 r l) = (Rms.two G V P W (row t r) l : EReal) := by
  unfold dn half
  pointwise [k0_pay5, k0_pay4]
  simp only [iblk0, iblk1, iblk5, iblk6, hP, hG, hW, hV, ← EReal.coe_mul, Reals.coe_sum, ← EReal.coe_add]
  congr 1
  unfold Rms.two
  rw [← Fin.sum_mul_add_fin 4 512 fun k => G (row t r) k * V l k, ← Fin.sum_mul_add_fin 4 896 fun k => P (row t r) k * W l k,
    Fin.sum_univ_four, Fin.sum_univ_four]
  simp only [Fin.isValue, Fin.coe_ofNat_eq_mod, Nat.reduceMod, Nat.reduceMul, Nat.zero_mul, Nat.zero_add, Nat.one_mul]
  ring
/-- The first result's row block at an index. -/
theorem dx_apply (hP : ∀ i k, m (Thread.loc (Dev.tc c) main_arg0) (ix2 i k) = (P i k : EReal))
    (hG : ∀ i k, m (Thread.loc (Dev.tc c) main_arg1) (ix2 i k) = (G i k : EReal))
    (hX : ∀ i l, m (Thread.loc (Dev.tc c) main_arg2) (ix2 i l) = (X i l : EReal))
    (hH : ∀ i l, m (Thread.loc (Dev.tc c) main_arg3) (ix2 i l) = H i l)
    (hg : ∀ l, m (Thread.loc (Dev.tc c) main_arg4) (ix2 0 l) = (g l : EReal))
    (hW : ∀ i k, m (Thread.loc (Dev.tc c) main_arg5) (ix2 i k) = (W i k : EReal))
    (hV : ∀ i k, m (Thread.loc (Dev.tc c) main_arg6) (ix2 i k) = (V i k : EReal))
    (t : Fin cfg0.N) (r : Fin 512) (l : Fin 1024) :
    (outsAt0 m c t.val t.isLt).1 (ix2 r l) = H (row t r) l
      + (Rms.dx (Rms.two G V P W (row t r)) (X (row t r)) g l : EReal) := by
  rw [out7]
  pointwise [k0_pay2, k0_pay6, k0_pay7]
  simp only [iblk2, iblk3, iblk4, dn_apply hP hG hW hV, hH, hX, hg, Rms.r_coe]
  rw [Rms.dx_coe]

/-- One grid point's part of the norm weight's gradient, at an index. -/
theorem part_apply (hP : ∀ i k, m (Thread.loc (Dev.tc c) main_arg0) (ix2 i k) = (P i k : EReal))
    (hG : ∀ i k, m (Thread.loc (Dev.tc c) main_arg1) (ix2 i k) = (G i k : EReal))
    (hX : ∀ i l, m (Thread.loc (Dev.tc c) main_arg2) (ix2 i l) = (X i l : EReal))
    (hW : ∀ i k, m (Thread.loc (Dev.tc c) main_arg5) (ix2 i k) = (W i k : EReal))
    (hV : ∀ i k, m (Thread.loc (Dev.tc c) main_arg6) (ix2 i k) = (V i k : EReal))
    (t : Fin cfg0.N) (l : Fin 1024) : part m c t (ix2 0 l)
      = ((∑ r : Fin 512, Rms.two G V P W (row t r) l * (X (row t r) l * Rms.r (X (row t r))) : ℝ) : EReal) := by
  have hd := dn_apply hP hG hW hV t
  unfold dn at hd
  unfold part
  pointwise [k0_pay8, k0_pay7, k0_pay6]
  simp only [iblk2, hd, hX, Rms.r_coe]
  simp only [← EReal.coe_mul, Reals.coe_sum]

/-- One grid point's step of the norm weight's gradient. -/
theorem dg_step (hP : ∀ i k, m (Thread.loc (Dev.tc c) main_arg0) (ix2 i k) = (P i k : EReal))
    (hG : ∀ i k, m (Thread.loc (Dev.tc c) main_arg1) (ix2 i k) = (G i k : EReal))
    (hX : ∀ i l, m (Thread.loc (Dev.tc c) main_arg2) (ix2 i l) = (X i l : EReal))
    (hW : ∀ i k, m (Thread.loc (Dev.tc c) main_arg5) (ix2 i k) = (W i k : EReal))
    (hV : ∀ i k, m (Thread.loc (Dev.tc c) main_arg6) (ix2 i k) = (V i k : EReal))
    (t : Fin cfg0.N) (u : Vec Ideal S1x1024 .f32) (l : Fin 1024) : k0_pay1 (part m c t) u (ix2 0 l)
      = u (ix2 0 l) + ((∑ r : Fin 512, Rms.two G V P W (row t r) l * (X (row t r) l * Rms.r (X (row t r))) : ℝ) : EReal) := by
  pointwise [k0_pay1]
  rw [part_apply hP hG hX hW hV]

/-- A sum over the grid's points and a block's rows is the sum over all rows. -/
theorem sum_rows (f : Fin 4096 → ℝ) : ∑ t : Fin cfg0.N, ∑ r : Fin 512, f (row t r) = ∑ i, f i :=
  Fin.sum_mul_add_congr (S := 8) (n := 512) fun _ _ _ => rfl

/-- The second result at an index: the norm weight's gradient, summed over all rows. -/
theorem dg_apply (hP : ∀ i k, m (Thread.loc (Dev.tc c) main_arg0) (ix2 i k) = (P i k : EReal))
    (hG : ∀ i k, m (Thread.loc (Dev.tc c) main_arg1) (ix2 i k) = (G i k : EReal))
    (hX : ∀ i l, m (Thread.loc (Dev.tc c) main_arg2) (ix2 i l) = (X i l : EReal))
    (hW : ∀ i k, m (Thread.loc (Dev.tc c) main_arg5) (ix2 i k) = (W i k : EReal))
    (hV : ∀ i k, m (Thread.loc (Dev.tc c) main_arg6) (ix2 i k) = (V i k : EReal))
    (l : Fin 1024) :
    (outsAt0 m c t0_7.val t0_7.isLt).2 (ix2 0 l)
      = ((∑ i : Fin 4096, Rms.two G V P W i l * (X i l * Rms.r (X i)) : ℝ) : EReal) := by
  have h := Pipeline.eq_sum_fin_of_reset_step_apply_last (fun n h (l : Fin 1024) => (outsAt0 m c n h).2 (ix2 0 l)) 8
    (fun _ => (0 : EReal))
    (fun t l => ((∑ r : Fin 512, Rms.two G V P W (row t r) l * (X (row t r) l * Rms.r (X (row t r))) : ℝ) : EReal))
    (fun t h l => by
      beta_reduce; rw [out8_first m c t h, dg_step hP hG hX hW hV]; congr 1; pointwise [k0_pay3])
    (fun t h l => by beta_reduce; rw [out8_next m c t h, dg_step hP hG hX hW hV]) (le_of_eq Gen.N_0) t0_7 rfl l
  beta_reduce at h
  rw [h, zero_add, Reals.coe_sum, sum_rows fun i => Rms.two G V P W i l * (X i l * Rms.r (X i))]

end Real

end Cert.MixInIdeal.Proof

end

end
-- ==== Proof.MixInRef.lean ====
/-
  The gradient of the mixing layer with respect to its input, as reverse differentiation leaves it: the two
  results of the reference at an index, over real arguments.
-/
module

public import proofs.«01_k».proof.Proof.Gen.MixInRefIdeal.Run
public import proofs.«01_k».proof.Proof.Gen.MixInRefIdeal.Read
public import proofs.«01_k».proof.Proof.Rms

@[expose] public section

set_option maxRecDepth 16384

noncomputable section

namespace Cert.MixInRefIdeal.Proof

open Cert.MixInRefIdeal Cert.MixInRefIdeal.Read Idealize.ShloMosaic Idealize.ShloMosaic.TcCoe

variable {dp : FVec Ideal S4096x3584 .bf16} {dq : FVec Ideal S4096x2048 .bf16} {x dh : FVec Ideal S4096x1024 .f32}
  {g : FVec Ideal S1x1024 .f32} {w : FVec Ideal S1024x3584 .f32} {v : FVec Ideal S1024x2048 .f32}
  {X : Fin 4096 → Fin 1024 → ℝ} {P : Fin 4096 → Fin 3584 → ℝ} {Q : Fin 4096 → Fin 2048 → ℝ}
  {G : Fin 1024 → ℝ} {W : Fin 1024 → Fin 3584 → ℝ} {V : Fin 1024 → Fin 2048 → ℝ}

theorem dn_apply (hP : ∀ i k, dp (ix2 i k) = (P i k : EReal)) (hQ : ∀ i k, dq (ix2 i k) = (Q i k : EReal))
    (hW : ∀ i k, w (ix2 i k) = (W i k : EReal)) (hV : ∀ i k, v (ix2 i k) = (V i k : EReal))
    (i : Fin 4096) (l : Fin 1024) : val_main_v23 (F := Ideal) dp dq w v (ix2 i l) = (Rms.two Q V P W i l : EReal) := by
  pointwise [val_main_v23, val_main_v22, val_main_v21, val_main_v20, val_main_v19]
  simp only [hP, hQ, hW, hV, ← EReal.coe_mul, Reals.coe_sum, ← EReal.coe_add]
  rfl

theorem v_apply (hX : ∀ i l, x (ix2 i l) = (X i l : EReal)) (i : Fin 4096) (q : Fin 1) :
    val_main_v7 (F := Ideal) x (ix2 i q) = (Rms.v (X i) : EReal) := by
  pointwise [val_main_v7, val_main_v6, val_main_v5, val_main_v4, val_main_v3, val_main_v2, val_main_v1, val_main_cst,
    val_main_cst_0, val_main_cst_1]
  simp only [hX, Rms.v_coe]

theorem r_apply (hX : ∀ i l, x (ix2 i l) = (X i l : EReal)) (i : Fin 4096) (q : Fin 1) :
    val_main_v8 (F := Ideal) x (ix2 i q) = (Rms.r (X i) : EReal) := by
  pointwise [val_main_v8]
  rw [v_apply hX, Reals.rsqrt_real (Rms.v_pos _)]; rfl

theorem dx_apply (hX : ∀ i l, x (ix2 i l) = (X i l : EReal))
    (hP : ∀ i k, dp (ix2 i k) = (P i k : EReal)) (hQ : ∀ i k, dq (ix2 i k) = (Q i k : EReal))
    (hg : ∀ l, g (ix2 0 l) = (G l : EReal))
    (hW : ∀ i k, w (ix2 i k) = (W i k : EReal)) (hV : ∀ i k, v (ix2 i k) = (V i k : EReal))
    (i : Fin 4096) (l : Fin 1024) : val_main_v44 (F := Ideal) dp dq x dh g w v (ix2 i l)
      = dh (ix2 i l) + (Rms.dx (Rms.two Q V P W i) (X i) G l : EReal) := by
  pointwise [val_main_v44, val_main_v43, val_main_v42, val_main_v41, val_main_v40, val_main_v39, val_main_v38,
    val_main_v37, val_main_v36, val_main_v35, val_main_v34, val_main_v33, val_main_v32, val_main_v31, val_main_v30,
    val_main_v28, val_main_v27, val_main_v14, val_main_v0, val_main_v11, val_main_v9, val_main_v10,
    val_main_cst_2, val_main_cst_5, val_main_cst_6, val_main_cst_7]
  simp only [hX, hg, dn_apply hP hQ hW hV, r_apply hX, v_apply hX]
  simp only [← EReal.coe_mul, Reals.coe_sum]
  simp only [Finset.univ_unique, Finset.sum_const, Finset.card_singleton, one_smul]
  rw [Rms.back_coe, Rms.dx_eq]
  simp only [← EReal.coe_mul, add_assoc, ← EReal.coe_add]
  congr 2
  ring

theorem dg_apply (hX : ∀ i l, x (ix2 i l) = (X i l : EReal))
    (hP : ∀ i k, dp (ix2 i k) = (P i k : EReal)) (hQ : ∀ i k, dq (ix2 i k) = (Q i k : EReal))
    (hW : ∀ i k, w (ix2 i k) = (W i k : EReal)) (hV : ∀ i k, v (ix2 i k) = (V i k : EReal))
    (l : Fin 1024) : val_main_v45 (F := Ideal) dp dq x w v (ix2 0 l)
      = ((∑ i : Fin 4096, Rms.two Q V P W i l * (X i l * Rms.r (X i)) : ℝ) : EReal) := by
  pointwise [val_main_v45, val_main_v29, val_main_v26, val_main_v25, val_main_v24, val_main_v13, val_main_v12,
    val_main_cst_3, val_main_cst_4]
  simp only [hX, dn_apply hP hQ hW hV, r_apply hX]
  simp only [← EReal.coe_mul, Reals.coe_sum, EReal.coe_eq_coe_iff]
  simp only [Finset.univ_unique, Finset.sum_const, Finset.card_singleton, one_smul]
  exact Finset.sum_congr rfl fun i _ => by ring

end Cert.MixInRefIdeal.Proof

end

end
-- ==== Proof.MixInClaim.lean ====
/-
  The gradient of the mixing layer with respect to its input: kernel and reference end with the same arrays.
-/
module

public import proofs.«01_k».proof.Defs
public import proofs.«01_k».proof.Proof.MixInKernel
public import proofs.«01_k».proof.Proof.MixInRef
public import proofs.«01_k».proof.Proof.Gen.Pre_mix_in_finite

@[expose] public section

set_option maxRecDepth 16384

noncomputable section

open Idealize.ShloMosaic Idealize.SL.Sem

namespace Cert.MixInIdeal.Proof

open Cert.MixInIdeal Cert.MixInIdeal.Gen Idealize.ShloMosaic Idealize.ShloMosaic.TcCoe Idealize.SL.Sem
open Cert.MixInRefIdeal.Read (val_main_v44 val_main_v45)

/-- Under the precondition every element of the norm's and the products' arguments is a real number. -/
structure Args (m : (ℓ : Loc nD τ sig) → Buf (Elt Ideal) ℓ) (c : Dev nD) (P : Fin 4096 → Fin 3584 → ℝ)
    (Q : Fin 4096 → Fin 2048 → ℝ) (X : Fin 4096 → Fin 1024 → ℝ) (g : Fin 1024 → ℝ) (W : Fin 1024 → Fin 3584 → ℝ)
    (V : Fin 1024 → Fin 2048 → ℝ) : Prop where
  p : ∀ i k, m (Thread.loc (Dev.tc c) main_arg0) (ix2 i k) = (P i k : EReal)
  q : ∀ i k, m (Thread.loc (Dev.tc c) main_arg1) (ix2 i k) = (Q i k : EReal)
  x : ∀ i l, m (Thread.loc (Dev.tc c) main_arg2) (ix2 i l) = (X i l : EReal)
  g : ∀ l, m (Thread.loc (Dev.tc c) main_arg4) (ix2 0 l) = (g l : EReal)
  w : ∀ i k, m (Thread.loc (Dev.tc c) main_arg5) (ix2 i k) = (W i k : EReal)
  v : ∀ i k, m (Thread.loc (Dev.tc c) main_arg6) (ix2 i k) = (V i k : EReal)

theorem args_of_pre {m : (ℓ : Loc nD τ sig) → Buf (Elt Ideal) ℓ} (h : Cert.Pre_MixInIdeal_mix_in_finite m) (c : Dev nD) :
    ∃ P Q X g W V, Args m c P Q X g W V := by
  obtain ⟨h1, h2, h3, h4, h5, h6⟩ := h c
  exact ⟨_, _, _, _, _, _, fun _ _ => Reals.real_of_test h1 (fun _ => rfl) _, fun _ _ => Reals.real_of_test h2 (fun _ => rfl) _,
    fun _ _ => Reals.real_of_test h3 (fun _ => rfl) _, fun _ => Reals.real_of_test h4 (fun _ => rfl) _,
    fun _ _ => Reals.real_of_test h5 (fun _ => rfl) _, fun _ _ => Reals.real_of_test h6 (fun _ => rfl) _⟩

variable {m : (ℓ : Loc nD τ sig) → Buf (Elt Ideal) ℓ} {c : Dev nD} {P : Fin 4096 → Fin 3584 → ℝ}
  {Q : Fin 4096 → Fin 2048 → ℝ} {X : Fin 4096 → Fin 1024 → ℝ} {g : Fin 1024 → ℝ} {W : Fin 1024 → Fin 3584 → ℝ}
  {V : Fin 1024 → Fin 2048 → ℝ}

/-- The first result array is the reference's. -/
theorem result7 (h : Args m c P Q X g W V) : (dats m 0 c).arrAt 7 cfg0.N
    = val_main_v44 (F := Ideal) (m (Thread.loc (Dev.tc c) main_arg0)) (m (Thread.loc (Dev.tc c) main_arg1))
        (m (Thread.loc (Dev.tc c) main_arg2)) (m (Thread.loc (Dev.tc c) main_arg3)) (m (Thread.loc (Dev.tc c) main_arg4))
        (m (Thread.loc (Dev.tc c) main_arg5)) (m (Thread.loc (Dev.tc c) main_arg6)) := by
  have point : ∀ (t : Fin cfg0.N) (y : S512x1024.Idx) (e : S4096x1024.Idx), e = ix2 (row t (y 0)) (y 1) →
      (outsAt0 m c t.val t.isLt).1 y = val_main_v44 (F := Ideal) (m (Thread.loc (Dev.tc c) main_arg0))
        (m (Thread.loc (Dev.tc c) main_arg1)) (m (Thread.loc (Dev.tc c) main_arg2)) (m (Thread.loc (Dev.tc c) main_arg3))
        (m (Thread.loc (Dev.tc c) main_arg4)) (m (Thread.loc (Dev.tc c) main_arg5)) (m (Thread.loc (Dev.tc c) main_arg6)) e := by
    intro t y e he
    obtain ⟨r, l, rfl⟩ : ∃ (r : Fin 512) (l : Fin 1024), y = ix2 r l := ⟨y 0, y 1, eq_ix2 y⟩
    obtain rfl : e = ix2 (row t r) l := he
    rw [Cert.MixInRefIdeal.Proof.dx_apply h.x h.p h.q h.g h.w h.v,
      dx_apply h.p h.q h.x (fun _ _ => rfl) h.g h.w h.v]
  refine (dats m 0 c).arrAt_eq_of_covers 7 _ (by decide +kernel) fun t _ y => ?_
  blk_simp
  rw [after0_7]
  refine point t y _ ?_
  unfold row
  blk_ext [idx t]

/-- The second result array is the reference's. -/
theorem result8 (h : Args m c P Q X g W V) : (dats m 0 c).arrAt 8 cfg0.N
    = val_main_v45 (F := Ideal) (m (Thread.loc (Dev.tc c) main_arg0))
        (m (Thread.loc (Dev.tc c) main_arg1)) (m (Thread.loc (Dev.tc c) main_arg2))
        (m (Thread.loc (Dev.tc c) main_arg5)) (m (Thread.loc (Dev.tc c) main_arg6)) := by
  have point : ∀ (y e : S1x1024.Idx), e = y →
      (outsAt0 m c t0_7.val t0_7.isLt).2 y = val_main_v45 (F := Ideal) (m (Thread.loc (Dev.tc c) main_arg0))
        (m (Thread.loc (Dev.tc c) main_arg1)) (m (Thread.loc (Dev.tc c) main_arg2))
        (m (Thread.loc (Dev.tc c) main_arg5)) (m (Thread.loc (Dev.tc c) main_arg6)) e := by
    intro y e he
    obtain ⟨l, hl⟩ : ∃ l : Fin 1024, y = ix2 0 l := ⟨y 1, by rw [eq_ix2 y]; congr 1; exact Subsingleton.elim (α := Fin 1) _ _⟩
    rw [he, hl, Cert.MixInRefIdeal.Proof.dg_apply h.x h.p h.q h.w h.v, dg_apply h.p h.q h.x h.w h.v]
  refine (dats m 0 c).arrAt_eq_of_covers 8 _ (by decide +kernel) fun t hf y => ?_
  have ht : t = t0_7 := (by decide +kernel : ∀ t : Fin grid0.N, win0_8.flush t = true → t = t0_7) t hf
  blk_simp
  rw [after0_8]
  subst ht
  refine point y _ ?_
  blk_ext [idx t0_7]

/-- Kernel and reference, from memories that agree on the arguments, end with equal results. -/
theorem algebraic : Cert.algebraic_MixInIdeal_MixInRefIdeal_pre_mix_in_finite := by
  intro m ρ m' ρ' hpre hag
  refine ⟨fun c => (dats m 0 c).arrAt 7 cfg0.N, fun c => (dats m 0 c).arrAt 8 cfg0.N,
    Value.run_blocks m ρ, ?_⟩
  refine (θ_run Cert.MixInRefIdeal.defs _ _).mono (fun r h c => ?_) (Cert.MixInRefIdeal.Value.run (F := Ideal) m' ρ')
  obtain ⟨P, Q, X, g, W, V, hA⟩ := args_of_pre hpre c
  obtain ⟨e0, e1, e2, e3, e4, e5, e6⟩ := hag c
  refine ⟨(h c).1.trans ?_, (h c).2.1.trans ?_, (h c).2.2⟩
  · rw [Cert.MixInRefIdeal.Read.val_main_v44_eq, e0, e1, e2, e3, e4, e5, e6]; exact (result7 hA).symm
  · rw [Cert.MixInRefIdeal.Read.val_main_v45_eq, e0, e1, e2, e5, e6]; exact (result8 hA).symm

end Cert.MixInIdeal.Proof

/-- The reference's frame: its run, read at the arguments; it declares no semaphore. -/
theorem Cert.MixInRefIdeal.Proof.frame : Cert.quiescent_MixInRefIdeal := fun m ρ _ =>
  (θ_run Cert.MixInRefIdeal.defs _ _).mono (fun _ h => ⟨fun c => (h c).2.2, funext fun q => nomatch q⟩)
    (Cert.MixInRefIdeal.Value.run (F := Ideal) m ρ)

end

end
-- ==== Proof.FfnBlock.lean ====
/-
  A feed-forward block and its gradients over the reals: pre-norm, two input products, SwiGLU gate, output product and
  post-norm, with half of the result added to the block's input.
-/
module

public import proofs.«01_k».proof.Proof.Rms

@[expose] public section

noncomputable section

/-- The arguments of a feed-forward block's gradient. -/
structure FfnBlock where
  /-- the cotangent of the block's result -/
  d : Fin 4096 → Fin 1024 → ℝ
  x : Fin 4096 → Fin 1024 → ℝ
  g : Fin 1024 → ℝ
  w1 : Fin 1024 → Fin 2816 → ℝ
  w3 : Fin 1024 → Fin 2816 → ℝ
  w2 : Fin 2816 → Fin 1024 → ℝ
  q : Fin 1024 → ℝ

namespace FfnBlock

open Idealize.ShloMosaic

variable (p : FfnBlock)

/-- The logistic function. -/
def sg (x : ℝ) : ℝ := (1 + Real.exp (-x))⁻¹

theorem sg_coe (x : ℝ) : Ideal.div 1 (1 + Ideal.exp (-(x : EReal))) = (sg x : EReal) := by
  have h : (1 + Real.exp (-x)) ≠ 0 := by positivity
  rw [← EReal.coe_one, ← EReal.coe_neg, Ideal.exp_coe, ← EReal.coe_add, Ideal.div_coe h]; simp [sg]

/-- The pre-norm's output. -/
def n (i : Fin 4096) (l : Fin 1024) : ℝ := p.x i l * Rms.r (p.x i) * p.g l
/-- The two input products. -/
def a (i : Fin 4096) (k : Fin 2816) : ℝ := ∑ l, p.n i l * p.w1 l k
def b (i : Fin 4096) (k : Fin 2816) : ℝ := ∑ l, p.n i l * p.w3 l k
/-- The gated product. -/
def h (i : Fin 4096) (k : Fin 2816) : ℝ := p.a i k * sg (p.a i k) * p.b i k
/-- The output product. -/
def f (i : Fin 4096) (l : Fin 1024) : ℝ := ∑ k, p.h i k * p.w2 k l
/-- The cotangent of the output product. -/
def df (i : Fin 4096) (l : Fin 1024) : ℝ := Rms.dx (fun l => 1 / 2 * p.d i l) (p.f i) p.q l
/-- The post-norm weight's gradient. -/
def dq (l : Fin 1024) : ℝ := ∑ i, 1 / 2 * p.d i l * (p.f i l * Rms.r (p.f i))
/-- The cotangent of the gated product. -/
def dh (i : Fin 4096) (k : Fin 2816) : ℝ := ∑ l, p.df i l * p.w2 k l
/-- The cotangents of the input products. -/
def da (i : Fin 4096) (k : Fin 2816) : ℝ :=
  p.dh i k * p.b i k * (sg (p.a i k) * (1 + p.a i k * (1 - sg (p.a i k))))
def db (i : Fin 4096) (k : Fin 2816) : ℝ := p.dh i k * (p.a i k * sg (p.a i k))
/-- The two cotangents as a kernel's body computes them. -/
theorem da_coe (i : Fin 4096) (k : Fin 2816) :
    (∑ l, (p.df i l : EReal) * (p.w2 k l : EReal)) * (p.b i k : EReal)
      * (Ideal.logistic (p.a i k : EReal) * (1 + (p.a i k : EReal) * (1 - Ideal.logistic (p.a i k : EReal))))
      = (p.da i k : EReal) := by
  simp only [Ideal.logistic_coe, ← EReal.coe_mul, Reals.coe_sum, ← EReal.coe_one, ← EReal.coe_sub, ← EReal.coe_add]; rfl
theorem db_coe (i : Fin 4096) (k : Fin 2816) :
    (∑ l, (p.df i l : EReal) * (p.w2 k l : EReal)) * ((p.a i k : EReal) * Ideal.logistic (p.a i k : EReal))
      = (p.db i k : EReal) := by
  simp only [Ideal.logistic_coe, ← EReal.coe_mul, Reals.coe_sum]; rfl
/-- The cotangent of the pre-norm's output. -/
def dn (i : Fin 4096) (l : Fin 1024) : ℝ := Rms.two p.db p.w3 p.da p.w1 i l
/-- The cotangent of the block's input. -/
def dx (i : Fin 4096) (l : Fin 1024) : ℝ := p.d i l + Rms.dx (p.dn i) (p.x i) p.g l
/-- The pre-norm weight's gradient. -/
def dg (l : Fin 1024) : ℝ := ∑ i, p.dn i l * (p.x i l * Rms.r (p.x i))

end FfnBlock

end

end
-- ==== Proof.FfnRef.lean ====
/-
  The gradients of a feed-forward block, as reverse differentiation leaves them: the results of the reference at an index,
  over real arguments.
-/
module

public import proofs.«01_k».proof.Proof.Gen.FfnRefIdeal.Run
public import proofs.«01_k».proof.Proof.Gen.FfnRefIdeal.Read
public import proofs.«01_k».proof.Proof.FfnBlock

@[expose] public section

set_option maxRecDepth 16384

noncomputable section

namespace Cert.FfnRefIdeal.Proof

open Cert.FfnRefIdeal Cert.FfnRefIdeal.Read Idealize.ShloMosaic Idealize.ShloMosaic.TcCoe

/-- The seven argument arrays hold a block's real arguments. -/
structure Holds (p : FfnBlock) (x0 x1 : FVec Ideal S4096x1024 .f32) (x2 : FVec Ideal S1x1024 .f32)
    (x3 x4 : FVec Ideal S1024x2816 .f32) (x5 : FVec Ideal S2816x1024 .f32) (x6 : FVec Ideal S1x1024 .f32) : Prop where
  d : ∀ i l, x0 (ix2 i l) = (p.d i l : EReal)
  x : ∀ i l, x1 (ix2 i l) = (p.x i l : EReal)
  g : ∀ l, x2 (ix2 0 l) = (p.g l : EReal)
  w1 : ∀ l k, x3 (ix2 l k) = (p.w1 l k : EReal)
  w3 : ∀ l k, x4 (ix2 l k) = (p.w3 l k : EReal)
  w2 : ∀ k l, x5 (ix2 k l) = (p.w2 k l : EReal)
  q : ∀ l, x6 (ix2 0 l) = (p.q l : EReal)

variable {p : FfnBlock} {x0 x1 : FVec Ideal S4096x1024 .f32} {x2 : FVec Ideal S1x1024 .f32}
  {x3 x4 : FVec Ideal S1024x2816 .f32} {x5 : FVec Ideal S2816x1024 .f32} {x6 : FVec Ideal S1x1024 .f32}

theorem v_apply (h : Holds p x0 x1 x2 x3 x4 x5 x6) (i : Fin 4096) (e : Fin 1) :
    val_main_v9 (F := Ideal) x1 (ix2 i e) = (Rms.v (p.x i) : EReal) := by
  pointwise [val_main_v9, val_main_v8, val_main_v7, val_main_v6, val_main_v5, val_main_v4, val_main_v3, val_main_cst_1,
    val_main_cst_2, val_main_cst_3]
  simp only [h.x, Rms.v_coe]

theorem r_apply (h : Holds p x0 x1 x2 x3 x4 x5 x6) (i : Fin 4096) (e : Fin 1) :
    val_main_v10 (F := Ideal) x1 (ix2 i e) = (Rms.r (p.x i) : EReal) := by
  pointwise [val_main_v10]
  rw [v_apply h, Reals.rsqrt_real (Rms.v_pos _)]; rfl

theorem n_apply (h : Holds p x0 x1 x2 x3 x4 x5 x6) (i : Fin 4096) (l : Fin 1024) :
    val_main_v18 (F := Ideal) x1 x2 (ix2 i l) = (p.n i l : EReal) := by
  pointwise [val_main_v18, val_main_v17, val_main_v16, val_main_v15, val_main_v14, val_main_v2]
  simp only [h.x, h.g, r_apply h, ← EReal.coe_mul]; rfl

theorem a_apply (h : Holds p x0 x1 x2 x3 x4 x5 x6) (i : Fin 4096) (k : Fin 2816) :
    val_main_v20 (F := Ideal) x1 x2 x3 (ix2 i k) = (p.a i k : EReal) := by
  pointwise [val_main_v20, val_main_v19, val_main_v0, val_main_cst]
  simp only [n_apply h, h.w1, ← EReal.coe_mul, Reals.coe_sum]; rfl

theorem b_apply (h : Holds p x0 x1 x2 x3 x4 x5 x6) (i : Fin 4096) (k : Fin 2816) :
    val_main_v23 (F := Ideal) x1 x2 x4 (ix2 i k) = (p.b i k : EReal) := by
  pointwise [val_main_v23, val_main_v22, val_main_v0, val_main_cst]
  simp only [n_apply h, h.w3, ← EReal.coe_mul, Reals.coe_sum]; rfl

theorem sg_apply (h : Holds p x0 x1 x2 x3 x4 x5 x6) (i : Fin 4096) (k : Fin 2816) :
    val_main_v21_2 (F := Ideal) x1 x2 x3 (ix2 i k) = (FfnBlock.sg (p.a i k) : EReal) := by
  pointwise [val_main_v21_2, val_main_call0_v4, val_main_call0_v3, val_main_call0_v2, val_main_call0_v1, val_main_call0_v0,
    val_main_call0_cst, val_main_call0_cst_0]
  rw [a_apply h, FfnBlock.sg_coe]

theorem h_apply (h : Holds p x0 x1 x2 x3 x4 x5 x6) (i : Fin 4096) (k : Fin 2816) :
    val_main_v24 (F := Ideal) x1 x2 x3 x4 (ix2 i k) = (p.h i k : EReal) := by
  pointwise [val_main_v24, val_main_v21_0]
  simp only [a_apply h, b_apply h, sg_apply h, ← EReal.coe_mul]; rfl

theorem f_apply (h : Holds p x0 x1 x2 x3 x4 x5 x6) (i : Fin 4096) (l : Fin 1024) :
    val_main_v26 (F := Ideal) x1 x2 x3 x4 x5 (ix2 i l) = (p.f i l : EReal) := by
  pointwise [val_main_v26, val_main_v25, val_main_v1, val_main_cst_0]
  simp only [h_apply h, h.w2, ← EReal.coe_mul, Reals.coe_sum]; rfl

theorem vf_apply (h : Holds p x0 x1 x2 x3 x4 x5 x6) (i : Fin 4096) (e : Fin 1) :
    val_main_v34 (F := Ideal) x1 x2 x3 x4 x5 (ix2 i e) = (Rms.v (p.f i) : EReal) := by
  pointwise [val_main_v34, val_main_v33, val_main_v32, val_main_v31, val_main_v30, val_main_v29, val_main_v28, val_main_cst_5,
    val_main_cst_6, val_main_cst_7]
  simp only [f_apply h, Rms.v_coe]

theorem rf_apply (h : Holds p x0 x1 x2 x3 x4 x5 x6) (i : Fin 4096) (e : Fin 1) :
    val_main_v35 (F := Ideal) x1 x2 x3 x4 x5 (ix2 i e) = (Rms.r (p.f i) : EReal) := by
  pointwise [val_main_v35]
  rw [vf_apply h, Reals.rsqrt_real (Rms.v_pos _)]; rfl

theorem df_apply (h : Holds p x0 x1 x2 x3 x4 x5 x6) (i : Fin 4096) (l : Fin 1024) :
    val_main_v69 (F := Ideal) x0 x1 x2 x3 x4 x5 x6 (ix2 i l) = (p.df i l : EReal) := by
  pointwise [val_main_v69, val_main_v68, val_main_v67, val_main_v66, val_main_v65, val_main_v64, val_main_v63,
    val_main_v62, val_main_v61, val_main_v60, val_main_v59, val_main_v58, val_main_v57, val_main_v56, val_main_v54,
    val_main_v53, val_main_v49, val_main_v48, val_main_v47, val_main_v41, val_main_v27, val_main_v38, val_main_v36,
    val_main_v37, val_main_cst_8, val_main_cst_10, val_main_cst_13, val_main_cst_14, val_main_cst_15]
  simp only [h.d, h.q, Reals.chalf, f_apply h, rf_apply h, vf_apply h]
  simp only [← EReal.coe_mul, Reals.coe_sum]
  simp only [Finset.univ_unique, Finset.sum_const, Finset.card_singleton, one_smul]
  rw [Rms.back_coe, FfnBlock.df, Rms.dx_eq]
  simp only [← EReal.coe_mul, ← EReal.coe_add]
  congr 1
  ring

theorem dq_apply (h : Holds p x0 x1 x2 x3 x4 x5 x6) (l : Fin 1024) :
    val_main_v70 (F := Ideal) x0 x1 x2 x3 x4 x5 (ix2 0 l) = (p.dq l : EReal) := by
  pointwise [val_main_v70, val_main_v55, val_main_v52, val_main_v51, val_main_v50, val_main_v49, val_main_v48, val_main_v47,
    val_main_v40, val_main_v39, val_main_cst_10, val_main_cst_11, val_main_cst_12]
  simp only [h.d, Reals.chalf, f_apply h, rf_apply h]
  simp only [← EReal.coe_mul, Reals.coe_sum, EReal.coe_eq_coe_iff]
  simp only [Finset.univ_unique, Finset.sum_const, Finset.card_singleton, one_smul]
  exact Finset.sum_congr rfl fun i _ => by ring

theorem dh_apply (h : Holds p x0 x1 x2 x3 x4 x5 x6) (i : Fin 4096) (k : Fin 2816) :
    val_main_v71 (F := Ideal) x0 x1 x2 x3 x4 x5 x6 (ix2 i k) = (p.dh i k : EReal) := by
  pointwise [val_main_v71]
  simp only [df_apply h, h.w2, ← EReal.coe_mul, Reals.coe_sum]; rfl

theorem db_apply (h : Holds p x0 x1 x2 x3 x4 x5 x6) (i : Fin 4096) (k : Fin 2816) :
    val_main_v72 (F := Ideal) x0 x1 x2 x3 x4 x5 x6 (ix2 i k) = (p.db i k : EReal) := by
  pointwise [val_main_v72, val_main_v21_0]
  simp only [dh_apply h, a_apply h, sg_apply h, ← EReal.coe_mul, EReal.coe_eq_coe_iff]
  exact mul_comm _ _

theorem da_apply (h : Holds p x0 x1 x2 x3 x4 x5 x6) (i : Fin 4096) (k : Fin 2816) :
    val_main_v75 (F := Ideal) x0 x1 x2 x3 x4 x5 x6 (ix2 i k) = (p.da i k : EReal) := by
  pointwise [val_main_v75, val_main_call1_v2, val_main_call1_v1, val_main_call1_v0, val_main_v73, val_main_v21_1,
    val_main_call0_v7, val_main_call0_v6, val_main_call0_cst_1]
  simp only [dh_apply h, a_apply h, b_apply h, sg_apply h, ← EReal.coe_one, ← EReal.coe_sub, ← EReal.coe_mul, ← EReal.coe_add,
    EReal.coe_eq_coe_iff]
  unfold FfnBlock.da
  ring

theorem dn_apply (h : Holds p x0 x1 x2 x3 x4 x5 x6) (i : Fin 4096) (l : Fin 1024) :
    val_main_v77 (F := Ideal) x0 x1 x2 x3 x4 x5 x6 (ix2 i l) = (p.dn i l : EReal) := by
  pointwise [val_main_v77, val_main_v76, val_main_v74]
  simp only [da_apply h, db_apply h, h.w1, h.w3, ← EReal.coe_mul, Reals.coe_sum, ← EReal.coe_add]; rfl

theorem dx_apply (h : Holds p x0 x1 x2 x3 x4 x5 x6) (i : Fin 4096) (l : Fin 1024) :
    val_main_v98 (F := Ideal) x0 x1 x2 x3 x4 x5 x6 (ix2 i l) = (p.dx i l : EReal) := by
  pointwise [val_main_v98, val_main_v97, val_main_v96, val_main_v95, val_main_v94, val_main_v93, val_main_v92, val_main_v91,
    val_main_v90, val_main_v89, val_main_v88, val_main_v87, val_main_v86, val_main_v85, val_main_v84, val_main_v82,
    val_main_v81, val_main_v16, val_main_v2, val_main_v13, val_main_v11, val_main_v12, val_main_cst_4, val_main_cst_18,
    val_main_cst_19, val_main_cst_20]
  simp only [h.d, h.x, h.g, dn_apply h, r_apply h, v_apply h]
  simp only [← EReal.coe_mul, Reals.coe_sum]
  simp only [Finset.univ_unique, Finset.sum_const, Finset.card_singleton, one_smul]
  rw [Rms.back_coe, FfnBlock.dx, Rms.dx_eq]
  simp only [← EReal.coe_mul, ← EReal.coe_add]
  congr 1
  ring

theorem dg_apply (h : Holds p x0 x1 x2 x3 x4 x5 x6) (l : Fin 1024) :
    val_main_v99 (F := Ideal) x0 x1 x2 x3 x4 x5 x6 (ix2 0 l) = (p.dg l : EReal) := by
  pointwise [val_main_v99, val_main_v83, val_main_v80, val_main_v79, val_main_v78, val_main_v15, val_main_v14,
    val_main_cst_16, val_main_cst_17]
  simp only [h.x, dn_apply h, r_apply h]
  simp only [← EReal.coe_mul, Reals.coe_sum, EReal.coe_eq_coe_iff]
  simp only [Finset.univ_unique, Finset.sum_const, Finset.card_singleton, one_smul]
  exact Finset.sum_congr rfl fun i _ => by ring

/-- The results in the layouts in which the kernels return them. -/
theorem da_slot (h : Holds p x0 x1 x2 x3 x4 x5 x6) (s : Fin 4) (i : Fin 4096) (j : Fin 704) :
    val_main_v102 (F := Ideal) x0 x1 x2 x3 x4 x5 x6 (ix3 s i j) = (p.da i ⟨s.val * 704 + j.val, by omega⟩ : EReal) := by
  pointwise [val_main_v102, val_main_v101, val_main_v100]
  rw [da_apply h]

theorem db_slot (h : Holds p x0 x1 x2 x3 x4 x5 x6) (s : Fin 4) (i : Fin 4096) (j : Fin 704) :
    val_main_v105 (F := Ideal) x0 x1 x2 x3 x4 x5 x6 (ix3 s i j) = (p.db i ⟨s.val * 704 + j.val, by omega⟩ : EReal) := by
  pointwise [val_main_v105, val_main_v104, val_main_v103]
  rw [db_apply h]

theorem df_out (h : Holds p x0 x1 x2 x3 x4 x5 x6) (i : Fin 4096) (l : Fin 1024) :
    val_main_v106 (F := Ideal) x0 x1 x2 x3 x4 x5 x6 (ix2 i l) = (p.df i l : EReal) := by
  pointwise [val_main_v106]
  rw [df_apply h]

theorem n_out (h : Holds p x0 x1 x2 x3 x4 x5 x6) (i : Fin 4096) (l : Fin 1024) :
    val_main_v121 (F := Ideal) x1 x2 (ix2 i l) = (p.n i l : EReal) := by
  pointwise [val_main_v121, val_main_v120, val_main_v119, val_main_v118, val_main_v117, val_main_v116, val_main_v115,
    val_main_v114, val_main_v113, val_main_v112, val_main_v111, val_main_v110, val_main_v109, val_main_v108, val_main_v107,
    val_main_cst_21, val_main_cst_22, val_main_cst_23]
  simp only [h.x, h.g, Rms.r_coe]
  simp only [← EReal.coe_mul]; rfl

end Cert.FfnRefIdeal.Proof

end

end
-- ==== Proof.FfnHost.lean ====
/-
  What the host lines before the kernels compute of a feed-forward block's forward pass: the two input products in slots and
  the output product.
-/
module

public import proofs.«01_k».proof.Proof.FfnRef

@[expose] public section

set_option maxRecDepth 16384

noncomputable section

namespace Cert.FfnRefIdeal.Proof

open Cert.FfnRefIdeal Cert.FfnRefIdeal.Gen Cert.FfnRefIdeal.Read Idealize.ShloMosaic Idealize.ShloMosaic.TcCoe

/-- The logistic function times its argument, as a host line computes it. -/
def silu (a : FVec Ideal S4096x2816 .f32) : FVec Ideal S4096x2816 .f32 :=
  mulf a (Host.divf (val_main_call0_v4 (F := Ideal)) (addf (val_main_call0_v2 (F := Ideal)) (Host.exp (Host.negf a))))

/-- The output product. -/
def hostF (x : FVec Ideal S4096x1024 .f32) (g : FVec Ideal S1x1024 .f32) (w1 w3 : FVec Ideal S1024x2816 .f32)
    (w2 : FVec Ideal S2816x1024 .f32) : FVec Ideal S4096x1024 .f32 :=
  Host.dotGeneral dot_S4096x2816_S2816x1024_S4096x1024_1_0_0_1_n_n none
    (mulf (silu (val_main_v19 (F := Ideal) x g w1)) (val_main_v22 (F := Ideal) x g w3)) w2

/-- An input product in slots. -/
def hostSlots (a : FVec Ideal S4096x2816 .f32) : FVec Ideal S4x4096x704 .bf16 :=
  truncf .bf16 (transpose S4x4096x704 [1, 0, 2] (shapeCast S4096x4x704 a shapeCasts_S4096x2816_S4096x4x704)
    transposes_S4096x4x704_S4x4096x704_1_0_2) bitsLt_bf16_f32

variable {p : FfnBlock} {x0 x1 : FVec Ideal S4096x1024 .f32} {x2 : FVec Ideal S1x1024 .f32}
  {x3 x4 : FVec Ideal S1024x2816 .f32} {x5 : FVec Ideal S2816x1024 .f32} {x6 : FVec Ideal S1x1024 .f32}

theorem hostA_apply (h : Holds p x0 x1 x2 x3 x4 x5 x6) (i : Fin 4096) (k : Fin 2816) :
    val_main_v19 (F := Ideal) x1 x2 x3 (ix2 i k) = (p.a i k : EReal) := by
  pointwise [val_main_v19]
  simp only [n_apply h, h.w1, ← EReal.coe_mul, Reals.coe_sum]; rfl

theorem hostB_apply (h : Holds p x0 x1 x2 x3 x4 x5 x6) (i : Fin 4096) (k : Fin 2816) :
    val_main_v22 (F := Ideal) x1 x2 x4 (ix2 i k) = (p.b i k : EReal) := by
  pointwise [val_main_v22]
  simp only [n_apply h, h.w3, ← EReal.coe_mul, Reals.coe_sum]; rfl

theorem hostF_apply (h : Holds p x0 x1 x2 x3 x4 x5 x6) (i : Fin 4096) (l : Fin 1024) :
    hostF x1 x2 x3 x4 x5 (ix2 i l) = (p.f i l : EReal) := by
  unfold hostF silu
  pointwise [val_main_call0_v4, val_main_call0_v2, val_main_call0_cst, val_main_call0_cst_0]
  simp only [hostA_apply h, hostB_apply h, h.w2, FfnBlock.sg_coe, ← EReal.coe_mul, Reals.coe_sum]; rfl

theorem hostSlots_apply {a : FVec Ideal S4096x2816 .f32} {A : Fin 4096 → Fin 2816 → ℝ}
    (h : ∀ i k, a (ix2 i k) = (A i k : EReal)) (s : Fin 4) (i : Fin 4096) (j : Fin 704) :
    hostSlots a (ix3 s i j) = (A i ⟨s.val * 704 + j.val, by omega⟩ : EReal) := by
  unfold hostSlots
  pointwise []
  rw [h]

end Cert.FfnRefIdeal.Proof

end

end
-- ==== Proof.ActsKernel.lean ====
/-
  The gradient of a feed-forward block up to its input products, as the kernel leaves it: its four result arrays at an
  index, over real arguments.
-/
module

public import proofs.«01_k».proof.Proof.Gen.ActsIdeal.Value
public import proofs.«01_k».proof.Proof.FfnHost
public import Idealize.ShloMosaic.Lib.Pipeline.ValueKit.Point

@[expose] public section

set_option maxRecDepth 16384

noncomputable section

namespace Cert.ActsIdeal.Proof

open Cert.ActsIdeal Cert.ActsIdeal.Gen Idealize.ShloMosaic Idealize.ShloMosaic.TcCoe Idealize.SL.Sem
open Cert.FfnRefIdeal.Proof (hostF hostSlots Holds)
open Cert.FfnRefIdeal.Read (val_main_v19 val_main_v22)

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![0, t.val, 0] ∧ win0_3.index t = ![0, t.val, 0] ∧ win0_4.index t = ![0, 0]
    ∧ win0_5.index t = ![0, 0, 0] ∧ win0_6.index t = ![0, t.val, 0] ∧ win0_7.index t = ![0, t.val, 0]
    ∧ win0_8.index t = ![t.val, 0] ∧ win0_9.index t = ![0, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- Column `j` of slot `k`. -/
def col (k : Fin 4) (j : Fin 704) : Fin 2816 := ⟨k.val * 704 + j.val, by omega⟩

/-- The arguments on a device, read as a block's arguments. -/
abbrev Args (p : FfnBlock) (c : Dev nD) : Prop :=
  Holds p (m (Thread.loc (Dev.tc c) main_arg0)) (m (Thread.loc (Dev.tc c) main_arg1)) (m (Thread.loc (Dev.tc c) main_arg2))
    (m (Thread.loc (Dev.tc c) main_arg3)) (m (Thread.loc (Dev.tc c) main_arg4)) (m (Thread.loc (Dev.tc c) main_arg5))
    (m (Thread.loc (Dev.tc c) main_arg6))

/-- What the host lines before the kernel leave in its operands. -/
theorem hostF_eq (c : Dev nD) :
    StableHlo.after [hostOps0, hostOps0_1, hostOps0_2].flatten (fun b => m (c, b)) (Proc.tc.devRef main_v18)
      = hostF (m (Thread.loc (Dev.tc c) main_arg1)) (m (Thread.loc (Dev.tc c) main_arg2))
          (m (Thread.loc (Dev.tc c) main_arg3)) (m (Thread.loc (Dev.tc c) main_arg4)) (m (Thread.loc (Dev.tc c) main_arg5)) := by
  simp only [hostOps0, hostOps0_1, hostOps0_2, List.flatten_cons, List.flatten_nil, List.append_nil, List.cons_append,
    List.nil_append]
  after_results_simp
  rfl

theorem hostA_eq (c : Dev nD) :
    StableHlo.after [hostOps0, hostOps0_1, hostOps0_2].flatten (fun b => m (c, b)) (Proc.tc.devRef main_v21)
      = hostSlots (val_main_v19 (F := Ideal) (m (Thread.loc (Dev.tc c) main_arg1)) (m (Thread.loc (Dev.tc c) main_arg2))
          (m (Thread.loc (Dev.tc c) main_arg3))) := by
  simp only [hostOps0, hostOps0_1, hostOps0_2, List.flatten_cons, List.flatten_nil, List.append_nil, List.cons_append,
    List.nil_append]
  after_results_simp
  rfl

theorem hostB_eq (c : Dev nD) :
    StableHlo.after [hostOps0, hostOps0_1, hostOps0_2].flatten (fun b => m (c, b)) (Proc.tc.devRef main_v24)
      = hostSlots (val_main_v22 (F := Ideal) (m (Thread.loc (Dev.tc c) main_arg1)) (m (Thread.loc (Dev.tc c) main_arg2))
          (m (Thread.loc (Dev.tc c) main_arg4))) := by
  simp only [hostOps0, hostOps0_1, hostOps0_2, List.flatten_cons, List.flatten_nil, List.append_nil, List.cons_append,
    List.nil_append]
  after_results_simp
  rfl

theorem hostW_apply (c : Dev nD) (k : Fin 4) (j : Fin 704) (l : Fin 1024) :
    (StableHlo.after [hostOps0, hostOps0_1, hostOps0_2].flatten (fun b => m (c, b)) (Proc.tc.devRef main_v26)
      : FVec Ideal S4x704x1024 .bf16) (ix3 k j l)
      = m (Thread.loc (Dev.tc c) main_arg5) (ix2 ⟨k.val * 704 + j.val, by omega⟩ l) := by
  simp only [hostOps0, hostOps0_1, hostOps0_2, List.flatten_cons, List.flatten_nil, List.append_nil, List.cons_append,
    List.nil_append]
  after_results_simp
  pointwise []

section Real

variable {m} {c : Dev nD} {p : FfnBlock}

theorem iblk0 (h : Args m p c) (t : Fin cfg0.N) (r : Fin 512) (l : Fin 1024) :
    iblk m c 0 t (ix2 r l) = (p.d (row t r) l : EReal) := by
  rw [← h.d]; unfold row; blk_ext! [iblk, V, idx t]

theorem iblk1 (h : Args m p c) (t : Fin cfg0.N) (r : Fin 512) (l : Fin 1024) :
    iblk m c 1 t (ix2 r l) = (p.f (row t r) l : EReal) := by
  rw [← Cert.FfnRefIdeal.Proof.hostF_apply h, ← hostF_eq m c]; unfold row; blk_ext! [iblk, V, idx t]

theorem iblk2 (h : Args m p c) (t : Fin cfg0.N) (k : Fin 4) (r : Fin 512) (j : Fin 704) :
    iblk m c 2 t (ix3 k r j) = (p.a (row t r) (col k j) : EReal) := by
  rw [col, ← Cert.FfnRefIdeal.Proof.hostSlots_apply (Cert.FfnRefIdeal.Proof.hostA_apply h) k (row t r) j, ← hostA_eq m c]
  unfold row; blk_ext! [iblk, V, idx t]

theorem iblk3 (h : Args m p c) (t : Fin cfg0.N) (k : Fin 4) (r : Fin 512) (j : Fin 704) :
    iblk m c 3 t (ix3 k r j) = (p.b (row t r) (col k j) : EReal) := by
  rw [col, ← Cert.FfnRefIdeal.Proof.hostSlots_apply (Cert.FfnRefIdeal.Proof.hostB_apply h) k (row t r) j, ← hostB_eq m c]
  unfold row; blk_ext! [iblk, V, idx t]

theorem iblk4 (h : Args m p c) (t : Fin cfg0.N) (l : Fin 1024) :
    iblk m c 4 t (ix2 0 l) = (p.q l : EReal) := by
  rw [← h.q]; blk_ext! [iblk, V, idx t]

theorem iblk5 (h : Args m p c) (t : Fin cfg0.N) (k : Fin 4) (j : Fin 704) (l : Fin 1024) :
    iblk m c 5 t (ix3 k j l) = (p.w2 (col k j) l : EReal) := by
  have e := hostW_apply m c k j l
  rw [h.w2] at e
  rw [col, ← e]; blk_ext! [iblk, V, idx t]

theorem half_pay (h : Args m p c) (t : Fin cfg0.N) (r : Fin 512) (l : Fin 1024) :
    k0_pay4 (iblk m c 0 t) (ix2 r l) = ((1 / 2 * p.d (row t r) l : ℝ) : EReal) := by
  pointwise [k0_pay4]
  simp only [iblk0 h, Reals.chalf, ← EReal.coe_mul]

/-- The cotangent of the output product. -/
theorem df_pay (h : Args m p c) (t : Fin cfg0.N) (r : Fin 512) (l : Fin 1024) :
    k0_pay8 (iblk m c 0 t) (iblk m c 1 t) (iblk m c 4 t) (ix2 r l) = (p.df (row t r) l : EReal) := by
  pointwise [k0_pay8, k0_pay7, k0_pay6, k0_pay5]
  simp only [half_pay h, iblk1 h, iblk4 h, Rms.r_coe]
  exact Rms.dx_coe (fun l => 1 / 2 * p.d (row t r) l) (p.f (row t r)) p.q l

/-- The third result at an index. -/
theorem df_apply (h : Args m p c) (t : Fin cfg0.N) (r : Fin 512) (l : Fin 1024) :
    (outsAt0 m c t.val t.isLt).2.2.1 (ix2 r l) = (p.df (row t r) l : EReal) := by
  by_cases ht : t.val % 8 = 0
  · rw [outsAt0_A m c t ht]; frame_out; pointwise [k0_pay10]; rw [df_pay h]
  · rw [outsAt0_B m c t ht]; frame_out; pointwise [k0_pay10]; rw [df_pay h]

/-- A local index of a slot's piece. -/
theorem local_eq {r : Fin 512} {j : Fin 704} {x : S1x512x704.Idx} (h1 : (r : Nat) = x 1) (h2 : (j : Nat) = x 2) :
    x = ix3 0 r j := by
  rw [eq_ix3 x]
  exact congrArg₂ (fun a b => ix3 a b (x 2)) (Subsingleton.elim (α := Fin 1) _ _) (Fin.ext h1.symm : x 1 = r) |>.trans
    (congrArg (ix3 0 r) (Fin.ext h2.symm : x 2 = j))

/-- The first two results at an index, slot by slot. -/
theorem da_apply (h : Args m p c) (t : Fin cfg0.N) (k : Fin 4) (r : Fin 512) (j : Fin 704) :
    (outsAt0 m c t.val t.isLt).1 (ix3 k r j) = (p.da (row t r) (col k j) : EReal) := by
  by_cases ht : t.val % 8 = 0
  · rw [outsAt0_A m c t ht]; frame_out
    canon_tiles x hx
    case piece0 =>
      obtain rfl : k = 3 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece1 =>
      obtain rfl : k = 2 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece2 =>
      obtain rfl : k = 1 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece3 =>
      obtain rfl : k = 0 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
  · rw [outsAt0_B m c t ht]; frame_out
    canon_tiles x hx
    case piece0 =>
      obtain rfl : k = 3 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece1 =>
      obtain rfl : k = 2 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece2 =>
      obtain rfl : k = 1 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _
    case piece3 =>
      obtain rfl : k = 0 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.da_coe p _ _

theorem db_apply (h : Args m p c) (t : Fin cfg0.N) (k : Fin 4) (r : Fin 512) (j : Fin 704) :
    (outsAt0 m c t.val t.isLt).2.1 (ix3 k r j) = (p.db (row t r) (col k j) : EReal) := by
  by_cases ht : t.val % 8 = 0
  · rw [outsAt0_A m c t ht]; frame_out
    canon_tiles x hx
    case piece0 =>
      obtain rfl : k = 3 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece1 =>
      obtain rfl : k = 2 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece2 =>
      obtain rfl : k = 1 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece3 =>
      obtain rfl : k = 0 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
  · rw [outsAt0_B m c t ht]; frame_out
    canon_tiles x hx
    case piece0 =>
      obtain rfl : k = 3 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece1 =>
      obtain rfl : k = 2 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece2 =>
      obtain rfl : k = 1 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _
    case piece3 =>
      obtain rfl : k = 0 := Fin.ext (by change (k : Nat) = _ at hx0; omega)
      obtain rfl : x = ix3 0 r j := local_eq hx1 hx2
      pointwise [k0_pay1, k0_pay2, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
      simp only [iblk2 h, iblk3 h, iblk5 h, df_pay h]
      exact FfnBlock.db_coe p _ _

/-- One grid point's part of the post-norm weight's gradient. -/
theorem dq_step (h : Args m p c) (t : Fin cfg0.N) (u : Vec Ideal S1x1024 .f32) (l : Fin 1024) :
    k0_pay9 (iblk m c 0 t) (iblk m c 1 t) u (ix2 0 l)
      = u (ix2 0 l) + ((∑ r : Fin 512, 1 / 2 * p.d (row t r) l * (p.f (row t r) l * Rms.r (p.f (row t r))) : ℝ) : EReal) := by
  pointwise [k0_pay9, k0_pay7, k0_pay6, k0_pay5]
  simp only [half_pay h, iblk1 h, Rms.r_coe]
  simp only [← EReal.coe_mul, Reals.coe_sum]

/-- A sum over the grid's points and a block's rows is the sum over all rows. -/
theorem sum_rows (f : Fin 4096 → ℝ) : ∑ t : Fin cfg0.N, ∑ r : Fin 512, f (row t r) = ∑ i, f i :=
  Fin.sum_mul_add_congr (S := 8) (n := 512) fun _ _ _ => rfl

theorem out9_first (c : Dev nD) (t : Fin cfg0.N) (h : t.val % 8 = 0) : (outsAt0 m c t.val t.isLt).2.2.2
    = k0_pay9 (iblk m c 0 t) (iblk m c 1 t) (k0_pay3 (F := Ideal)) := by
  rw [outsAt0_A m c t h]; frame_out

theorem out9_next (c : Dev nD) (t : Fin cfg0.N) (h : ¬t.val % 8 = 0) : (outsAt0 m c t.val t.isLt).2.2.2
    = k0_pay9 (iblk m c 0 t) (iblk m c 1 t) (outsAt0 m c (t.val - 1) (Nat.lt_of_le_of_lt (Nat.sub_le _ _) t.isLt)).2.2.2 := by
  rw [outsAt0_B m c t h]; frame_out

/-- The fourth result at an index: the post-norm weight's gradient, summed over all rows. -/
theorem dq_apply (h : Args m p c) (l : Fin 1024) :
    (outsAt0 m c t0_7.val t0_7.isLt).2.2.2 (ix2 0 l) = (p.dq l : EReal) := by
  have e := Pipeline.eq_sum_fin_of_reset_step_apply_last (fun n h (l : Fin 1024) => (outsAt0 m c n h).2.2.2 (ix2 0 l)) 8
    (fun _ => (0 : EReal))
    (fun t l => ((∑ r : Fin 512, 1 / 2 * p.d (row t r) l * (p.f (row t r) l * Rms.r (p.f (row t r))) : ℝ) : EReal))
    (fun t ht l => by
      beta_reduce; rw [out9_first c t ht, dq_step h]; congr 1; pointwise [k0_pay3])
    (fun t ht l => by beta_reduce; rw [out9_next c t ht, dq_step h]) (le_of_eq Gen.N_0) t0_7 rfl l
  beta_reduce at e
  rw [e, zero_add, Reals.coe_sum, sum_rows fun i => 1 / 2 * p.d i l * (p.f i l * Rms.r (p.f i))]
  rfl

end Real

end Cert.ActsIdeal.Proof

end

end
-- ==== Proof.ActsClaim.lean ====
/-
  The gradient of a feed-forward block up to its input products: kernel and reference end with the same arrays.
-/
module

public import proofs.«01_k».proof.Defs
public import proofs.«01_k».proof.Proof.ActsKernel
public import proofs.«01_k».proof.Proof.Gen.ActsRefIdeal.Run
public import proofs.«01_k».proof.Proof.Gen.ActsRefIdeal.Read
public import proofs.«01_k».proof.Proof.Gen.Pre_ffn_finite

@[expose] public section

set_option maxRecDepth 16384

noncomputable section

open Idealize.ShloMosaic Idealize.SL.Sem

namespace Cert.ActsIdeal.Proof

open Cert.ActsIdeal Cert.ActsIdeal.Gen Idealize.ShloMosaic Idealize.ShloMosaic.TcCoe Idealize.SL.Sem
open Cert.FfnRefIdeal.Read (val_main_v102 val_main_v105 val_main_v106 val_main_v70)

variable {m : (ℓ : Loc nD τ sig) → Buf (Elt Ideal) ℓ} {c : Dev nD} {p : FfnBlock}

/-- Under the precondition the arguments are a block's real arguments. -/
theorem args_of_pre (h : Cert.Pre_ActsIdeal_ffn_finite m) (c : Dev nD) : ∃ p, Args m p c := by
  obtain ⟨h0, h1, h2, h3, h4, h5, h6⟩ := h c
  exact ⟨⟨_, _, _, _, _, _, _⟩, fun _ _ => Reals.real_of_test h0 (fun _ => rfl) _, fun _ _ => Reals.real_of_test h1 (fun _ => rfl) _,
    fun _ => Reals.real_of_test h2 (fun _ => rfl) _, fun _ _ => Reals.real_of_test h3 (fun _ => rfl) _,
    fun _ _ => Reals.real_of_test h4 (fun _ => rfl) _, fun _ _ => Reals.real_of_test h5 (fun _ => rfl) _,
    fun _ => Reals.real_of_test h6 (fun _ => rfl) _⟩

/-- The first two result arrays are the reference's. -/
theorem result6 (h : Args m p c) : (dats m 0 c).arrAt 6 cfg0.N
    = val_main_v102 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S4x512x704.Idx) (e : S4x4096x704.Idx), e = ix3 (y 0) (row t (y 1)) (y 2) →
      (outsAt0 m c t.val t.isLt).1 y = val_main_v102 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [Cert.FfnRefIdeal.Proof.da_slot h, da_apply h, col]
  refine (dats m 0 c).arrAt_eq_of_covers 6 _ (by decide +kernel) fun t _ y => ?_
  blk_simp
  rw [after0_6]
  refine point t y _ ?_
  unfold row
  blk_ext [idx t]

theorem result7 (h : Args m p c) : (dats m 0 c).arrAt 7 cfg0.N
    = val_main_v105 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S4x512x704.Idx) (e : S4x4096x704.Idx), e = ix3 (y 0) (row t (y 1)) (y 2) →
      (outsAt0 m c t.val t.isLt).2.1 y = val_main_v105 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [Cert.FfnRefIdeal.Proof.db_slot h, db_apply h, col]
  refine (dats m 0 c).arrAt_eq_of_covers 7 _ (by decide +kernel) fun t _ y => ?_
  blk_simp
  rw [after0_7]
  refine point t y _ ?_
  unfold row
  blk_ext [idx t]

/-- The third result array is the reference's. -/
theorem result8 (h : Args m p c) : (dats m 0 c).arrAt 8 cfg0.N
    = val_main_v106 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S512x1024.Idx) (e : S4096x1024.Idx), e = ix2 (row t (y 0)) (y 1) →
      (outsAt0 m c t.val t.isLt).2.2.1 y = val_main_v106 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨r, l, rfl⟩ : ∃ (r : Fin 512) (l : Fin 1024), y = ix2 r l := ⟨y 0, y 1, eq_ix2 y⟩
    obtain rfl : e = ix2 (row t r) l := he
    rw [Cert.FfnRefIdeal.Proof.df_out h, df_apply h]
  refine (dats m 0 c).arrAt_eq_of_covers 8 _ (by decide +kernel) fun t _ y => ?_
  blk_simp
  rw [after0_8]
  refine point t y _ ?_
  unfold row
  blk_ext [idx t]

/-- The fourth result array is the reference's. -/
theorem result9 (h : Args m p c) : (dats m 0 c).arrAt 9 cfg0.N
    = val_main_v70 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) := by
  have point : ∀ (y e : S1x1024.Idx), e = y →
      (outsAt0 m c t0_7.val t0_7.isLt).2.2.2 y = val_main_v70 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) e := by
    intro y e he
    obtain ⟨l, hl⟩ : ∃ l : Fin 1024, y = ix2 0 l := ⟨y 1, by rw [eq_ix2 y]; congr 1; exact Subsingleton.elim (α := Fin 1) _ _⟩
    rw [he, hl, Cert.FfnRefIdeal.Proof.dq_apply h, dq_apply h]
  refine (dats m 0 c).arrAt_eq_of_covers 9 _ (by decide +kernel) fun t hf y => ?_
  have ht : t = t0_7 := (by decide +kernel : ∀ t : Fin grid0.N, win0_9.flush t = true → t = t0_7) t hf
  blk_simp
  rw [after0_9]
  subst ht
  refine point y _ ?_
  blk_ext [idx t0_7]

/-- Kernel and reference, from memories that agree on the arguments, end with equal results. -/
theorem algebraic : Cert.algebraic_ActsIdeal_ActsRefIdeal_pre_ffn_finite := by
  intro m ρ m' ρ' hpre hag
  refine ⟨fun c => (dats m 0 c).arrAt 6 cfg0.N, fun c => (dats m 0 c).arrAt 7 cfg0.N,
    fun c => (dats m 0 c).arrAt 8 cfg0.N, fun c => (dats m 0 c).arrAt 9 cfg0.N, Value.run_blocks m ρ, ?_⟩
  refine (θ_run Cert.ActsRefIdeal.defs _ _).mono (fun r h c => ?_) (Cert.ActsRefIdeal.Value.run (F := Ideal) m' ρ')
  obtain ⟨p, hA⟩ := args_of_pre hpre c
  obtain ⟨e0, e1, e2, e3, e4, e5, e6⟩ := hag c
  refine ⟨(h c).1.trans ?_, (h c).2.1.trans ?_, (h c).2.2.1.trans ?_, (h c).2.2.2.1.trans ?_, (h c).2.2.2.2⟩
  · have e := result6 hA
    rw [← e0, ← e1, ← e2, ← e3, ← e4, ← e5, ← e6] at e
    rw [Cert.ActsRefIdeal.Read.val_main_v102_eq]; exact e.symm
  · have e := result7 hA
    rw [← e0, ← e1, ← e2, ← e3, ← e4, ← e5, ← e6] at e
    rw [Cert.ActsRefIdeal.Read.val_main_v105_eq]; exact e.symm
  · have e := result8 hA
    rw [← e0, ← e1, ← e2, ← e3, ← e4, ← e5, ← e6] at e
    rw [Cert.ActsRefIdeal.Read.val_main_v106_eq]; exact e.symm
  · have e := result9 hA
    rw [← e0, ← e1, ← e2, ← e3, ← e4, ← e5] at e
    rw [Cert.ActsRefIdeal.Read.val_main_v70_eq]; exact e.symm

end Cert.ActsIdeal.Proof

/-- The reference's frame: its run, read at the arguments; it declares no semaphore. -/
theorem Cert.ActsRefIdeal.Proof.frame : Cert.quiescent_ActsRefIdeal := fun m ρ _ =>
  (θ_run Cert.ActsRefIdeal.defs _ _).mono (fun _ h => ⟨fun c => (h c).2.2.2.2, funext fun q => nomatch q⟩)
    (Cert.ActsRefIdeal.Value.run (F := Ideal) m ρ)

end

end
-- ==== Proof.FfnKernel.lean ====
/-
  The gradient of a feed-forward block, as the kernel leaves it: its seven result arrays at an index, over real arguments.
-/
module

public import proofs.«01_k».proof.Proof.Gen.FfnIdeal.Value
public import proofs.«01_k».proof.Proof.FfnHost
public import Idealize.ShloMosaic.Lib.Pipeline.ValueKit.Point

@[expose] public section

set_option maxRecDepth 16384

noncomputable section

namespace Cert.FfnIdeal.Proof

open Cert.FfnIdeal Cert.FfnIdeal.Gen Idealize.ShloMosaic Idealize.ShloMosaic.TcCoe Idealize.SL.Sem
open Cert.FfnRefIdeal.Proof (hostF hostSlots Holds)
open Cert.FfnRefIdeal.Read (val_main_v19 val_main_v22)

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![t.val, 0] ∧ win0_3.index t = ![0, t.val, 0] ∧ win0_4.index t = ![0, t.val, 0]
    ∧ win0_5.index t = ![0, 0] ∧ win0_6.index t = ![0, 0] ∧ win0_7.index t = ![0, 0, 0]
    ∧ win0_8.index t = ![0, 0, 0] ∧ win0_9.index t = ![0, 0, 0] ∧ win0_10.index t = ![t.val, 0]
    ∧ win0_11.index t = ![t.val, 0] ∧ win0_12.index t = ![0, t.val, 0] ∧ win0_13.index t = ![0, t.val, 0]
    ∧ win0_14.index t = ![t.val, 0] ∧ win0_15.index t = ![0, 0] ∧ win0_16.index t = ![0, 0] :=
  (by decide +kernel : ∀ t : Fin grid0.N, _)

/-- Every grid point is one of sixteen. -/
theorem lt_sixteen : ∀ t : Fin cfg0.N, t.val < 16 := (by decide +kernel : ∀ t : Fin grid0.N, t.val < 16)

/-- Row `r` of block `t`. -/
def row (t : Fin cfg0.N) (r : Fin 256) : Fin 4096 :=
  ⟨t.val * 256 + r.val, by have := lt_sixteen t; omega⟩

/-- Column `j` of slot `k`. -/
def col (k : Fin 4) (j : Fin 704) : Fin 2816 := ⟨k.val * 704 + j.val, by omega⟩

/-- The arguments on a device, read as a block's arguments. -/
abbrev Args (p : FfnBlock) (c : Dev nD) : Prop :=
  Holds p (m (Thread.loc (Dev.tc c) main_arg0)) (m (Thread.loc (Dev.tc c) main_arg1)) (m (Thread.loc (Dev.tc c) main_arg2))
    (m (Thread.loc (Dev.tc c) main_arg3)) (m (Thread.loc (Dev.tc c) main_arg4)) (m (Thread.loc (Dev.tc c) main_arg5))
    (m (Thread.loc (Dev.tc c) main_arg6))

/-- What the host lines before the kernel leave in its operands. -/
theorem hostF_eq (c : Dev nD) :
    StableHlo.after [hostOps0, hostOps0_1, hostOps0_2].flatten (fun b => m (c, b)) (Proc.tc.devRef main_v18)
      = hostF (m (Thread.loc (Dev.tc c) main_arg1)) (m (Thread.loc (Dev.tc c) main_arg2))
          (m (Thread.loc (Dev.tc c) main_arg3)) (m (Thread.loc (Dev.tc c) main_arg4)) (m (Thread.loc (Dev.tc c) main_arg5)) := by
  simp only [hostOps0, hostOps0_1, hostOps0_2, List.flatten_cons, List.flatten_nil, List.append_nil, List.cons_append,
    List.nil_append]
  after_results_simp
  rfl

theorem hostA_eq (c : Dev nD) :
    StableHlo.after [hostOps0, hostOps0_1, hostOps0_2].flatten (fun b => m (c, b)) (Proc.tc.devRef main_v21)
      = hostSlots (val_main_v19 (F := Ideal) (m (Thread.loc (Dev.tc c) main_arg1)) (m (Thread.loc (Dev.tc c) main_arg2))
          (m (Thread.loc (Dev.tc c) main_arg3))) := by
  simp only [hostOps0, hostOps0_1, hostOps0_2, List.flatten_cons, List.flatten_nil, List.append_nil, List.cons_append,
    List.nil_append]
  after_results_simp
  rfl

theorem hostB_eq (c : Dev nD) :
    StableHlo.after [hostOps0, hostOps0_1, hostOps0_2].flatten (fun b => m (c, b)) (Proc.tc.devRef main_v24)
      = hostSlots (val_main_v22 (F := Ideal) (m (Thread.loc (Dev.tc c) main_arg1)) (m (Thread.loc (Dev.tc c) main_arg2))
          (m (Thread.loc (Dev.tc c) main_arg4))) := by
  simp only [hostOps0, hostOps0_1, hostOps0_2, List.flatten_cons, List.flatten_nil, List.append_nil, List.cons_append,
    List.nil_append]
  after_results_simp
  rfl

theorem hostW_apply (c : Dev nD) (k : Fin 4) (j : Fin 704) (l : Fin 1024) :
    (StableHlo.after [hostOps0, hostOps0_1, hostOps0_2].flatten (fun b => m (c, b)) (Proc.tc.devRef main_v32)
      : FVec Ideal S4x704x1024 .bf16) (ix3 k j l)
      = m (Thread.loc (Dev.tc c) main_arg5) (ix2 ⟨k.val * 704 + j.val, by omega⟩ l) := by
  simp only [hostOps0, hostOps0_1, hostOps0_2, List.flatten_cons, List.flatten_nil, List.append_nil, List.cons_append,
    List.nil_append]
  after_results_simp
  pointwise []

theorem host3_apply (c : Dev nD) (k : Fin 4) (j : Fin 704) (l : Fin 1024) :
    (StableHlo.after [hostOps0, hostOps0_1, hostOps0_2].flatten (fun b => m (c, b)) (Proc.tc.devRef main_v30)
      : FVec Ideal S4x704x1024 .bf16) (ix3 k j l)
      = m (Thread.loc (Dev.tc c) main_arg4) (ix2 l ⟨k.val * 704 + j.val, by omega⟩) := by
  simp only [hostOps0, hostOps0_1, hostOps0_2, List.flatten_cons, List.flatten_nil, List.append_nil, List.cons_append,
    List.nil_append]
  after_results_simp
  pointwise []

theorem host1_apply (c : Dev nD) (k : Fin 4) (j : Fin 704) (l : Fin 1024) :
    (StableHlo.after [hostOps0, hostOps0_1, hostOps0_2].flatten (fun b => m (c, b)) (Proc.tc.devRef main_v27)
      : FVec Ideal S4x704x1024 .bf16) (ix3 k j l)
      = m (Thread.loc (Dev.tc c) main_arg3) (ix2 l ⟨k.val * 704 + j.val, by omega⟩) := by
  simp only [hostOps0, hostOps0_1, hostOps0_2, List.flatten_cons, List.flatten_nil, List.append_nil, List.cons_append,
    List.nil_append]
  after_results_simp
  pointwise []

/-- The gradient that reaches the pre-norm's output, as the body sums it at a grid point. -/
def dn (c : Dev nD) (t : Fin cfg0.N) : FVec Ideal S256x1024 .f32 :=
  k0_pay55 (k0_pay13 (k0_pay11 (iblk m c 0 t) (iblk m c 2 t) (iblk m c 6 t))) (k0_pay46 (k0_pay13 (k0_pay11
    (iblk m c 0 t) (iblk m c 2 t) (iblk m c 6 t))) (k0_pay36 (k0_pay26 (k0_pay15 (F := Ideal)) (k0_pay16 (View.ld
    (iblk m c 3 t) (Rect.unit ![0, 0, 0] ![1, 256, 704] inb_S4x256x704_S1x256x704_0_0_0))) (k0_pay17 (View.ld
    (iblk m c 3 t) (Rect.unit ![0, 0, 0] ![1, 256, 704] inb_S4x256x704_S1x256x704_0_0_0))) (k0_pay18 (k0_pay11
    (iblk m c 0 t) (iblk m c 2 t) (iblk m c 6 t)) (View.ld
    (iblk m c 9 t) (Rect.unit ![0, 0, 0] ![1, 704, 1024] inb_S4x704x1024_S1x704x1024_0_0_0))) (k0_pay19 (k0_pay11
    (iblk m c 0 t) (iblk m c 2 t) (iblk m c 6 t)) (View.ld
    (iblk m c 4 t) (Rect.unit ![0, 0, 0] ![1, 256, 704] inb_S4x256x704_S1x256x704_0_0_0)) (View.ld
    (iblk m c 9 t) (Rect.unit ![0, 0, 0] ![1, 704, 1024] inb_S4x704x1024_S1x704x1024_0_0_0))) (k0_pay20 (View.ld
    (iblk m c 3 t) (Rect.unit ![0, 0, 0] ![1, 256, 704] inb_S4x256x704_S1x256x704_0_0_0))) (k0_pay21 (F := Ideal))
    (View.ld (iblk m c 7 t) (Rect.unit ![0, 0, 0] ![1, 704, 1024] inb_S4x704x1024_S1x704x1024_0_0_0)) (View.ld
    (iblk m c 8 t) (Rect.unit ![0, 0, 0] ![1, 704, 1024] inb_S4x704x1024_S1x704x1024_0_0_0))) (k0_pay27 (View.ld
    (iblk m c 3 t) (Rect.unit ![1, 0, 0] ![1, 256, 704] inb_S4x256x704_S1x256x704_1_0_0))) (k0_pay28 (View.ld
    (iblk m c 3 t) (Rect.unit ![1, 0, 0] ![1, 256, 704] inb_S4x256x704_S1x256x704_1_0_0))) (k0_pay29 (k0_pay13
    (k0_pay11 (iblk m c 0 t) (iblk m c 2 t) (iblk m c 6 t))) (View.ld
    (iblk m c 9 t) (Rect.unit ![1, 0, 0] ![1, 704, 1024] inb_S4x704x1024_S1x704x1024_1_0_0))) (k0_pay30 (k0_pay13
    (k0_pay11 (iblk m c 0 t) (iblk m c 2 t) (iblk m c 6 t))) (View.ld
    (iblk m c 4 t) (Rect.unit ![1, 0, 0] ![1, 256, 704] inb_S4x256x704_S1x256x704_1_0_0)) (View.ld
    (iblk m c 9 t) (Rect.unit ![1, 0, 0] ![1, 704, 1024] inb_S4x704x1024_S1x704x1024_1_0_0)))
    (k0_pay31 (F := Ideal)) (View.ld
    (iblk m c 7 t) (Rect.unit ![1, 0, 0] ![1, 704, 1024] inb_S4x704x1024_S1x704x1024_1_0_0)) (View.ld
    (iblk m c 8 t) (Rect.unit ![1, 0, 0] ![1, 704, 1024] inb_S4x704x1024_S1x704x1024_1_0_0))) (k0_pay37 (View.ld
    (iblk m c 3 t) (Rect.unit ![2, 0, 0] ![1, 256, 704] inb_S4x256x704_S1x256x704_2_0_0))) (k0_pay38 (View.ld
    (iblk m c 4 t) (Rect.unit ![2, 0, 0] ![1, 256, 704] inb_S4x256x704_S1x256x704_2_0_0))) (k0_pay39 (View.ld
    (iblk m c 3 t) (Rect.unit ![2, 0, 0] ![1, 256, 704] inb_S4x256x704_S1x256x704_2_0_0))) (k0_pay40 (View.ld
    (iblk m c 9 t) (Rect.unit ![2, 0, 0] ![1, 704, 1024] inb_S4x704x1024_S1x704x1024_2_0_0)))
    (constant S256x704 FTy.f32 0#32) (View.ld
    (iblk m c 7 t) (Rect.unit ![2, 0, 0] ![1, 704, 1024] inb_S4x704x1024_S1x704x1024_2_0_0)) (View.ld
    (iblk m c 8 t) (Rect.unit ![2, 0, 0] ![1, 704, 1024] inb_S4x704x1024_S1x704x1024_2_0_0))) (k0_pay47 (View.ld
    (iblk m c 3 t) (Rect.unit ![3, 0, 0] ![1, 256, 704] inb_S4x256x704_S1x256x704_3_0_0))) (k0_pay48 (View.ld
    (iblk m c 4 t) (Rect.unit ![3, 0, 0] ![1, 256, 704] inb_S4x256x704_S1x256x704_3_0_0))) (k0_pay49 (View.ld
    (iblk m c 3 t) (Rect.unit ![3, 0, 0] ![1, 256, 704] inb_S4x256x704_S1x256x704_3_0_0))) (View.ld
    (iblk m c 9 t) (Rect.unit ![3, 0, 0] ![1, 704, 1024] inb_S4x704x1024_S1x704x1024_3_0_0)) (View.ld
    (iblk m c 7 t) (Rect.unit ![3, 0, 0] ![1, 704, 1024] inb_S4x704x1024_S1x704x1024_3_0_0)) (View.ld
    (iblk m c 8 t) (Rect.unit ![3, 0, 0] ![1, 704, 1024] inb_S4x704x1024_S1x704x1024_3_0_0))

section Real

variable {m} {c : Dev nD} {p : FfnBlock}

theorem iblk0 (h : Args m p c) (t : Fin cfg0.N) (r : Fin 256) (l : Fin 1024) :
    iblk m c 0 t (ix2 r l) = (p.d (row t r) l : EReal) := by
  rw [← h.d]; unfold row; blk_ext! [iblk, V, idx t]

theorem iblk1 (h : Args m p c) (t : Fin cfg0.N) (r : Fin 256) (l : Fin 1024) :
    iblk m c 1 t (ix2 r l) = (p.x (row t r) l : EReal) := by
  rw [← h.x]; unfold row; blk_ext! [iblk, V, idx t]

theorem iblk2 (h : Args m p c) (t : Fin cfg0.N) (r : Fin 256) (l : Fin 1024) :
    iblk m c 2 t (ix2 r l) = (p.f (row t r) l : EReal) := by
  rw [← Cert.FfnRefIdeal.Proof.hostF_apply h, ← hostF_eq m c]; unfold row; blk_ext! [iblk, V, idx t]

theorem iblk3 (h : Args m p c) (t : Fin cfg0.N) (k : Fin 4) (r : Fin 256) (j : Fin 704) :
    iblk m c 3 t (ix3 k r j) = (p.a (row t r) (col k j) : EReal) := by
  rw [col, ← Cert.FfnRefIdeal.Proof.hostSlots_apply (Cert.FfnRefIdeal.Proof.hostA_apply h) k (row t r) j, ← hostA_eq m c]
  unfold row; blk_ext! [iblk, V, idx t]

theorem iblk4 (h : Args m p c) (t : Fin cfg0.N) (k : Fin 4) (r : Fin 256) (j : Fin 704) :
    iblk m c 4 t (ix3 k r j) = (p.b (row t r) (col k j) : EReal) := by
  rw [col, ← Cert.FfnRefIdeal.Proof.hostSlots_apply (Cert.FfnRefIdeal.Proof.hostB_apply h) k (row t r) j, ← hostB_eq m c]
  unfold row; blk_ext! [iblk, V, idx t]

theorem iblk5 (h : Args m p c) (t : Fin cfg0.N) (l : Fin 1024) :
    iblk m c 5 t (ix2 0 l) = (p.g l : EReal) := by
  rw [← h.g]; blk_ext! [iblk, V, idx t]

theorem iblk6 (h : Args m p c) (t : Fin cfg0.N) (l : Fin 1024) :
    iblk m c 6 t (ix2 0 l) = (p.q l : EReal) := by
  rw [← h.q]; blk_ext! [iblk, V, idx t]

theorem iblk7 (h : Args m p c) (t : Fin cfg0.N) (k : Fin 4) (j : Fin 704) (l : Fin 1024) :
    iblk m c 7 t (ix3 k j l) = (p.w1 l (col k j) : EReal) := by
  have e := host1_apply m c k j l
  rw [h.w1] at e
  rw [col, ← e]; blk_ext! [iblk, V, idx t]

theorem iblk8 (h : Args m p c) (t : Fin cfg0.N) (k : Fin 4) (j : Fin 704) (l : Fin 1024) :
    iblk m c 8 t (ix3 k j l) = (p.w3 l (col k j) : EReal) := by
  have e := host3_apply m c k j l
  rw [h.w3] at e
  rw [col, ← e]; blk_ext! [iblk, V, idx t]

theorem iblk9 (h : Args m p c) (t : Fin cfg0.N) (k : Fin 4) (j : Fin 704) (l : Fin 1024) :
    iblk m c 9 t (ix3 k j l) = (p.w2 (col k j) l : EReal) := by
  have e := hostW_apply m c k j l
  rw [h.w2] at e
  rw [col, ← e]; blk_ext! [iblk, V, idx t]

theorem half_pay (h : Args m p c) (t : Fin cfg0.N) (r : Fin 256) (l : Fin 1024) :
    k0_pay7 (iblk m c 0 t) (ix2 r l) = ((1 / 2 * p.d (row t r) l : ℝ) : EReal) := by
  pointwise [k0_pay7]
  simp only [iblk0 h, Reals.chalf, ← EReal.coe_mul]

/-- The cotangent of the output product. -/
theorem df_pay (h : Args m p c) (t : Fin cfg0.N) (r : Fin 256) (l : Fin 1024) :
    k0_pay11 (iblk m c 0 t) (iblk m c 2 t) (iblk m c 6 t) (ix2 r l) = (p.df (row t r) l : EReal) := by
  pointwise [k0_pay11, k0_pay10, k0_pay9, k0_pay8]
  simp only [half_pay h, iblk2 h, iblk6 h, Rms.r_coe]
  exact Rms.dx_coe (fun l => 1 / 2 * p.d (row t r) l) (p.f (row t r)) p.q l

/-- The fifth result at an index. -/
theorem df_apply (h : Args m p c) (t : Fin cfg0.N) (r : Fin 256) (l : Fin 1024) :
    (outsAt0 m c t.val t.isLt).2.2.2.2.1 (ix2 r l) = (p.df (row t r) l : EReal) := by
  by_cases ht : t.val % 16 = 0
  · rw [outsAt0_A m c t ht]; frame_out; pointwise [k0_pay13]; rw [df_pay h]
  · rw [outsAt0_B m c t ht]; frame_out; pointwise [k0_pay13]; rw [df_pay h]

/-- A local index of a slot's piece. -/
theorem local_eq {r : Fin 256} {j : Fin 704} {x : S1x256x704.Idx} (h1 : (r : Nat) = x 1) (h2 : (j : Nat) = x 2) :
    x = ix3 0 r j := by
  rw [eq_ix3 x]
  exact congrArg₂ (fun a b => ix3 a b (x 2)) (Subsingleton.elim (α := Fin 1) _ _) (Fin.ext h1.symm : x 1 = r) |>.trans
    (congrArg (ix3 0 r) (Fin.ext h2.symm : x 2 = j))

/-- The third and fourth results at an index, slot by slot. -/
theorem da_apply (h : Args m p c) (t : Fin cfg0.N) (k : Fin 4) (r : Fin 256) (j : Fin 704) :
    (outsAt0 m c t.val t.isLt).2.2.1 (ix3 k r j) = (p.da (row t r) (col k j) : EReal) := by
  by_cases ht : t.val % 16 = 0
  · rw [outsAt0_A m c t ht]; frame_out
    canon_tiles x hx
    case piece0 =>
      obtain rfl : k = 3 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece1 =>
      obtain rfl : k = 2 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece2 =>
      obtain rfl : k = 1 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece3 =>
      obtain rfl : k = 0 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
  · rw [outsAt0_B m c t ht]; frame_out
    canon_tiles x hx
    case piece0 =>
      obtain rfl : k = 3 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece1 =>
      obtain rfl : k = 2 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece2 =>
      obtain rfl : k = 1 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _
    case piece3 =>
      obtain rfl : k = 0 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.da_coe p _ _

theorem db_apply (h : Args m p c) (t : Fin cfg0.N) (k : Fin 4) (r : Fin 256) (j : Fin 704) :
    (outsAt0 m c t.val t.isLt).2.2.2.1 (ix3 k r j) = (p.db (row t r) (col k j) : EReal) := by
  by_cases ht : t.val % 16 = 0
  · rw [outsAt0_A m c t ht]; frame_out
    canon_tiles x hx
    case piece0 =>
      obtain rfl : k = 3 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece1 =>
      obtain rfl : k = 2 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece2 =>
      obtain rfl : k = 1 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece3 =>
      obtain rfl : k = 0 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
  · rw [outsAt0_B m c t ht]; frame_out
    canon_tiles x hx
    case piece0 =>
      obtain rfl : k = 3 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece1 =>
      obtain rfl : k = 2 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece2 =>
      obtain rfl : k = 1 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _
    case piece3 =>
      obtain rfl : k = 0 := Fin.ext (by change (k : Nat) = _ at hx0; omega)
      obtain rfl : x = ix3 0 r j := local_eq hx1 hx2
      pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
      simp only [iblk3 h, iblk4 h, iblk9 h, df_pay h]
      exact FfnBlock.db_coe p _ _

/-- One grid point's part of the post-norm weight's gradient. -/
theorem dq_step (h : Args m p c) (t : Fin cfg0.N) (u : Vec Ideal S1x1024 .f32) (l : Fin 1024) :
    k0_pay12 (iblk m c 0 t) (iblk m c 2 t) u (ix2 0 l)
      = u (ix2 0 l) + ((∑ r : Fin 256, 1 / 2 * p.d (row t r) l * (p.f (row t r) l * Rms.r (p.f (row t r))) : ℝ) : EReal) := by
  pointwise [k0_pay12, k0_pay10, k0_pay9, k0_pay8]
  simp only [half_pay h, iblk2 h, Rms.r_coe]
  simp only [← EReal.coe_mul, Reals.coe_sum]

/-- A sum over the grid's points and a block's rows is the sum over all rows. -/
theorem sum_rows (f : Fin 4096 → ℝ) : ∑ t : Fin cfg0.N, ∑ r : Fin 256, f (row t r) = ∑ i, f i :=
  Fin.sum_mul_add_congr (S := 16) (n := 256) fun _ _ _ => rfl

theorem out16_first (c : Dev nD) (t : Fin cfg0.N) (h : t.val % 16 = 0) : (outsAt0 m c t.val t.isLt).2.2.2.2.2.2
    = k0_pay12 (iblk m c 0 t) (iblk m c 2 t) (k0_pay6 (F := Ideal)) := by
  rw [outsAt0_A m c t h]; frame_out

theorem out16_next (c : Dev nD) (t : Fin cfg0.N) (h : ¬t.val % 16 = 0) : (outsAt0 m c t.val t.isLt).2.2.2.2.2.2
    = k0_pay12 (iblk m c 0 t) (iblk m c 2 t) (outsAt0 m c (t.val - 1) (Nat.lt_of_le_of_lt (Nat.sub_le _ _) t.isLt)).2.2.2.2.2.2 := by
  rw [outsAt0_B m c t h]; frame_out

/-- The seventh result at an index: the post-norm weight's gradient, summed over all rows. -/
theorem dq_apply (h : Args m p c) (l : Fin 1024) :
    (outsAt0 m c t0_15.val t0_15.isLt).2.2.2.2.2.2 (ix2 0 l) = (p.dq l : EReal) := by
  have e := Pipeline.eq_sum_fin_of_reset_step_apply_last (fun n h (l : Fin 1024) => (outsAt0 m c n h).2.2.2.2.2.2 (ix2 0 l)) 16
    (fun _ => (0 : EReal))
    (fun t l => ((∑ r : Fin 256, 1 / 2 * p.d (row t r) l * (p.f (row t r) l * Rms.r (p.f (row t r))) : ℝ) : EReal))
    (fun t ht l => by
      beta_reduce; rw [out16_first c t ht, dq_step h]; congr 1; pointwise [k0_pay6])
    (fun t ht l => by beta_reduce; rw [out16_next c t ht, dq_step h]) (le_of_eq Gen.N_0) t0_15 rfl l
  beta_reduce at e
  rw [e, zero_add, Reals.coe_sum, sum_rows fun i => 1 / 2 * p.d i l * (p.f i l * Rms.r (p.f i))]
  rfl

/-- The four slots' products are the two whole products. -/
theorem dn_apply (h : Args m p c) (t : Fin cfg0.N) (r : Fin 256) (l : Fin 1024) :
    dn m c t (ix2 r l) = (p.dn (row t r) l : EReal) := by
  unfold dn
  pointwise [k0_pay13, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55]
  simp only [iblk3 h, iblk4 h, iblk7 h, iblk8 h, iblk9 h, df_pay h]
  simp only [FfnBlock.da_coe, FfnBlock.db_coe]
  simp only [← EReal.coe_mul, Reals.coe_sum, ← EReal.coe_add]
  congr 1
  unfold FfnBlock.dn Rms.two
  rw [← Fin.sum_mul_add_fin 4 704 fun k => p.db (row t r) k * p.w3 l k, ← Fin.sum_mul_add_fin 4 704 fun k => p.da (row t r) k * p.w1 l k,
    Fin.sum_univ_four, Fin.sum_univ_four]
  simp only [col]
  ring

/-- The first result at an index. -/
theorem dx_apply (h : Args m p c) (t : Fin cfg0.N) (r : Fin 256) (l : Fin 1024) :
    (outsAt0 m c t.val t.isLt).1 (ix2 r l) = (p.dx (row t r) l : EReal) := by
  have e : (outsAt0 m c t.val t.isLt).1 = k0_pay4 (iblk m c 0 t) (iblk m c 1 t) (dn m c t) (iblk m c 5 t)
      (k0_pay56 (iblk m c 1 t)) (FloatOps.ofBits FTy.f32 897988541#32) := by
    by_cases ht : t.val % 16 = 0
    · rw [outsAt0_A m c t ht]; frame_out; rfl
    · rw [outsAt0_B m c t ht]; frame_out; rfl
  rw [e]
  pointwise [k0_pay4, k0_pay2, k0_pay1, k0_pay56]
  simp only [iblk0 h, iblk1 h, iblk5 h, dn_apply h, Rms.r_coe]
  rw [Rms.dx_coe, ← EReal.coe_add]; rfl

/-- The second result at an index. -/
theorem n_apply (h : Args m p c) (t : Fin cfg0.N) (r : Fin 256) (l : Fin 1024) :
    (outsAt0 m c t.val t.isLt).2.1 (ix2 r l) = (p.n (row t r) l : EReal) := by
  have e : (outsAt0 m c t.val t.isLt).2.1 = k0_pay14 (iblk m c 1 t) (iblk m c 5 t) := by
    by_cases ht : t.val % 16 = 0
    · rw [outsAt0_A m c t ht]; frame_out
    · rw [outsAt0_B m c t ht]; frame_out
  rw [e]
  pointwise [k0_pay14]
  simp only [iblk1 h, iblk5 h, Rms.r_coe]
  simp only [← EReal.coe_mul]; rfl

/-- One grid point's part of the pre-norm weight's gradient. -/
theorem dg_step (h : Args m p c) (t : Fin cfg0.N) (u : Vec Ideal S1x1024 .f32) (l : Fin 1024) :
    k0_pay3 (iblk m c 1 t) (dn m c t) (k0_pay56 (iblk m c 1 t)) (FloatOps.ofBits FTy.f32 897988541#32) u (ix2 0 l)
      = u (ix2 0 l) + ((∑ r : Fin 256, p.dn (row t r) l * (p.x (row t r) l * Rms.r (p.x (row t r))) : ℝ) : EReal) := by
  pointwise [k0_pay3, k0_pay2, k0_pay1, k0_pay56]
  simp only [dn_apply h, iblk1 h, Rms.r_coe]
  simp only [← EReal.coe_mul, Reals.coe_sum]

theorem out15_first (c : Dev nD) (t : Fin cfg0.N) (h : t.val % 16 = 0) : (outsAt0 m c t.val t.isLt).2.2.2.2.2.1
    = k0_pay3 (iblk m c 1 t) (dn m c t) (k0_pay56 (iblk m c 1 t)) (FloatOps.ofBits FTy.f32 897988541#32) (k0_pay5 (F := Ideal)) := by
  rw [outsAt0_A m c t h]; frame_out; rfl

theorem out15_next (c : Dev nD) (t : Fin cfg0.N) (h : ¬t.val % 16 = 0) : (outsAt0 m c t.val t.isLt).2.2.2.2.2.1
    = k0_pay3 (iblk m c 1 t) (dn m c t) (k0_pay56 (iblk m c 1 t)) (FloatOps.ofBits FTy.f32 897988541#32)
        (outsAt0 m c (t.val - 1) (Nat.lt_of_le_of_lt (Nat.sub_le _ _) t.isLt)).2.2.2.2.2.1 := by
  rw [outsAt0_B m c t h]; frame_out; rfl

/-- The sixth result at an index: the pre-norm weight's gradient, summed over all rows. -/
theorem dg_apply (h : Args m p c) (l : Fin 1024) :
    (outsAt0 m c t0_15.val t0_15.isLt).2.2.2.2.2.1 (ix2 0 l) = (p.dg l : EReal) := by
  have e := Pipeline.eq_sum_fin_of_reset_step_apply_last (fun n h (l : Fin 1024) => (outsAt0 m c n h).2.2.2.2.2.1 (ix2 0 l)) 16
    (fun _ => (0 : EReal))
    (fun t l => ((∑ r : Fin 256, p.dn (row t r) l * (p.x (row t r) l * Rms.r (p.x (row t r))) : ℝ) : EReal))
    (fun t ht l => by
      beta_reduce; rw [out15_first c t ht, dg_step h]; congr 1; pointwise [k0_pay5])
    (fun t ht l => by beta_reduce; rw [out15_next c t ht, dg_step h]) (le_of_eq Gen.N_0) t0_15 rfl l
  beta_reduce at e
  rw [e, zero_add, Reals.coe_sum, sum_rows fun i => p.dn i l * (p.x i l * Rms.r (p.x i))]
  rfl

end Real

end Cert.FfnIdeal.Proof

end

end
-- ==== Proof.FfnClaim.lean ====
/-
  The gradient of a feed-forward block with all its weights' gradients that are more than a plain product: kernel and reference end with the same arrays.
-/
module

public import proofs.«01_k».proof.Defs
public import proofs.«01_k».proof.Proof.FfnKernel
public import proofs.«01_k».proof.Proof.Gen.FfnRefIdeal.Run
public import proofs.«01_k».proof.Proof.Gen.FfnRefIdeal.Read
public import proofs.«01_k».proof.Proof.Gen.Pre_ffn_finite

@[expose] public section

set_option maxRecDepth 16384

noncomputable section

open Idealize.ShloMosaic Idealize.SL.Sem

namespace Cert.FfnIdeal.Proof

open Cert.FfnIdeal Cert.FfnIdeal.Gen Idealize.ShloMosaic Idealize.ShloMosaic.TcCoe Idealize.SL.Sem
open Cert.FfnRefIdeal.Read (val_main_v102 val_main_v105 val_main_v106 val_main_v70 val_main_v98 val_main_v121 val_main_v99)

variable {m : (ℓ : Loc nD τ sig) → Buf (Elt Ideal) ℓ} {c : Dev nD} {p : FfnBlock}

/-- Under the precondition the arguments are a block's real arguments. -/
theorem args_of_pre (h : Cert.Pre_FfnIdeal_ffn_finite m) (c : Dev nD) : ∃ p, Args m p c := by
  obtain ⟨h0, h1, h2, h3, h4, h5, h6⟩ := h c
  exact ⟨⟨_, _, _, _, _, _, _⟩, fun _ _ => Reals.real_of_test h0 (fun _ => rfl) _, fun _ _ => Reals.real_of_test h1 (fun _ => rfl) _,
    fun _ => Reals.real_of_test h2 (fun _ => rfl) _, fun _ _ => Reals.real_of_test h3 (fun _ => rfl) _,
    fun _ _ => Reals.real_of_test h4 (fun _ => rfl) _, fun _ _ => Reals.real_of_test h5 (fun _ => rfl) _,
    fun _ => Reals.real_of_test h6 (fun _ => rfl) _⟩

/-- The first result array is the reference's. -/
theorem result10 (h : Args m p c) : (dats m 0 c).arrAt 10 cfg0.N
    = val_main_v98 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S256x1024.Idx) (e : S4096x1024.Idx), e = ix2 (row t (y 0)) (y 1) →
      (outsAt0 m c t.val t.isLt).1 y = val_main_v98 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨r, l, rfl⟩ : ∃ (r : Fin 256) (l : Fin 1024), y = ix2 r l := ⟨y 0, y 1, eq_ix2 y⟩
    obtain rfl : e = ix2 (row t r) l := he
    rw [Cert.FfnRefIdeal.Proof.dx_apply h, dx_apply h]
  refine (dats m 0 c).arrAt_eq_of_covers 10 _ (by decide +kernel) fun t _ y => ?_
  blk_simp
  rw [after0_10]
  refine point t y _ ?_
  unfold row
  blk_ext [idx t]

/-- The second result array is the reference's. -/
theorem result11 (h : Args m p c) : (dats m 0 c).arrAt 11 cfg0.N
    = val_main_v121 (F := Ideal) (m (Thread.loc (Dev.tc c) main_arg1)) (m (Thread.loc (Dev.tc c) main_arg2)) := by
  have point : ∀ (t : Fin cfg0.N) (y : S256x1024.Idx) (e : S4096x1024.Idx), e = ix2 (row t (y 0)) (y 1) →
      (outsAt0 m c t.val t.isLt).2.1 y = val_main_v121 (F := Ideal) (m (Thread.loc (Dev.tc c) main_arg1)) (m (Thread.loc (Dev.tc c) main_arg2)) e := by
    intro t y e he
    obtain ⟨r, l, rfl⟩ : ∃ (r : Fin 256) (l : Fin 1024), y = ix2 r l := ⟨y 0, y 1, eq_ix2 y⟩
    obtain rfl : e = ix2 (row t r) l := he
    rw [Cert.FfnRefIdeal.Proof.n_out h, n_apply h]
  refine (dats m 0 c).arrAt_eq_of_covers 11 _ (by decide +kernel) fun t _ y => ?_
  blk_simp
  rw [after0_11]
  refine point t y _ ?_
  unfold row
  blk_ext [idx t]

/-- The third result array is the reference's. -/
theorem result12 (h : Args m p c) : (dats m 0 c).arrAt 12 cfg0.N
    = val_main_v102 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S4x256x704.Idx) (e : S4x4096x704.Idx), e = ix3 (y 0) (row t (y 1)) (y 2) →
      (outsAt0 m c t.val t.isLt).2.2.1 y = val_main_v102 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨k, r, j, rfl⟩ : ∃ (k : Fin 4) (r : Fin 256) (j : Fin 704), y = ix3 k r j := ⟨y 0, y 1, y 2, eq_ix3 y⟩
    obtain rfl : e = ix3 k (row t r) j := he
    rw [Cert.FfnRefIdeal.Proof.da_slot h, da_apply h, col]
  refine (dats m 0 c).arrAt_eq_of_covers 12 _ (by decide +kernel) fun t _ y => ?_
  blk_simp
  rw [after0_12]
  refine point t y _ ?_
  unfold row
  blk_ext [idx t]

/-- The fourth result array is the reference's. -/
theorem result13 (h : Args m p c) : (dats m 0 c).arrAt 13 cfg0.N
    = val_main_v105 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S4x256x704.Idx) (e : S4x4096x704.Idx), e = ix3 (y 0) (row t (y 1)) (y 2) →
      (outsAt0 m c t.val t.isLt).2.2.2.1 y = val_main_v105 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨k, r, j, rfl⟩ : ∃ (k : Fin 4) (r : Fin 256) (j : Fin 704), y = ix3 k r j := ⟨y 0, y 1, y 2, eq_ix3 y⟩
    obtain rfl : e = ix3 k (row t r) j := he
    rw [Cert.FfnRefIdeal.Proof.db_slot h, db_apply h, col]
  refine (dats m 0 c).arrAt_eq_of_covers 13 _ (by decide +kernel) fun t _ y => ?_
  blk_simp
  rw [after0_13]
  refine point t y _ ?_
  unfold row
  blk_ext [idx t]

/-- The fifth result array is the reference's. -/
theorem result14 (h : Args m p c) : (dats m 0 c).arrAt 14 cfg0.N
    = val_main_v106 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S256x1024.Idx) (e : S4096x1024.Idx), e = ix2 (row t (y 0)) (y 1) →
      (outsAt0 m c t.val t.isLt).2.2.2.2.1 y = val_main_v106 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨r, l, rfl⟩ : ∃ (r : Fin 256) (l : Fin 1024), y = ix2 r l := ⟨y 0, y 1, eq_ix2 y⟩
    obtain rfl : e = ix2 (row t r) l := he
    rw [Cert.FfnRefIdeal.Proof.df_out h, df_apply h]
  refine (dats m 0 c).arrAt_eq_of_covers 14 _ (by decide +kernel) fun t _ y => ?_
  blk_simp
  rw [after0_14]
  refine point t y _ ?_
  unfold row
  blk_ext [idx t]

/-- The sixth result array is the reference's. -/
theorem result15 (h : Args m p c) : (dats m 0 c).arrAt 15 cfg0.N
    = val_main_v99 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (y e : S1x1024.Idx), e = y →
      (outsAt0 m c t0_15.val t0_15.isLt).2.2.2.2.2.1 y = val_main_v99 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro y e he
    obtain ⟨l, hl⟩ : ∃ l : Fin 1024, y = ix2 0 l := ⟨y 1, by rw [eq_ix2 y]; congr 1; exact Subsingleton.elim (α := Fin 1) _ _⟩
    rw [he, hl, Cert.FfnRefIdeal.Proof.dg_apply h, dg_apply h]
  refine (dats m 0 c).arrAt_eq_of_covers 15 _ (by decide +kernel) fun t hf y => ?_
  have ht : t = t0_15 := (by decide +kernel : ∀ t : Fin grid0.N, win0_15.flush t = true → t = t0_15) t hf
  blk_simp
  rw [after0_15]
  subst ht
  refine point y _ ?_
  blk_ext [idx t0_15]

/-- The seventh result array is the reference's. -/
theorem result16 (h : Args m p c) : (dats m 0 c).arrAt 16 cfg0.N
    = val_main_v70 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) := by
  have point : ∀ (y e : S1x1024.Idx), e = y →
      (outsAt0 m c t0_15.val t0_15.isLt).2.2.2.2.2.2 y = val_main_v70 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) e := by
    intro y e he
    obtain ⟨l, hl⟩ : ∃ l : Fin 1024, y = ix2 0 l := ⟨y 1, by rw [eq_ix2 y]; congr 1; exact Subsingleton.elim (α := Fin 1) _ _⟩
    rw [he, hl, Cert.FfnRefIdeal.Proof.dq_apply h, dq_apply h]
  refine (dats m 0 c).arrAt_eq_of_covers 16 _ (by decide +kernel) fun t hf y => ?_
  have ht : t = t0_15 := (by decide +kernel : ∀ t : Fin grid0.N, win0_16.flush t = true → t = t0_15) t hf
  blk_simp
  rw [after0_16]
  subst ht
  refine point y _ ?_
  blk_ext [idx t0_15]

set_option maxHeartbeats 4000000 in
/-- Kernel and reference, from memories that agree on the arguments, end with equal results. -/
theorem algebraic : Cert.algebraic_FfnIdeal_FfnRefIdeal_pre_ffn_finite := by
  intro m ρ m' ρ' hpre hag
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, Value.run_blocks m ρ, ?_⟩
  refine (θ_run Cert.FfnRefIdeal.defs _ _).mono (fun r h c => ?_) (Cert.FfnRefIdeal.Value.run (F := Ideal) m' ρ')
  obtain ⟨p, hA⟩ := args_of_pre hpre c
  obtain ⟨e0, e1, e2, e3, e4, e5, e6⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · have e := result10 hA
    rw [← e0, ← e1, ← e2, ← e3, ← e4, ← e5, ← e6] at e
    rw [Cert.FfnRefIdeal.Read.val_main_v98_eq]; exact e.symm
  · have e := result11 hA
    rw [← e1, ← e2] at e
    rw [Cert.FfnRefIdeal.Read.val_main_v121_eq]; exact e.symm
  · have e := result12 hA
    rw [← e0, ← e1, ← e2, ← e3, ← e4, ← e5, ← e6] at e
    rw [Cert.FfnRefIdeal.Read.val_main_v102_eq]; exact e.symm
  · have e := result13 hA
    rw [← e0, ← e1, ← e2, ← e3, ← e4, ← e5, ← e6] at e
    rw [Cert.FfnRefIdeal.Read.val_main_v105_eq]; exact e.symm
  · have e := result14 hA
    rw [← e0, ← e1, ← e2, ← e3, ← e4, ← e5, ← e6] at e
    rw [Cert.FfnRefIdeal.Read.val_main_v106_eq]; exact e.symm
  · have e := result15 hA
    rw [← e0, ← e1, ← e2, ← e3, ← e4, ← e5, ← e6] at e
    rw [Cert.FfnRefIdeal.Read.val_main_v99_eq]; exact e.symm
  · have e := result16 hA
    rw [← e0, ← e1, ← e2, ← e3, ← e4, ← e5] at e
    rw [Cert.FfnRefIdeal.Read.val_main_v70_eq]; exact e.symm

end Cert.FfnIdeal.Proof

/-- The reference's frame: its run, read at the arguments; it declares no semaphore. -/
theorem Cert.FfnRefIdeal.Proof.frame : Cert.quiescent_FfnRefIdeal := fun m ρ _ =>
  (θ_run Cert.FfnRefIdeal.defs _ _).mono (fun _ h => ⟨fun c => (h c).2.2.2.2.2.2.2, funext fun q => nomatch q⟩)
    (Cert.FfnRefIdeal.Value.run (F := Ideal) m ρ)

end

end
-- ==== Proof.AttnReal.lean ====
/-
  Banded attention with a sink over the reals: 64 chunks of 64 queries, each chunk against the 192 keys of its own and the
  two chunks before it, 4 key-value heads of 4 query heads each.
-/
module

public import proofs.«01_k».proof.Proof.Reals
public import Idealize.ShloMosaic.Lib.Pipeline.ValueKit.Point

@[expose] public section

noncomputable section

namespace Reals

open Idealize.ShloMosaic

theorem ceighth : Ideal.ofBits FTy.f32 1040187392#32 = ((1 / 8 : ℝ) : EReal) := by
  simp [Ideal.ofBits, Ideal.ieee]; rw [← EReal.coe_mul]; norm_num

/-- The score of a key before the sequence's start. -/
def neg : ℝ := -(13234890 * 2 ^ 76)

theorem cneg : Ideal.ofBits FTy.f32 4048155338#32 = (neg : EReal) := by
  simp [Ideal.ofBits, Ideal.ieee, neg]

theorem cbot : Ideal.ofBits FTy.f32 4286578688#32 = ⊥ := by
  simp [Ideal.ofBits, Ideal.ieee]

/-- The greatest of finitely many reals and one more is a real. -/
theorem fold_max {ι : Type*} (s : Finset ι) (f : ι → ℝ) (t : ℝ) :
    ∃ m : ℝ, max (Finset.fold max ⊥ (fun x => (f x : EReal)) s) (t : EReal) = (m : EReal) := by
  classical
  induction s using Finset.induction_on with
  | empty => exact ⟨t, by simp⟩
  | insert a s ha ih =>
    obtain ⟨m, hm⟩ := ih
    refine ⟨max (f a) m, ?_⟩
    rw [Finset.fold_insert ha, max_assoc, hm]
    exact (EReal.coe_strictMono.monotone.map_max).symm

/-- A shift does not change a softmax with a sink. -/
theorem softmax_shift {n : Nat} (s : Fin n → ℝ) (t m : ℝ) (j : Fin n) :
    Real.exp (s j - m) * (1 / (∑ x, Real.exp (s x - m) + Real.exp (t - m)))
      = Real.exp (s j) / (∑ x, Real.exp (s x) + Real.exp t) := by
  have hp : 0 < ∑ x, Real.exp (s x) + Real.exp t :=
    add_pos_of_nonneg_of_pos (Finset.sum_nonneg fun _ _ => (Real.exp_pos _).le) (Real.exp_pos _)
  simp only [Real.exp_sub, ← Finset.sum_div, ← add_div]
  have := Real.exp_ne_zero m
  field_simp

theorem sum_exp_pos {n : Nat} (s : Fin n → ℝ) (t m : ℝ) : 0 < ∑ x, Real.exp (s x - m) + Real.exp (t - m) :=
  add_pos_of_nonneg_of_pos (Finset.sum_nonneg fun _ _ => (Real.exp_pos _).le) (Real.exp_pos _)

/-- A softmax with a sink, as the kernel computes it. -/
theorem softmax_coe {n : Nat} (s : Fin n → ℝ) (t : ℝ) (j : Fin n) :
    Ideal.exp ((s j : EReal) - max (Finset.fold max ⊥ (fun x => (s x : EReal)) Finset.univ) (t : EReal))
        * Ideal.div 1 (∑ x, Ideal.exp ((s x : EReal) - max (Finset.fold max ⊥ (fun x => (s x : EReal)) Finset.univ) (t : EReal))
          + Ideal.exp ((t : EReal) - max (Finset.fold max ⊥ (fun x => (s x : EReal)) Finset.univ) (t : EReal)))
      = ((Real.exp (s j) / (∑ x, Real.exp (s x) + Real.exp t) : ℝ) : EReal) := by
  obtain ⟨m, hm⟩ := fold_max Finset.univ s t
  simp only [hm, ← EReal.coe_sub, Ideal.exp_coe, coe_sum, ← EReal.coe_add, ← EReal.coe_one]
  rw [div_real _ (sum_exp_pos s t m).ne', ← EReal.coe_mul, softmax_shift]

/-- The sum over one group of 64 lanes of 256. -/
theorem sum_group (f : Fin 256 → ℝ) (g : Fin 4) :
    ∑ l : Fin 256, (if l.val / 64 = g.val then 1 else 0) * f l = ∑ d : Fin 64, f ⟨g.val * 64 + d.val, by omega⟩ := by
  rw [← Fin.sum_mul_add_fin 4 64 fun l => (if l.val / 64 = g.val then 1 else 0) * f l]
  rw [Finset.sum_eq_single g]
  · refine Finset.sum_congr rfl fun d _ => ?_
    rw [if_pos (by show (g.val * 64 + d.val) / 64 = g.val; omega), one_mul]
  · intro b _ hb
    refine Finset.sum_eq_zero fun d _ => ?_
    rw [if_neg (by show ¬ (b.val * 64 + d.val) / 64 = g.val; have : b.val ≠ g.val := fun e => hb (Fin.ext e); omega), zero_mul]
  · intro h; exact absurd (Finset.mem_univ g) h

end Reals

/-- The arguments of the attention. -/
structure Attn where
  q : Fin 4096 → Fin 1024 → ℝ
  k : Fin 4096 → Fin 256 → ℝ
  v : Fin 4096 → Fin 256 → ℝ
  sink : Fin 16 → ℝ
  bias : Fin 16 → Fin 64 → Fin 192 → ℝ

namespace Attn

/-- Query head `r` of key-value head `g`. -/
def hd (g r : Fin 4) : Fin 16 := ⟨4 * g.val + r.val, by omega⟩

/-- Row `i` of chunk `c`. -/
def row (c i : Fin 64) : Fin 4096 := ⟨c.val * 64 + i.val, by omega⟩

/-- Component `d` of query head `r` of key-value head `g`. -/
def qcol (g r : Fin 4) (d : Fin 64) : Fin 1024 := ⟨(4 * g.val + r.val) * 64 + d.val, by omega⟩

/-- Component `d` of key-value head `g`. -/
def kcol (g : Fin 4) (d : Fin 64) : Fin 256 := ⟨g.val * 64 + d.val, by omega⟩

/-- The keys or values with two chunks of zeros before them. -/
def pad (k : Fin 4096 → Fin 256 → ℝ) (r : Fin 4224) (l : Fin 256) : ℝ :=
  if h : 128 ≤ r.val then k ⟨r.val - 128, by omega⟩ l else 0

/-- Key `j` of chunk `c`'s band. -/
def key (c : Fin 64) (j : Fin 192) : Fin 4224 := ⟨c.val * 64 + j.val, by omega⟩

variable (p : Attn)

/-- The score of a query against a key. -/
def s (c : Fin 64) (g r : Fin 4) (i : Fin 64) (j : Fin 192) : ℝ :=
  if 128 ≤ c.val * 64 + j.val then
    (∑ d : Fin 64, pad p.k (key c j) (kcol g d) * p.q (row c i) (qcol g r d)) * (1 / 8) + p.bias (hd g r) i j
  else Reals.neg

/-- The weight of a key. -/
def w (c : Fin 64) (g r : Fin 4) (i : Fin 64) (j : Fin 192) : ℝ :=
  Real.exp (p.s c g r i j) / (∑ x, Real.exp (p.s c g r i x) + Real.exp (p.sink (hd g r)))

/-- The attention's result. -/
def o (c : Fin 64) (g r : Fin 4) (i d : Fin 64) : ℝ :=
  ∑ j : Fin 192, p.w c g r i j * pad p.v (key c j) (kcol g d)

end Attn

end
-- ==== Proof.AttnChunk.lean ====
/-
  One chunk of the banded attention with a sink, as the kernel computes it, over real arguments.
-/
module

public import proofs.«01_k».proof.Proof.Gen.AttnIdeal.Value
public import proofs.«01_k».proof.Proof.AttnReal
public import Idealize.ShloMosaic.Lib.Pipeline.ValueKit.Point

@[expose] public section

set_option maxRecDepth 16384

noncomputable section

namespace Cert.AttnIdeal.Proof

open Cert.AttnIdeal Cert.AttnIdeal.Gen Idealize.ShloMosaic Idealize.ShloMosaic.TcCoe Idealize.SL.Sem
open Attn (row qcol kcol key hd pad)

/-- Row `i` of the block of query head `r` of each group. -/
def lane (r : Fin 4) (i : Fin 64) : Fin 256 := ⟨r.val * 64 + i.val, by omega⟩

/-- Blocks of 64 lanes side by side, a row of 1024. -/
theorem lanes16 {α : Type} (i : Fin 64) (y : Fin 1024) (d : Fin 64) : ∀ (fs : List (S64x64.Idx → α)) (n : Nat) (hn : n < fs.length)
    (hs : ∀ s' ∈ (fs.map fun f => (⟨S64x64, f⟩ : (s : Shape) × (s.Idx → α))).map (·.1), s'.FitsOff S64x1024 1) (c : Nat)
    (hc : c < (axisSizes S64x1024 1 (fs.map fun f => (⟨S64x64, f⟩ : (s : Shape) × (s.Idx → α)))).sum) (_ : c = n * 64 + d.val),
    concatenateAt S64x1024 1 (ix2 i y) (fs.map fun f => (⟨S64x64, f⟩ : (s : Shape) × (s.Idx → α))) hs c hc = fs[n] (ix2 i d)
  | [], n, hn, _, _, _, _ => absurd hn (Nat.not_lt_zero n)
  | [f], n, hn, hs, c, hc, h => by
    obtain rfl : n = 0 := by simpa using hn
    obtain rfl : c = d.val := by omega
    refine (concatenateAt_singleton ..).trans ?_
    exact congrArg f (by ext a; fin_cases a <;> rfl)
  | f :: q :: fs, 0, hn, hs, c, hc, h => by
    obtain rfl : c = d.val := by omega
    refine (concatenateAt_cons ..).trans ((dif_pos (show d.val < 64 from d.isLt)).trans ?_)
    exact congrArg f (by ext a; fin_cases a <;> rfl)
  | f :: q :: fs, n + 1, hn, hs, c, hc, h => by
    refine (concatenateAt_cons ..).trans ((dif_neg (show ¬ c < 64 by omega)).trans ?_)
    refine (lanes16 i y d (q :: fs) n (by simpa using hn) _ (c - 64) _ (by omega)).trans ?_
    simp

/-- Blocks of 64 lanes side by side, a row of 256. -/
theorem lanes4 {α : Type} (i : Fin 64) (y : Fin 256) (d : Fin 64) : ∀ (fs : List (S64x64.Idx → α)) (n : Nat) (hn : n < fs.length)
    (hs : ∀ s' ∈ (fs.map fun f => (⟨S64x64, f⟩ : (s : Shape) × (s.Idx → α))).map (·.1), s'.FitsOff S64x256 1) (c : Nat)
    (hc : c < (axisSizes S64x256 1 (fs.map fun f => (⟨S64x64, f⟩ : (s : Shape) × (s.Idx → α)))).sum) (_ : c = n * 64 + d.val),
    concatenateAt S64x256 1 (ix2 i y) (fs.map fun f => (⟨S64x64, f⟩ : (s : Shape) × (s.Idx → α))) hs c hc = fs[n] (ix2 i d)
  | [], n, hn, _, _, _, _ => absurd hn (Nat.not_lt_zero n)
  | [f], n, hn, hs, c, hc, h => by
    obtain rfl : n = 0 := by simpa using hn
    obtain rfl : c = d.val := by omega
    refine (concatenateAt_singleton ..).trans ?_
    exact congrArg f (by ext a; fin_cases a <;> rfl)
  | f :: q :: fs, 0, hn, hs, c, hc, h => by
    obtain rfl : c = d.val := by omega
    refine (concatenateAt_cons ..).trans ((dif_pos (show d.val < 64 from d.isLt)).trans ?_)
    exact congrArg f (by ext a; fin_cases a <;> rfl)
  | f :: q :: fs, n + 1, hn, hs, c, hc, h => by
    refine (concatenateAt_cons ..).trans ((dif_neg (show ¬ c < 64 by omega)).trans ?_)
    refine (lanes4 i y d (q :: fs) n (by simpa using hn) _ (c - 64) _ (by omega)).trans ?_
    simp

/-- Blocks of 64 rows one below the other. -/
theorem rows4 {α : Type} (y : Fin 256) (l : Fin 256) (d : Fin 64) : ∀ (fs : List (S64x256.Idx → α)) (n : Nat) (hn : n < fs.length)
    (hs : ∀ s' ∈ (fs.map fun f => (⟨S64x256, f⟩ : (s : Shape) × (s.Idx → α))).map (·.1), s'.FitsOff S256x256 0) (c : Nat)
    (hc : c < (axisSizes S256x256 0 (fs.map fun f => (⟨S64x256, f⟩ : (s : Shape) × (s.Idx → α)))).sum) (_ : c = n * 64 + d.val),
    concatenateAt S256x256 0 (ix2 y l) (fs.map fun f => (⟨S64x256, f⟩ : (s : Shape) × (s.Idx → α))) hs c hc = fs[n] (ix2 d l)
  | [], n, hn, _, _, _, _ => absurd hn (Nat.not_lt_zero n)
  | [f], n, hn, hs, c, hc, h => by
    obtain rfl : n = 0 := by simpa using hn
    obtain rfl : c = d.val := by omega
    refine (concatenateAt_singleton ..).trans ?_
    exact congrArg f (by ext a; fin_cases a <;> rfl)
  | f :: q :: fs, 0, hn, hs, c, hc, h => by
    obtain rfl : c = d.val := by omega
    refine (concatenateAt_cons ..).trans ((dif_pos (show d.val < 64 from d.isLt)).trans ?_)
    exact congrArg f (by ext a; fin_cases a <;> rfl)
  | f :: q :: fs, n + 1, hn, hs, c, hc, h => by
    refine (concatenateAt_cons ..).trans ((dif_neg (show ¬ c < 64 by omega)).trans ?_)
    refine (rows4 y l d (q :: fs) n (by simpa using hn) _ (c - 64) _ (by omega)).trans ?_
    simp

/-- The queries of a chunk, its heads one below the other. -/
theorem stack_apply {q : FVec Ideal S64x1024 .bf16} {Q : Fin 64 → Fin 1024 → ℝ} (hq : ∀ i y, q (ix2 i y) = (Q i y : EReal))
    (r : Fin 4) (i : Fin 64) (g : Fin 4) (d : Fin 64) :
    k0_pay29 (F := Ideal) q (ix2 (lane r i) (kcol g d)) = (Q i (qcol g r d) : EReal) := by
  rw [← hq]
  unfold k0_pay29
  rw [concatenate_apply]
  refine (rows4 _ _ i [_, _, _, _] r.val r.isLt _ _ _ rfl).trans ?_
  fin_cases r <;>
  · show concatenate S64x256 1 [⟨S64x64, _⟩, ⟨S64x64, _⟩, ⟨S64x64, _⟩, ⟨S64x64, _⟩]
      concatenates_S64x64_S64x64_S64x64_S64x64_S64x256_d1 (ix2 i (kcol g d)) = _
    rw [concatenate_apply]
    refine (lanes4 _ _ d [_, _, _, _] g.val g.isLt _ _ _ rfl).trans ?_
    fin_cases g <;> exact congrArg q (by ext a; fin_cases a <;> simp [qcol])

/-- Column blocks of each group's heads back in one row. -/
theorem unstack_apply {a b : FVec Ideal S256x256 .f32} {O : Fin 256 → Fin 256 → ℝ}
    (ho : ∀ x y, (a (ix2 x y) + b (ix2 x y) : EReal) = (O x y : EReal))
    (i : Fin 64) (g r : Fin 4) (d : Fin 64) :
    k0_pay44 (F := Ideal) a b (ix2 i (qcol g r d)) = (O (lane r i) (kcol g d) : EReal) := by
  rw [← ho]
  unfold k0_pay44
  rw [show ∀ (x : FVec Ideal S64x1024 .f32) h j, (truncf .bf16 x h : FVec Ideal S64x1024 .bf16) j = x j from fun _ _ _ => rfl,
    concatenate_apply]
  refine (lanes16 _ _ d [_, _, _, _, _, _, _, _, _, _, _, _, _, _, _, _] (4 * g.val + r.val) (by simp; omega) _ _ _ rfl).trans ?_
  fin_cases g <;> fin_cases r <;> exact congrArg (fun z => (a z + b z : EReal)) (by ext a; fin_cases a <;> simp [lane, kcol])

/-- Whether a key of chunk `C` lies in the sequence. -/
theorem valid_apply (c : Fin 64) (j : Fin 192) :
    k0_pay30 (BitVec.ofNat 32 c.val) (iota Kind.tc S192x1 32 [0] iota_S192x1_d0_w32) (ix2 j 0)
      = BitVec.ofBool (decide (128 ≤ c.val * 64 + j.val)) := by
  pointwise [k0_pay30]
  revert c j
  decide +kernel

/-- A group's scores. -/
theorem score_apply {o w : FVec Ideal S192x256 .bf16} {a : FVec Ideal S256x256 .bf16} {g : Fin 4} {W : Fin 192 → Fin 256 → ℝ}
    {A : Fin 256 → Fin 256 → ℝ} (ho : ∀ j l, o (ix2 j l) = ((if l.val / 64 = g.val then 1 else 0 : ℝ) : EReal))
    (hw : ∀ j l, w (ix2 j l) = (W j l : EReal)) {x : Fin 256} (ha : ∀ l, a (ix2 x l) = (A x l : EReal)) (j : Fin 192) :
    k0_pay33 (F := Ideal) o w a (ix2 j x) = ((∑ d, W j (kcol g d) * A x (kcol g d) : ℝ) : EReal) := by
  pointwise [k0_pay33]
  simp only [ho, hw, ha, ← EReal.coe_mul, Reals.coe_sum]
  rw [EReal.coe_eq_coe_iff]
  refine Eq.trans ?_ (Reals.sum_group (fun l => W j l * A x l) g)
  exact Finset.sum_congr rfl fun l _ => by ring

/-- A group's softmax. -/
theorem soft_apply {ok : IVec S192x1 1} {qk b : FVec Ideal S192x256 .f32} {sk : FVec Ideal S1x256 .f32} {x : Fin 256}
    {K : Fin 192 → Prop} [DecidablePred K] {QK B : Fin 192 → ℝ} {S : ℝ}
    (hk : ∀ j, ok (ix2 j 0) = BitVec.ofBool (decide (K j))) (hq : ∀ j, qk (ix2 j x) = (QK j : EReal))
    (hb : ∀ j, b (ix2 j x) = (B j : EReal)) (hs : sk (ix2 0 x) = (S : EReal)) (j : Fin 192) :
    k0_pay36 (F := Ideal) ok qk b sk (ix2 j x)
      = ((Real.exp (if K j then QK j * (1 / 8) + B j else Reals.neg)
          / (∑ y, Real.exp (if K y then QK y * (1 / 8) + B y else Reals.neg) + Real.exp S) : ℝ) : EReal) := by
  have e : ∀ j, Scalar.select (ok (ix2 j 0)) (qk (ix2 j x) * Ideal.ofBits FTy.f32 1040187392#32 + b (ix2 j x))
      (Ideal.ofBits FTy.f32 4048155338#32) = ((if K j then QK j * (1 / 8) + B j else Reals.neg : ℝ) : EReal) := by
    intro j
    rw [hk, hq, hb, Reals.ceighth, Reals.cneg, ← EReal.coe_mul, ← EReal.coe_add]
    by_cases h : K j <;> simp [h, Scalar.select]
  pointwise [k0_pay36]
  simp only [e, hs, Reals.cbot]
  exact Reals.softmax_coe (fun j => if K j then QK j * (1 / 8) + B j else Reals.neg) S j

/-- A group's share of the weighted values. -/
def part (o v : FVec Ideal S192x256 .bf16) (p : FVec Ideal S192x256 .f32) : FVec Ideal S256x256 .f32 :=
  matmul dot_S192x256_S192x256_S256x256_0_0_1_1_n_n none (truncf .bf16 p bitsLt_bf16_f32) (mulf v o)
    (constant S256x256 .f32 0x00000000#32)

theorem part_apply {o v : FVec Ideal S192x256 .bf16} {p : FVec Ideal S192x256 .f32} {g : Fin 4} {V : Fin 192 → Fin 256 → ℝ}
    {P : Fin 192 → Fin 256 → ℝ} (ho : ∀ j l, o (ix2 j l) = ((if l.val / 64 = g.val then 1 else 0 : ℝ) : EReal))
    (hv : ∀ j l, v (ix2 j l) = (V j l : EReal)) (hp : ∀ j x, p (ix2 j x) = (P j x : EReal)) (x l : Fin 256) :
    part o v p (ix2 x l) = ((if l.val / 64 = g.val then ∑ j, P j x * V j l else 0 : ℝ) : EReal) := by
  pointwise [part]
  simp only [ho, hv, hp, ← EReal.coe_mul, Reals.coe_sum]
  by_cases h : l.val / 64 = g.val <;> simp [h]

/-- One chunk of the result. -/
def chunk (o0 o1 o2 o3 kw vw : FVec Ideal S192x256 .bf16) (q : FVec Ideal S64x1024 .bf16) (n : BitVec 32)
    (b0 b1 b2 b3 : FVec Ideal S192x256 .f32) (s0 s1 s2 s3 : FVec Ideal S1x256 .f32) : FVec Ideal S64x1024 .bf16 :=
  k0_pay44
    (addf (addf (addf (broadcast S256x256 (Scalar.ofBits .f32 0x00000000#32))
      (part o0 (k0_pay28 vw) (k0_pay36 (k0_pay30 n (iota Kind.tc S192x1 32 [0] iota_S192x1_d0_w32)) (k0_pay33 o0 (k0_pay27 kw) (k0_pay29 q)) (k0_pay35 b0) s0)))
      (part o1 (k0_pay28 vw) (k0_pay36 (k0_pay30 n (iota Kind.tc S192x1 32 [0] iota_S192x1_d0_w32)) (k0_pay33 o1 (k0_pay27 kw) (k0_pay29 q)) (k0_pay35 b1) s1)))
      (part o2 (k0_pay28 vw) (k0_pay36 (k0_pay30 n (iota Kind.tc S192x1 32 [0] iota_S192x1_d0_w32)) (k0_pay33 o2 (k0_pay27 kw) (k0_pay29 q)) (k0_pay35 b2) s2)))
    (part o3 (k0_pay28 vw) (k0_pay36 (k0_pay30 n (iota Kind.tc S192x1 32 [0] iota_S192x1_d0_w32)) (k0_pay33 o3 (k0_pay27 kw) (k0_pay29 q)) (k0_pay35 b3) s3))

theorem lane_eq (x : Fin 256) : ∃ r i, x = lane r i :=
  ⟨⟨x.val / 64, by omega⟩, ⟨x.val % 64, by omega⟩, Fin.ext (by show x.val = x.val / 64 * 64 + x.val % 64; omega)⟩

theorem kcol_eq (x : Fin 256) : ∃ r i, x = kcol r i :=
  ⟨⟨x.val / 64, by omega⟩, ⟨x.val % 64, by omega⟩, Fin.ext (by show x.val = x.val / 64 * 64 + x.val % 64; omega)⟩

/-- The query head of a lane, and its row. -/
def laneHead (x : Fin 256) : Fin 4 := ⟨x.val / 64, by omega⟩
def laneRow (x : Fin 256) : Fin 64 := ⟨x.val % 64, by omega⟩

theorem laneHead_lane (r : Fin 4) (i : Fin 64) : laneHead (lane r i) = r := Fin.ext (by show (r.val * 64 + i.val) / 64 = _; omega)
theorem laneRow_lane (r : Fin 4) (i : Fin 64) : laneRow (lane r i) = i := Fin.ext (by show (r.val * 64 + i.val) % 64 = _; omega)

theorem laneHead_kcol (g : Fin 4) (d : Fin 64) : laneHead (kcol g d) = g := laneHead_lane g d
theorem laneRow_kcol (g : Fin 4) (d : Fin 64) : laneRow (kcol g d) = d := laneRow_lane g d

section Chunk

variable {p : Attn} {c : Fin 64} {kw vw : FVec Ideal S192x256 .bf16} {q : FVec Ideal S64x1024 .bf16}

theorem weight_apply {o : FVec Ideal S192x256 .bf16} {b : FVec Ideal S192x256 .f32} {sk : FVec Ideal S1x256 .f32} {g : Fin 4}
    (ho : ∀ j l, o (ix2 j l) = ((if l.val / 64 = g.val then 1 else 0 : ℝ) : EReal))
    (hk : ∀ j l, kw (ix2 j l) = (pad p.k (key c j) l : EReal)) (hq : ∀ i y, q (ix2 i y) = (p.q (row c i) y : EReal))
    (hb : ∀ j r i, b (ix2 j (lane r i)) = (p.bias (hd g r) i j : EReal))
    (hs : ∀ r i, sk (ix2 0 (lane r i)) = (p.sink (hd g r) : EReal)) (j : Fin 192) (x : Fin 256) :
    k0_pay36 (F := Ideal) (k0_pay30 (BitVec.ofNat 32 c.val) (iota Kind.tc S192x1 32 [0] iota_S192x1_d0_w32))
      (k0_pay33 o (k0_pay27 kw) (k0_pay29 q)) (k0_pay35 b) sk (ix2 j x) = (p.w c g (laneHead x) (laneRow x) j : EReal) := by
  obtain ⟨r, i, rfl⟩ := lane_eq x
  rw [laneHead_lane, laneRow_lane]
  refine (soft_apply (K := fun j => 128 ≤ c.val * 64 + j.val) (QK := fun j => ∑ d : Fin 64, pad p.k (key c j) (kcol g d) * p.q (row c i) (qcol g r d))
    (B := fun j => p.bias (hd g r) i j) (S := p.sink (hd g r)) (valid_apply c) ?_ ?_ (hs r i) j).trans rfl
  · intro j
    refine (score_apply (A := fun x l => p.q (row c (laneRow x)) (qcol (laneHead l) (laneHead x) (laneRow l))) ho
      (W := fun j l => pad p.k (key c j) l) (fun j l => (by pointwise [k0_pay27] : _ = kw (ix2 j l)).trans (hk j l)) ?_ j).trans ?_
    · intro l
      obtain ⟨g', d, rfl⟩ := lane_eq l
      rw [laneHead_lane, laneRow_lane, laneHead_lane, laneRow_lane]
      exact stack_apply hq r i g' d
    · simp only [laneHead_lane, laneRow_lane, laneHead_kcol, laneRow_kcol]
  · intro j
    exact (by pointwise [k0_pay35] : _ = b (ix2 j (lane r i))).trans (hb j r i)

theorem chunk_apply {o : Fin 4 → FVec Ideal S192x256 .bf16} {b : Fin 4 → FVec Ideal S192x256 .f32}
    {sk : Fin 4 → FVec Ideal S1x256 .f32}
    (ho : ∀ g j l, o g (ix2 j l) = ((if l.val / 64 = g.val then 1 else 0 : ℝ) : EReal))
    (hk : ∀ j l, kw (ix2 j l) = (pad p.k (key c j) l : EReal)) (hv : ∀ j l, vw (ix2 j l) = (pad p.v (key c j) l : EReal))
    (hq : ∀ i y, q (ix2 i y) = (p.q (row c i) y : EReal))
    (hb : ∀ g j r i, b g (ix2 j (lane r i)) = (p.bias (hd g r) i j : EReal))
    (hs : ∀ g r i, sk g (ix2 0 (lane r i)) = (p.sink (hd g r) : EReal)) (i : Fin 64) (g r : Fin 4) (d : Fin 64) :
    chunk (o 0) (o 1) (o 2) (o 3) kw vw q (BitVec.ofNat 32 c.val) (b 0) (b 1) (b 2) (b 3) (sk 0) (sk 1) (sk 2) (sk 3)
      (ix2 i (qcol g r d)) = (p.o c g r i d : EReal) := by
  have hv' : ∀ j l, k0_pay28 (F := Ideal) vw (ix2 j l) = (pad p.v (key c j) l : EReal) :=
    fun j l => (by pointwise [k0_pay28] : _ = vw (ix2 j l)).trans (hv j l)
  unfold chunk
  refine (unstack_apply (O := fun x l => ∑ j : Fin 192, p.w c (laneHead l) (laneHead x) (laneRow x) j * pad p.v (key c j) l) ?_ i g r d).trans ?_
  · intro x l
    pointwise []
    simp only [part_apply (ho _) hv' (weight_apply (ho _) hk hq (hb _) (hs _))]
    obtain ⟨g', d', rfl⟩ := kcol_eq l
    have hl : (kcol g' d').val / 64 = g'.val := congrArg Fin.val (laneHead_kcol g' d')
    simp only [hl, laneHead_kcol]
    fin_cases g' <;> simp
  · simp only [laneHead_lane, laneRow_lane]
    rw [laneHead_kcol]
    rfl

end Chunk

end Cert.AttnIdeal.Proof

end

end
-- ==== Proof.AttnBlocks.lean ====
/-
  Banded attention with a sink, as the kernel leaves it: its result array at an index, over real arguments.
-/
module

public import proofs.«01_k».proof.Proof.AttnChunk

@[expose] public section

set_option maxRecDepth 16384

noncomputable section

namespace Cert.AttnIdeal.Proof

open Cert.AttnIdeal Cert.AttnIdeal.Gen Idealize.ShloMosaic Idealize.ShloMosaic.TcCoe Idealize.SL.Sem
open Attn (row qcol kcol key hd)

/-! ## The group mask: words -/

/-- The sign of a word. -/
def sgn (x : BitVec 32) : BitVec 32 := if x = 0 then 0 else if x.msb = true then -1 else 1

/-- Floor division of words. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- The divisor, one in place of zero. -/
def dvs (d : BitVec 32) : BitVec 32 := Scalar.select (IntOp.cmpi .eq d 0#32) 1#32 d

/-- Remainder of floor division of words. -/
def fmod (x d : BitVec 32) : BitVec 32 :=
  Scalar.select (IntOp.andi (IntOp.cmpi .ne (IntOp.cmpi .slt (IntOp.remsi .host x (dvs d)) 0#32) (IntOp.cmpi .slt (dvs d) 0#32))
      (IntOp.cmpi .ne (IntOp.remsi .host x (dvs d)) 0#32))
    (IntOp.addi (IntOp.remsi .host x (dvs d)) (dvs d)) (IntOp.remsi .host x (dvs d))

theorem fdiv_192 : ∀ x : Fin 768, fdiv (BitVec.ofNat 32 x.val) 192#32 = BitVec.ofNat 32 (x.val / 192) := by decide +kernel

theorem fdiv_64 : ∀ x : Fin 256, fdiv (BitVec.ofNat 32 x.val) 64#32 = BitVec.ofNat 32 (x.val / 64) := by decide +kernel

theorem fmod_192 : ∀ x : Fin 768, IntOp.cmpi .slt (fmod (BitVec.ofNat 32 x.val) 192#32) 192#32 = 1#1 := by decide +kernel

theorem eq_bit : ∀ x y : Fin 4, IntOp.andi (IntOp.cmpi .eq (BitVec.ofNat 32 x.val) (BitVec.ofNat 32 y.val)) 1#1
    = if y.val = x.val then 1#1 else 0#1 := by decide +kernel

theorem mask_bit (x : Fin 768) (l : Fin 256) :
    IntOp.andi (IntOp.cmpi .eq (fdiv (BitVec.ofNat 32 x.val) 192#32) (fdiv (BitVec.ofNat 32 l.val) 64#32))
        (IntOp.cmpi .slt (fmod (BitVec.ofNat 32 x.val) 192#32) 192#32)
      = if l.val / 64 = x.val / 192 then 1#1 else 0#1 := by
  rw [fdiv_192, fdiv_64, fmod_192]
  exact eq_bit ⟨x.val / 192, by omega⟩ ⟨l.val / 64, by omega⟩

variable (m : (ℓ : Loc nD τ sig) → Buf (Elt Ideal) ℓ)

/-! ## The operands the host lines prepare -/

/-- The host lines before the kernel. -/
abbrev host : List (HloOp τ sig (Elt Ideal)) := [hostOps0, hostOps0_1, hostOps0_2, hostOps0_3, hostOps0_4, hostOps0_5, hostOps0_6, hostOps0_7, hostOps0_8,
    hostOps0_9, hostOps0_10, hostOps0_11, hostOps0_12, hostOps0_13].flatten

theorem host_sink (c : Dev nD) (g r : Fin 4) (i : Fin 64) :
    (StableHlo.after host (fun b => m (c, b)) (Proc.tc.devRef main_v7) : FVec Ideal S8x256 .f32)
      (ix2 ⟨g.val, by omega⟩ (lane r i)) = m (c, Proc.tc.devRef main_arg3) (ix1 (hd g r)) := by
  unfold lane
  simp only [host, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil, List.cons_append, List.nil_append]
  after_results_simp
  simp only [StableHlo.TRef.ofBuf_toBuf]
  simp only [StableHlo.TRef.ofBuf, StableHlo.TRef.toBuf, StableHlo.TRef.of, cast_eq, id]
  pointwise []
  rw [dif_pos (by omega)]
  exact congrArg (m (c, Proc.tc.devRef main_arg3)) (congrArg ix1 (Fin.ext (by show g.val * 4 + (r.val * 64 + i.val) / 64 = 4 * g.val + r.val; omega)))

theorem host_kp (c : Dev nD) (x : Fin 4224) (l : Fin 256) :
    (StableHlo.after host (fun b => m (c, b)) (Proc.tc.devRef main_v25) : FVec Ideal S4224x256 .bf16) (ix2 x l)
      = if h : 128 ≤ x.val then m (c, Proc.tc.devRef main_arg1) (ix2 ⟨x.val - 128, by omega⟩ l) else ((0 : ℝ) : EReal) := by
  simp only [host, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil, List.cons_append, List.nil_append]
  after_results_simp
  simp only [StableHlo.TRef.ofBuf_toBuf]
  simp only [StableHlo.TRef.ofBuf, StableHlo.TRef.toBuf, StableHlo.TRef.of, cast_eq, id]
  pointwise []
  by_cases h : 128 ≤ x.val
  · rw [dif_pos ⟨h, by omega⟩, dif_pos h]
  · rw [dif_neg (fun e => h e.1), dif_neg h]
    simp [FloatOps.sitofp]

theorem host_vp (c : Dev nD) (x : Fin 4224) (l : Fin 256) :
    (StableHlo.after host (fun b => m (c, b)) (Proc.tc.devRef main_v26) : FVec Ideal S4224x256 .bf16) (ix2 x l)
      = if h : 128 ≤ x.val then m (c, Proc.tc.devRef main_arg2) (ix2 ⟨x.val - 128, by omega⟩ l) else ((0 : ℝ) : EReal) := by
  simp only [host, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil, List.cons_append, List.nil_append]
  after_results_simp
  simp only [StableHlo.TRef.ofBuf_toBuf]
  simp only [StableHlo.TRef.ofBuf, StableHlo.TRef.toBuf, StableHlo.TRef.of, cast_eq, id]
  pointwise []
  by_cases h : 128 ≤ x.val
  · rw [dif_pos ⟨h, by omega⟩, dif_pos h]
  · rw [dif_neg (fun e => h e.1), dif_neg h]
    simp [FloatOps.sitofp]

theorem host_bias (c : Dev nD) (g r : Fin 4) (i : Fin 64) (j : Fin 192) :
    (StableHlo.after host (fun b => m (c, b)) (Proc.tc.devRef main_v3) : FVec Ideal S768x256 .f32)
      (ix2 ⟨g.val * 192 + j.val, by omega⟩ (lane r i)) = m (c, Proc.tc.devRef main_arg4) (ix3 (hd g r) i j) := by
  unfold lane
  simp only [host, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil, List.cons_append, List.nil_append]
  after_results_simp
  simp only [StableHlo.TRef.ofBuf_toBuf]
  simp only [StableHlo.TRef.ofBuf, StableHlo.TRef.toBuf, StableHlo.TRef.of, cast_eq, id]
  pointwise []
  exact congrArg (m (c, Proc.tc.devRef main_arg4)) (congrArg (fun h => ix3 h i j) (Fin.ext (by show g.val * 4 + r.val = 4 * g.val + r.val; omega)))

theorem host_mask (c : Dev nD) (x : Fin 768) (l : Fin 256) :
    (StableHlo.after host (fun b => m (c, b)) (Proc.tc.devRef main_v24) : FVec Ideal S768x256 .bf16) (ix2 x l)
      = ((if l.val / 64 = x.val / 192 then 1 else 0 : ℝ) : EReal) := by
  simp only [host, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil, List.cons_append, List.nil_append]
  after_results_simp
  simp only [StableHlo.TRef.ofBuf_toBuf]
  simp only [StableHlo.TRef.ofBuf, StableHlo.TRef.toBuf, StableHlo.TRef.of, cast_eq, id]
  pointwise []
  change FloatOps.uitofp FTy.bf16 (IntOp.andi (IntOp.cmpi .eq (fdiv (BitVec.ofNat 32 x.val) 192#32) (fdiv (BitVec.ofNat 32 l.val) 64#32))
        (IntOp.cmpi .slt (fmod (BitVec.ofNat 32 x.val) 192#32) 192#32)) = _
  rw [mask_bit]
  by_cases h : l.val / 64 = x.val / 192 <;> simp [h, FloatOps.uitofp]

/-! ## The blocks -/

/-- Where each window's block lies at a grid point. -/
theorem idx : ∀ t : Fin cfg0.N, win0_0.index t = ![0, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- Every grid point is one of eight. -/
theorem lt_eight : ∀ t : Fin cfg0.N, t.val < 8 := (by decide +kernel : ∀ t : Fin grid0.N, t.val < 8)

/-- Chunk `k` of grid point `t`. -/
def ch (t : Fin cfg0.N) (k : Fin 8) : Fin 64 := ⟨t.val * 8 + k.val, by have := lt_eight t; omega⟩

/-- The word of a chunk's number. -/
theorem word : ∀ (t : Fin cfg0.N) (k : Fin 8),
    Scalar.addi (Scalar.muli (BitVec.ofNat 32 (grid0.coords t 0).val) 8#32) (BitVec.ofNat 32 k.val)
      = BitVec.ofNat 32 (ch t k).val :=
  (by decide +kernel : ∀ (t : Fin grid0.N) (k : Fin 8),
    Scalar.addi (Scalar.muli (BitVec.ofNat 32 (grid0.coords t 0).val) 8#32) (BitVec.ofNat 32 k.val)
      = BitVec.ofNat 32 (t.val * 8 + k.val))

/-- Where a chunk's band starts. -/
theorem start : ∀ (t : Fin cfg0.N) (k : Fin 8), k0_off1 (grid0.coords t) (BitVec.ofNat 32 k.val) = ![(ch t k).val * 64, 0] :=
  (by decide +kernel : ∀ (t : Fin grid0.N) (k : Fin 8),
    k0_off1 (grid0.coords t) (BitVec.ofNat 32 k.val) = ![(t.val * 8 + k.val) * 64, 0])

/-- The arguments on a device, real. -/
structure Args (p : Attn) (c : Dev nD) : Prop where
  q : ∀ i l, m (c, Proc.tc.devRef main_arg0) (ix2 i l) = (p.q i l : EReal)
  k : ∀ i l, m (c, Proc.tc.devRef main_arg1) (ix2 i l) = (p.k i l : EReal)
  v : ∀ i l, m (c, Proc.tc.devRef main_arg2) (ix2 i l) = (p.v i l : EReal)
  sink : ∀ h, m (c, Proc.tc.devRef main_arg3) (ix1 h) = (p.sink h : EReal)
  bias : ∀ h i j, m (c, Proc.tc.devRef main_arg4) (ix3 h i j) = (p.bias h i j : EReal)

section Real

variable {m} {c : Dev nD} {p : Attn}

theorem iblk0 (h : Args m p c) (t : Fin cfg0.N) (g r : Fin 4) (i : Fin 64) :
    iblk m c 0 t (ix2 ⟨g.val, by omega⟩ (lane r i)) = (p.sink (hd g r) : EReal) := by
  rw [← h.sink, ← host_sink m c g r i]; blk_ext! [iblk, V, idx t]

theorem iblk1 (h : Args m p c) (t : Fin cfg0.N) (k : Fin 8) (i : Fin 64) (y : Fin 1024) :
    iblk m c 1 t (ix2 ⟨k.val * 64 + i.val, by omega⟩ y) = (p.q (row (ch t k) i) y : EReal) := by
  rw [← h.q]; unfold row ch; blk_ext! [iblk, V, idx t]

theorem iblk2 (h : Args m p c) (t : Fin cfg0.N) (x : Fin 4224) (l : Fin 256) :
    iblk m c 2 t (ix2 x l) = (Attn.pad p.k x l : EReal) := by
  have e := host_kp m c x l
  simp only [h.k] at e
  rw [show (Attn.pad p.k x l : EReal) = _ from (by unfold Attn.pad; split <;> rfl : _ = _).trans e.symm]
  blk_ext! [iblk, V, idx t]

theorem iblk3 (h : Args m p c) (t : Fin cfg0.N) (x : Fin 4224) (l : Fin 256) :
    iblk m c 3 t (ix2 x l) = (Attn.pad p.v x l : EReal) := by
  have e := host_vp m c x l
  simp only [h.v] at e
  rw [show (Attn.pad p.v x l : EReal) = _ from (by unfold Attn.pad; split <;> rfl : _ = _).trans e.symm]
  blk_ext! [iblk, V, idx t]

theorem iblk4 (h : Args m p c) (t : Fin cfg0.N) (g r : Fin 4) (i : Fin 64) (j : Fin 192) :
    iblk m c 4 t (ix2 ⟨g.val * 192 + j.val, by omega⟩ (lane r i)) = (p.bias (hd g r) i j : EReal) := by
  rw [← h.bias, ← host_bias m c g r i j]; blk_ext! [iblk, V, idx t]

theorem iblk5 (t : Fin cfg0.N) (x : Fin 768) (l : Fin 256) :
    iblk m c 5 t (ix2 x l) = ((if l.val / 64 = x.val / 192 then 1 else 0 : ℝ) : EReal) := by
  rw [← host_mask m c x l]; blk_ext! [iblk, V, idx t]

/-- The keys or values of a chunk's band. -/
theorem band_apply (X : FVec Ideal S4224x256 .bf16) (t : Fin cfg0.N) (k : Fin 8) (j : Fin 192) (l : Fin 256) :
    View.ld (Val := Elt Ideal) (e' := .bf16) X (Rect.unit (s := S4224x256) (k0_off1 (grid0.coords t) (BitVec.ofNat 32 k.val)) S192x256.size
      (k0_off1_inb (grid0.coords t) k)) (ix2 j l) = X (ix2 (key (ch t k) j) l) := by
  have e := start t k
  refine congrArg X ?_
  ext a
  fin_cases a
  · show k0_off1 (grid0.coords t) (BitVec.ofNat 32 k.val) 0 + 1 * j.val = (ch t k).val * 64 + j.val
    rw [e, one_mul]; rfl
  · show k0_off1 (grid0.coords t) (BitVec.ofNat 32 k.val) 1 + 1 * l.val = l.val
    rw [e, one_mul]; exact Nat.zero_add _

/-- A group's mask. -/
theorem own_load (t : Fin cfg0.N) (g : Fin 4) (o : Nat) (e : o = g.val * 192)
    (hb : ∀ a, (![o, 0] : Fin 2 → Nat) a + S192x256.size a ≤ S768x256.size a) (j : Fin 192) (l : Fin 256) :
    shapeCast S192x256 (View.ld (Val := Elt Ideal) (e' := .bf16) (iblk m c 5 t) (Rect.unit (s := S768x256) ![o, 0] S192x256.size hb)) shapeCasts_S192x256_S192x256 (ix2 j l)
      = ((if l.val / 64 = g.val then 1 else 0 : ℝ) : EReal) := by
  subst e
  refine (congrFun (shapeCast_self (s := S192x256) (α := Elt Ideal .bf16) _ shapeCasts_S192x256_S192x256) (ix2 j l)).trans ?_
  refine (congrArg (iblk m c 5 t) (a₂ := ix2 ⟨g.val * 192 + j.val, by omega⟩ l) ?_).trans ((iblk5 t _ l).trans ?_)
  · ext a
    fin_cases a
    · show g.val * 192 + 1 * j.val = g.val * 192 + j.val
      omega
    · show 0 + 1 * l.val = l.val
      omega
  · rw [show (g.val * 192 + j.val) / 192 = g.val by omega]

/-- A group's biases. -/
theorem bias_load (h : Args m p c) (t : Fin cfg0.N) (g : Fin 4) (o : Nat) (e : o = g.val * 192)
    (hb : ∀ a, (![o, 0] : Fin 2 → Nat) a + S192x256.size a ≤ S768x256.size a) (j : Fin 192) (r : Fin 4) (i : Fin 64) :
    View.ld (Val := Elt Ideal) (e' := .f32) (iblk m c 4 t) (Rect.unit (s := S768x256) ![o, 0] S192x256.size hb) (ix2 j (lane r i))
      = (p.bias (hd g r) i j : EReal) := by
  subst e
  refine (congrArg (iblk m c 4 t) (a₂ := ix2 ⟨g.val * 192 + j.val, by omega⟩ (lane r i)) ?_).trans (iblk4 h t g r i j)
  ext a
  fin_cases a
  · show g.val * 192 + 1 * j.val = g.val * 192 + j.val
    omega
  · show 0 + 1 * (lane r i).val = (lane r i).val
    omega

/-- A group's sinks. -/
theorem sink_load (h : Args m p c) (t : Fin cfg0.N) (g : Fin 4) (o : Nat) (e : o = g.val)
    (hb : ∀ a, (![o, 0] : Fin 2 → Nat) a + S1x256.size a ≤ S8x256.size a) (r : Fin 4) (i : Fin 64) :
    View.ld (Val := Elt Ideal) (e' := .f32) (iblk m c 0 t) (Rect.unit (s := S8x256) ![o, 0] S1x256.size hb) (ix2 0 (lane r i))
      = (p.sink (hd g r) : EReal) := by
  subst e
  refine (congrArg (iblk m c 0 t) (a₂ := ix2 ⟨g.val, by omega⟩ (lane r i)) ?_).trans (iblk0 h t g r i)
  ext a
  fin_cases a
  · show g.val + 1 * 0 = g.val
    omega
  · show 0 + 1 * (lane r i).val = (lane r i).val
    omega

/-- The queries of a chunk. -/
theorem query_load (h : Args m p c) (t : Fin cfg0.N) (k : Fin 8) (o : Nat) (e : o = k.val * 64)
    (hb : ∀ a, (![o, 0] : Fin 2 → Nat) a + S64x1024.size a ≤ S512x1024.size a) (i : Fin 64) (y : Fin 1024) :
    View.ld (Val := Elt Ideal) (e' := .bf16) (iblk m c 1 t) (Rect.unit (s := S512x1024) ![o, 0] S64x1024.size hb) (ix2 i y)
      = (p.q (row (ch t k) i) y : EReal) := by
  subst e
  refine (congrArg (iblk m c 1 t) (a₂ := ix2 ⟨k.val * 64 + i.val, by omega⟩ y) ?_).trans (iblk1 h t k i y)
  ext a
  fin_cases a
  · show k.val * 64 + 1 * i.val = k.val * 64 + i.val
    omega
  · show 0 + 1 * y.val = y.val
    omega

/-- The keys of a chunk's band. -/
theorem key_load (h : Args m p c) (t : Fin cfg0.N) (k : Fin 8) (w : BitVec 32) (e : w = BitVec.ofNat 32 k.val)
    (hb : ∀ a, k0_off1 (grid0.coords t) w a + S192x256.size a ≤ S4224x256.size a) (j : Fin 192) (l : Fin 256) :
    View.ld (Val := Elt Ideal) (e' := .bf16) (iblk m c 2 t) (Rect.unit (s := S4224x256) (k0_off1 (grid0.coords t) w) S192x256.size hb) (ix2 j l)
      = (Attn.pad p.k (key (ch t k) j) l : EReal) := by
  subst e
  exact (band_apply (iblk m c 2 t) t k j l).trans (iblk2 h t _ l)

/-- The values of a chunk's band. -/
theorem value_load (h : Args m p c) (t : Fin cfg0.N) (k : Fin 8) (w : BitVec 32) (e : w = BitVec.ofNat 32 k.val)
    (hb : ∀ a, k0_off1 (grid0.coords t) w a + S192x256.size a ≤ S4224x256.size a) (j : Fin 192) (l : Fin 256) :
    View.ld (Val := Elt Ideal) (e' := .bf16) (iblk m c 3 t) (Rect.unit (s := S4224x256) (k0_off1 (grid0.coords t) w) S192x256.size hb) (ix2 j l)
      = (Attn.pad p.v (key (ch t k) j) l : EReal) := by
  subst e
  exact (band_apply (iblk m c 3 t) t k j l).trans (iblk3 h t _ l)

/-- A chunk over its operands one by one, at the block's index. -/
theorem chunk_at {p : Attn} {t : Fin cfg0.N} {k k' : Fin 8} {n : BitVec 32} {o0 o1 o2 o3 kw vw : FVec Ideal S192x256 .bf16}
    {q : FVec Ideal S64x1024 .bf16} {b0 b1 b2 b3 : FVec Ideal S192x256 .f32} {s0 s1 s2 s3 : FVec Ideal S1x256 .f32}
    {i : Fin 64} {g r : Fin 4} {d : Fin 64} {x : S64x1024.Idx}
    (h0 : k'.val * 64 + i.val = k.val * 64 + (x 0).val) (h1 : (qcol g r d).val = (x 1).val)
    (hn : n = BitVec.ofNat 32 (ch t k).val)
    (ho0 : ∀ j l, o0 (ix2 j l) = ((if l.val / 64 = (0 : Fin 4).val then 1 else 0 : ℝ) : EReal))
    (ho1 : ∀ j l, o1 (ix2 j l) = ((if l.val / 64 = (1 : Fin 4).val then 1 else 0 : ℝ) : EReal))
    (ho2 : ∀ j l, o2 (ix2 j l) = ((if l.val / 64 = (2 : Fin 4).val then 1 else 0 : ℝ) : EReal))
    (ho3 : ∀ j l, o3 (ix2 j l) = ((if l.val / 64 = (3 : Fin 4).val then 1 else 0 : ℝ) : EReal))
    (hk : ∀ j l, kw (ix2 j l) = (Attn.pad p.k (key (ch t k) j) l : EReal)) (hv : ∀ j l, vw (ix2 j l) = (Attn.pad p.v (key (ch t k) j) l : EReal))
    (hq : ∀ i y, q (ix2 i y) = (p.q (row (ch t k) i) y : EReal))
    (hb0 : ∀ j r i, b0 (ix2 j (lane r i)) = (p.bias (hd 0 r) i j : EReal)) (hb1 : ∀ j r i, b1 (ix2 j (lane r i)) = (p.bias (hd 1 r) i j : EReal))
    (hb2 : ∀ j r i, b2 (ix2 j (lane r i)) = (p.bias (hd 2 r) i j : EReal)) (hb3 : ∀ j r i, b3 (ix2 j (lane r i)) = (p.bias (hd 3 r) i j : EReal))
    (hs0 : ∀ r i, s0 (ix2 0 (lane r i)) = (p.sink (hd 0 r) : EReal)) (hs1 : ∀ r i, s1 (ix2 0 (lane r i)) = (p.sink (hd 1 r) : EReal))
    (hs2 : ∀ r i, s2 (ix2 0 (lane r i)) = (p.sink (hd 2 r) : EReal)) (hs3 : ∀ r i, s3 (ix2 0 (lane r i)) = (p.sink (hd 3 r) : EReal)) :
    chunk o0 o1 o2 o3 kw vw q n b0 b1 b2 b3 s0 s1 s2 s3 x = (p.o (ch t k') g r i d : EReal) := by
  have l0 : (x 0).val < 64 := (x 0).isLt
  obtain rfl : k = k' := Fin.ext (by omega)
  have ex : x = ix2 i (qcol g r d) := by
    rw [eq_ix2 x]
    exact congrArg₂ ix2 (Fin.ext (by show (x 0).val = i.val; omega)) (Fin.ext h1.symm)
  rw [ex, hn]
  refine chunk_apply (o := ![o0, o1, o2, o3]) (b := ![b0, b1, b2, b3]) (sk := ![s0, s1, s2, s3])
    (fun g j l => ?_) hk hv hq (fun g j r i => ?_) (fun g r i => ?_) i g r d
  · fin_cases g
    exacts [ho0 j l, ho1 j l, ho2 j l, ho3 j l]
  · fin_cases g
    exacts [hb0 j r i, hb1 j r i, hb2 j r i, hb3 j r i]
  · fin_cases g
    exacts [hs0 r i, hs1 r i, hs2 r i, hs3 r i]

end Real

end Cert.AttnIdeal.Proof

end

end
-- ==== Proof.AttnForms.lean ====
/-
  The chunks of banded attention in the groupings the kernel leaves them in: each is the one chunk.
-/
module

public import proofs.«01_k».proof.Proof.AttnChunk

@[expose] public section

set_option maxRecDepth 16384

noncomputable section

namespace Cert.AttnIdeal.Proof

open Cert.AttnIdeal Cert.AttnIdeal.Gen Idealize.ShloMosaic Idealize.ShloMosaic.TcCoe Idealize.SL.Sem
open Attn (row qcol kcol key hd)

variable (o0 o1 o2 o3 kw vw : FVec Ideal S192x256 .bf16) (q : FVec Ideal S64x1024 .bf16) (n : BitVec 32)
  (b0 b1 b2 b3 : FVec Ideal S192x256 .f32) (s0 s1 s2 s3 : FVec Ideal S1x256 .f32)

theorem form0 {st : FVec Ideal S256x256 .bf16} {kc vc : FVec Ideal S192x256 .bf16} {ib nb : IVec S192x1 32}
    (hst : st = k0_pay29 q) (hk : kc = k0_pay27 kw) (hv : vc = k0_pay28 vw) (hi : ib = iota Kind.tc S192x1 32 [0] iota_S192x1_d0_w32)
    (hn : nb = broadcast S192x1 (Scalar.muli n 64#32)) :
    k0_pay26 (k0_pay23 o0 o1 o2 o3 vc (k0_pay10 ib nb) (k0_pay13 o3 kc st) (k0_pay14 o0 kc st ib nb b0 s0) (k0_pay17 (k0_pay10 ib nb) (k0_pay11 o1 kc
      st) (k0_pay15 b1) (k0_pay16 s1) (FloatOps.ofBits FTy.f32 1040187392#32)) (k0_pay21 (k0_pay10 ib nb) (k0_pay12 o2 kc st) b2 s2) (k0_pay22
      (k0_pay10 ib nb) (k0_pay12 o2 kc st) b2 s2) b3 s3) (k0_pay24 o0 o1 o2 o3 vc (k0_pay10 ib nb) (k0_pay13 o3 kc st) (k0_pay14 o0 kc st ib nb b0 s0)
      (k0_pay17 (k0_pay10 ib nb) (k0_pay11 o1 kc st) (k0_pay15 b1) (k0_pay16 s1) (FloatOps.ofBits FTy.f32 1040187392#32)) (k0_pay21 (k0_pay10 ib nb)
      (k0_pay12 o2 kc st) b2 s2) (k0_pay22 (k0_pay10 ib nb) (k0_pay12 o2 kc st) b2 s2) b3 s3) (k0_pay25 o0 o1 o2 o3 vc (k0_pay10 ib nb) (k0_pay13 o3
      kc st) (k0_pay14 o0 kc st ib nb b0 s0) (k0_pay17 (k0_pay10 ib nb) (k0_pay11 o1 kc st) (k0_pay15 b1) (k0_pay16 s1) (FloatOps.ofBits FTy.f32
      1040187392#32)) (k0_pay21 (k0_pay10 ib nb) (k0_pay12 o2 kc st) b2 s2) (k0_pay22 (k0_pay10 ib nb) (k0_pay12 o2 kc st) b2 s2) b3 s3)
      = chunk o0 o1 o2 o3 kw vw q n b0 b1 b2 b3 s0 s1 s2 s3 := by
  subst hst hk hv hi hn
  rfl

theorem form1 :
    k0_pay44 (k0_pay42 o0 o1 o2 (k0_pay28 vw) (k0_pay34 o0 n (k0_pay27 kw) (k0_pay29 q) (iota Kind.tc S192x1 32 [0] iota_S192x1_d0_w32) b0 s0)
      (k0_pay36 (k0_pay30 n (iota Kind.tc S192x1 32 [0] iota_S192x1_d0_w32)) (k0_pay31 o1 (k0_pay27 kw) (k0_pay29 q)) (k0_pay35 b1) s1) (k0_pay40
      (k0_pay30 n (iota Kind.tc S192x1 32 [0] iota_S192x1_d0_w32)) (k0_pay32 o2 (k0_pay27 kw) (k0_pay29 q)) b2 s2) (k0_pay41 (k0_pay30 n (iota Kind.tc
      S192x1 32 [0] iota_S192x1_d0_w32)) (k0_pay32 o2 (k0_pay27 kw) (k0_pay29 q)) b2 s2) (FloatOps.ofBits FTy.f32 1065353216#32)) (k0_pay43 o3
      (k0_pay28 vw) (k0_pay30 n (iota Kind.tc S192x1 32 [0] iota_S192x1_d0_w32)) (k0_pay33 o3 (k0_pay27 kw) (k0_pay29 q)) b3 s3)
      = chunk o0 o1 o2 o3 kw vw q n b0 b1 b2 b3 s0 s1 s2 s3 := rfl

theorem form2 :
    k0_pay69 o3 (k0_pay46 vw) (k0_pay67 o0 o1 o2 (k0_pay46 vw) (k0_pay59 o0 n (k0_pay45 kw) (k0_pay47 q) (k0_pay48 q) (k0_pay49 q) (k0_pay50 q)
      (k0_pay51 q) (k0_pay52 q) (k0_pay53 q) b0 s0) (k0_pay60 (k0_pay55 n) (k0_pay56 o1 (k0_pay45 kw) (k0_pay47 q) (k0_pay48 q) (k0_pay49 q) (k0_pay50
      q) (k0_pay51 q) (k0_pay52 q) (k0_pay53 q)) b1 s1) (k0_pay64 (k0_pay55 n) (k0_pay57 o2 (k0_pay45 kw) (k0_pay47 q) (k0_pay48 q) (k0_pay49 q)
      (k0_pay50 q) (k0_pay51 q) (k0_pay52 q) (k0_pay53 q)) b2 s2) (k0_pay65 (k0_pay55 n) (k0_pay57 o2 (k0_pay45 kw) (k0_pay47 q) (k0_pay48 q)
      (k0_pay49 q) (k0_pay50 q) (k0_pay51 q) (k0_pay52 q) (k0_pay53 q)) b2 s2) (k0_pay66 (k0_pay55 n) (k0_pay57 o2 (k0_pay45 kw) (k0_pay47 q)
      (k0_pay48 q) (k0_pay49 q) (k0_pay50 q) (k0_pay51 q) (k0_pay52 q) (k0_pay53 q)) b2 s2)) (k0_pay68 (k0_pay55 n) (k0_pay58 o3 (k0_pay45 kw)
      (k0_pay47 q) (k0_pay48 q) (k0_pay49 q) (k0_pay50 q) (k0_pay51 q) (k0_pay52 q) (k0_pay53 q)) b3 s3)
      = chunk o0 o1 o2 o3 kw vw q n b0 b1 b2 b3 s0 s1 s2 s3 := rfl

theorem form3 :
    k0_pay92 o3 (k0_pay71 vw) (k0_pay88 (k0_pay77 n) (k0_pay80 o3 (k0_pay70 kw) q (k0_pay72 q) (k0_pay73 q) (k0_pay74 q) (k0_pay75 q)) b3 s3)
      (k0_pay89 o0 o1 (k0_pay71 vw) (k0_pay81 o0 n (k0_pay70 kw) q (k0_pay72 q) (k0_pay73 q) (k0_pay74 q) (k0_pay75 q) b0 s0) (k0_pay82 (k0_pay77 n)
      (k0_pay78 o1 (k0_pay70 kw) q (k0_pay72 q) (k0_pay73 q) (k0_pay74 q) (k0_pay75 q)) b1 s1)) (k0_pay90 (k0_pay86 (k0_pay77 n) (k0_pay79 o2
      (k0_pay70 kw) q (k0_pay72 q) (k0_pay73 q) (k0_pay74 q) (k0_pay75 q)) b2 s2) (k0_pay87 (k0_pay77 n) (k0_pay79 o2 (k0_pay70 kw) q (k0_pay72 q)
      (k0_pay73 q) (k0_pay74 q) (k0_pay75 q)) b2 s2)) (k0_pay91 o2 (k0_pay71 vw)) (constant S256x256 FTy.f32 0#32)
      = chunk o0 o1 o2 o3 kw vw q n b0 b1 b2 b3 s0 s1 s2 s3 := rfl

theorem form4 :
    k0_pay120 o2 o3 (k0_pay94 vw) (k0_pay117 (k0_pay113 s2) (k0_pay114 (k0_pay101 n) (k0_pay103 o2 (k0_pay93 kw) q (k0_pay95 q) (k0_pay96 q) (k0_pay97
      q) (k0_pay98 q) (k0_pay99 q)) b2) (k0_pay115 (k0_pay101 n) (k0_pay103 o2 (k0_pay93 kw) q (k0_pay95 q) (k0_pay96 q) (k0_pay97 q) (k0_pay98 q)
      (k0_pay99 q)) b2 s2) (k0_pay116 (k0_pay101 n) (k0_pay103 o2 (k0_pay93 kw) q (k0_pay95 q) (k0_pay96 q) (k0_pay97 q) (k0_pay98 q) (k0_pay99 q)) b2
      s2)) (k0_pay118 (k0_pay101 n) (k0_pay104 o3 (k0_pay93 kw) q (k0_pay95 q) (k0_pay96 q) (k0_pay97 q) (k0_pay98 q) (k0_pay99 q)) b3 s3) (k0_pay119
      o0 o1 (k0_pay94 vw) (k0_pay111 (k0_pay108 o0 n (k0_pay93 kw) q (k0_pay95 q) (k0_pay96 q) (k0_pay97 q) (k0_pay98 q) (k0_pay99 q) b0 s0)
      (k0_pay109 o0 n (k0_pay93 kw) q (k0_pay95 q) (k0_pay96 q) (k0_pay97 q) (k0_pay98 q) (k0_pay99 q) b0 s0) k0_pay110) (k0_pay112 (k0_pay101 n)
      (k0_pay102 o1 (k0_pay93 kw) q (k0_pay95 q) (k0_pay96 q) (k0_pay97 q) (k0_pay98 q) (k0_pay99 q)) b1 s1))
      = chunk o0 o1 o2 o3 kw vw q n b0 b1 b2 b3 s0 s1 s2 s3 := rfl

theorem form5 :
    k0_pay146 o2 o3 (k0_pay122 vw) (k0_pay141 (k0_pay138 s2) (k0_pay139 (k0_pay126 n) (k0_pay128 o2 (k0_pay121 kw) q (k0_pay123 q) (k0_pay124 q)) b2)
      (k0_pay140 (k0_pay126 n) (k0_pay128 o2 (k0_pay121 kw) q (k0_pay123 q) (k0_pay124 q)) b2)) (k0_pay142 (k0_pay126 n) (k0_pay129 o3 (k0_pay121 kw)
      q (k0_pay123 q) (k0_pay124 q)) b3 s3) (k0_pay143 o0 (k0_pay122 vw) (k0_pay136 (k0_pay133 o0 n (k0_pay121 kw) q (k0_pay123 q) (k0_pay124 q) b0
      s0) (k0_pay134 o0 n (k0_pay121 kw) q (k0_pay123 q) (k0_pay124 q) b0 s0) (k0_pay135 o0 n (k0_pay121 kw) q (k0_pay123 q) (k0_pay124 q) b0 s0)))
      (k0_pay144 (k0_pay137 (k0_pay126 n) (k0_pay127 o1 (k0_pay121 kw) q (k0_pay123 q) (k0_pay124 q)) b1 s1)) (k0_pay145 o1 (k0_pay122 vw))
      = chunk o0 o1 o2 o3 kw vw q n b0 b1 b2 b3 s0 s1 s2 s3 := rfl

theorem form6 :
    k0_pay172 o1 o2 o3 (k0_pay148 vw) (k0_pay163 (k0_pay153 n) (k0_pay154 o1 (k0_pay147 kw) q (k0_pay149 q) (k0_pay150 q) (k0_pay151 q)) b1 s1)
      (k0_pay168 (k0_pay164 s2) (k0_pay165 (k0_pay155 o2 (k0_pay147 kw) q (k0_pay149 q) (k0_pay150 q) (k0_pay151 q)) b2) (k0_pay166 (k0_pay153 n))
      k0_pay167) (k0_pay169 (k0_pay153 n) (k0_pay156 o3 (k0_pay147 kw) q (k0_pay149 q) (k0_pay150 q) (k0_pay151 q)) b3 s3) (k0_pay170 o0 (k0_pay148
      vw) (k0_pay162 (k0_pay160 o0 n (k0_pay147 kw) q (k0_pay149 q) (k0_pay150 q) (k0_pay151 q) b0 s0) (k0_pay161 o0 n (k0_pay147 kw) q (k0_pay149 q)
      (k0_pay150 q) (k0_pay151 q) b0 s0))) k0_pay171
      = chunk o0 o1 o2 o3 kw vw q n b0 b1 b2 b3 s0 s1 s2 s3 := rfl

theorem form7 :
    k0_pay1 (k0_pay196 o1 o2 o3 (k0_pay174 vw) (k0_pay189 (k0_pay180 n) (k0_pay181 o1 (k0_pay173 kw) q (k0_pay175 q) (k0_pay176 q) (k0_pay177 q)
      (k0_pay178 q)) b1 s1) (k0_pay192 (k0_pay180 n) (k0_pay190 s2) (k0_pay191 (k0_pay182 o2 (k0_pay173 kw) q (k0_pay175 q) (k0_pay176 q) (k0_pay177
      q) (k0_pay178 q)) b2) (FloatOps.ofBits FTy.f32 4048155338#32)) (k0_pay193 (k0_pay180 n) (k0_pay183 o3 (k0_pay173 kw) q (k0_pay175 q) (k0_pay176
      q) (k0_pay177 q) (k0_pay178 q)) b3 s3) (k0_pay194 (k0_pay188 (k0_pay184 s0) (k0_pay186 o0 n (k0_pay173 kw) q (k0_pay175 q) (k0_pay176 q)
      (k0_pay177 q) (k0_pay178 q) b0 s0) (k0_pay187 o0 n (k0_pay173 kw) q (k0_pay175 q) (k0_pay176 q) (k0_pay177 q) (k0_pay178 q) b0 s0))) (k0_pay195
      o0 (k0_pay174 vw)) (constant S256x256 FTy.f32 0#32)) (k0_pay197 o1 o2 o3 (k0_pay174 vw) (k0_pay189 (k0_pay180 n) (k0_pay181 o1 (k0_pay173 kw) q
      (k0_pay175 q) (k0_pay176 q) (k0_pay177 q) (k0_pay178 q)) b1 s1) (k0_pay192 (k0_pay180 n) (k0_pay190 s2) (k0_pay191 (k0_pay182 o2 (k0_pay173 kw)
      q (k0_pay175 q) (k0_pay176 q) (k0_pay177 q) (k0_pay178 q)) b2) (FloatOps.ofBits FTy.f32 4048155338#32)) (k0_pay193 (k0_pay180 n) (k0_pay183 o3
      (k0_pay173 kw) q (k0_pay175 q) (k0_pay176 q) (k0_pay177 q) (k0_pay178 q)) b3 s3) (k0_pay194 (k0_pay188 (k0_pay184 s0) (k0_pay186 o0 n (k0_pay173
      kw) q (k0_pay175 q) (k0_pay176 q) (k0_pay177 q) (k0_pay178 q) b0 s0) (k0_pay187 o0 n (k0_pay173 kw) q (k0_pay175 q) (k0_pay176 q) (k0_pay177 q)
      (k0_pay178 q) b0 s0))) (k0_pay195 o0 (k0_pay174 vw)) (constant S256x256 FTy.f32 0#32)) (k0_pay198 o1 o2 o3 (k0_pay174 vw) (k0_pay189 (k0_pay180
      n) (k0_pay181 o1 (k0_pay173 kw) q (k0_pay175 q) (k0_pay176 q) (k0_pay177 q) (k0_pay178 q)) b1 s1) (k0_pay192 (k0_pay180 n) (k0_pay190 s2)
      (k0_pay191 (k0_pay182 o2 (k0_pay173 kw) q (k0_pay175 q) (k0_pay176 q) (k0_pay177 q) (k0_pay178 q)) b2) (FloatOps.ofBits FTy.f32 4048155338#32))
      (k0_pay193 (k0_pay180 n) (k0_pay183 o3 (k0_pay173 kw) q (k0_pay175 q) (k0_pay176 q) (k0_pay177 q) (k0_pay178 q)) b3 s3) (k0_pay194 (k0_pay188
      (k0_pay184 s0) (k0_pay186 o0 n (k0_pay173 kw) q (k0_pay175 q) (k0_pay176 q) (k0_pay177 q) (k0_pay178 q) b0 s0) (k0_pay187 o0 n (k0_pay173 kw) q
      (k0_pay175 q) (k0_pay176 q) (k0_pay177 q) (k0_pay178 q) b0 s0))) (k0_pay195 o0 (k0_pay174 vw)) (constant S256x256 FTy.f32 0#32)) (k0_pay199 o1
      o2 o3 (k0_pay174 vw) (k0_pay189 (k0_pay180 n) (k0_pay181 o1 (k0_pay173 kw) q (k0_pay175 q) (k0_pay176 q) (k0_pay177 q) (k0_pay178 q)) b1 s1)
      (k0_pay192 (k0_pay180 n) (k0_pay190 s2) (k0_pay191 (k0_pay182 o2 (k0_pay173 kw) q (k0_pay175 q) (k0_pay176 q) (k0_pay177 q) (k0_pay178 q)) b2)
      (FloatOps.ofBits FTy.f32 4048155338#32)) (k0_pay193 (k0_pay180 n) (k0_pay183 o3 (k0_pay173 kw) q (k0_pay175 q) (k0_pay176 q) (k0_pay177 q)
      (k0_pay178 q)) b3 s3) (k0_pay194 (k0_pay188 (k0_pay184 s0) (k0_pay186 o0 n (k0_pay173 kw) q (k0_pay175 q) (k0_pay176 q) (k0_pay177 q) (k0_pay178
      q) b0 s0) (k0_pay187 o0 n (k0_pay173 kw) q (k0_pay175 q) (k0_pay176 q) (k0_pay177 q) (k0_pay178 q) b0 s0))) (k0_pay195 o0 (k0_pay174 vw))
      (constant S256x256 FTy.f32 0#32)) (k0_pay200 o1 o2 o3 (k0_pay174 vw) (k0_pay189 (k0_pay180 n) (k0_pay181 o1 (k0_pay173 kw) q (k0_pay175 q)
      (k0_pay176 q) (k0_pay177 q) (k0_pay178 q)) b1 s1) (k0_pay192 (k0_pay180 n) (k0_pay190 s2) (k0_pay191 (k0_pay182 o2 (k0_pay173 kw) q (k0_pay175
      q) (k0_pay176 q) (k0_pay177 q) (k0_pay178 q)) b2) (FloatOps.ofBits FTy.f32 4048155338#32)) (k0_pay193 (k0_pay180 n) (k0_pay183 o3 (k0_pay173 kw)
      q (k0_pay175 q) (k0_pay176 q) (k0_pay177 q) (k0_pay178 q)) b3 s3) (k0_pay194 (k0_pay188 (k0_pay184 s0) (k0_pay186 o0 n (k0_pay173 kw) q
      (k0_pay175 q) (k0_pay176 q) (k0_pay177 q) (k0_pay178 q) b0 s0) (k0_pay187 o0 n (k0_pay173 kw) q (k0_pay175 q) (k0_pay176 q) (k0_pay177 q)
      (k0_pay178 q) b0 s0))) (k0_pay195 o0 (k0_pay174 vw)) (constant S256x256 FTy.f32 0#32)) (k0_pay201 o1 o2 o3 (k0_pay174 vw) (k0_pay189 (k0_pay180
      n) (k0_pay181 o1 (k0_pay173 kw) q (k0_pay175 q) (k0_pay176 q) (k0_pay177 q) (k0_pay178 q)) b1 s1) (k0_pay192 (k0_pay180 n) (k0_pay190 s2)
      (k0_pay191 (k0_pay182 o2 (k0_pay173 kw) q (k0_pay175 q) (k0_pay176 q) (k0_pay177 q) (k0_pay178 q)) b2) (FloatOps.ofBits FTy.f32 4048155338#32))
      (k0_pay193 (k0_pay180 n) (k0_pay183 o3 (k0_pay173 kw) q (k0_pay175 q) (k0_pay176 q) (k0_pay177 q) (k0_pay178 q)) b3 s3) (k0_pay194 (k0_pay188
      (k0_pay184 s0) (k0_pay186 o0 n (k0_pay173 kw) q (k0_pay175 q) (k0_pay176 q) (k0_pay177 q) (k0_pay178 q) b0 s0) (k0_pay187 o0 n (k0_pay173 kw) q
      (k0_pay175 q) (k0_pay176 q) (k0_pay177 q) (k0_pay178 q) b0 s0))) (k0_pay195 o0 (k0_pay174 vw)) (constant S256x256 FTy.f32 0#32)) (k0_pay202 o1
      o2 o3 (k0_pay174 vw) (k0_pay189 (k0_pay180 n) (k0_pay181 o1 (k0_pay173 kw) q (k0_pay175 q) (k0_pay176 q) (k0_pay177 q) (k0_pay178 q)) b1 s1)
      (k0_pay192 (k0_pay180 n) (k0_pay190 s2) (k0_pay191 (k0_pay182 o2 (k0_pay173 kw) q (k0_pay175 q) (k0_pay176 q) (k0_pay177 q) (k0_pay178 q)) b2)
      (FloatOps.ofBits FTy.f32 4048155338#32)) (k0_pay193 (k0_pay180 n) (k0_pay183 o3 (k0_pay173 kw) q (k0_pay175 q) (k0_pay176 q) (k0_pay177 q)
      (k0_pay178 q)) b3 s3) (k0_pay194 (k0_pay188 (k0_pay184 s0) (k0_pay186 o0 n (k0_pay173 kw) q (k0_pay175 q) (k0_pay176 q) (k0_pay177 q) (k0_pay178
      q) b0 s0) (k0_pay187 o0 n (k0_pay173 kw) q (k0_pay175 q) (k0_pay176 q) (k0_pay177 q) (k0_pay178 q) b0 s0))) (k0_pay195 o0 (k0_pay174 vw))
      (constant S256x256 FTy.f32 0#32)) (k0_pay203 o1 o2 o3 (k0_pay174 vw) (k0_pay189 (k0_pay180 n) (k0_pay181 o1 (k0_pay173 kw) q (k0_pay175 q)
      (k0_pay176 q) (k0_pay177 q) (k0_pay178 q)) b1 s1) (k0_pay192 (k0_pay180 n) (k0_pay190 s2) (k0_pay191 (k0_pay182 o2 (k0_pay173 kw) q (k0_pay175
      q) (k0_pay176 q) (k0_pay177 q) (k0_pay178 q)) b2) (FloatOps.ofBits FTy.f32 4048155338#32)) (k0_pay193 (k0_pay180 n) (k0_pay183 o3 (k0_pay173 kw)
      q (k0_pay175 q) (k0_pay176 q) (k0_pay177 q) (k0_pay178 q)) b3 s3) (k0_pay194 (k0_pay188 (k0_pay184 s0) (k0_pay186 o0 n (k0_pay173 kw) q
      (k0_pay175 q) (k0_pay176 q) (k0_pay177 q) (k0_pay178 q) b0 s0) (k0_pay187 o0 n (k0_pay173 kw) q (k0_pay175 q) (k0_pay176 q) (k0_pay177 q)
      (k0_pay178 q) b0 s0))) (k0_pay195 o0 (k0_pay174 vw)) (constant S256x256 FTy.f32 0#32)) (k0_pay204 o1 o2 o3 (k0_pay174 vw) (k0_pay189 (k0_pay180
      n) (k0_pay181 o1 (k0_pay173 kw) q (k0_pay175 q) (k0_pay176 q) (k0_pay177 q) (k0_pay178 q)) b1 s1) (k0_pay192 (k0_pay180 n) (k0_pay190 s2)
      (k0_pay191 (k0_pay182 o2 (k0_pay173 kw) q (k0_pay175 q) (k0_pay176 q) (k0_pay177 q) (k0_pay178 q)) b2) (FloatOps.ofBits FTy.f32 4048155338#32))
      (k0_pay193 (k0_pay180 n) (k0_pay183 o3 (k0_pay173 kw) q (k0_pay175 q) (k0_pay176 q) (k0_pay177 q) (k0_pay178 q)) b3 s3) (k0_pay194 (k0_pay188
      (k0_pay184 s0) (k0_pay186 o0 n (k0_pay173 kw) q (k0_pay175 q) (k0_pay176 q) (k0_pay177 q) (k0_pay178 q) b0 s0) (k0_pay187 o0 n (k0_pay173 kw) q
      (k0_pay175 q) (k0_pay176 q) (k0_pay177 q) (k0_pay178 q) b0 s0))) (k0_pay195 o0 (k0_pay174 vw)) (constant S256x256 FTy.f32 0#32)) (k0_pay205 o1
      o2 o3 (k0_pay174 vw) (k0_pay189 (k0_pay180 n) (k0_pay181 o1 (k0_pay173 kw) q (k0_pay175 q) (k0_pay176 q) (k0_pay177 q) (k0_pay178 q)) b1 s1)
      (k0_pay192 (k0_pay180 n) (k0_pay190 s2) (k0_pay191 (k0_pay182 o2 (k0_pay173 kw) q (k0_pay175 q) (k0_pay176 q) (k0_pay177 q) (k0_pay178 q)) b2)
      (FloatOps.ofBits FTy.f32 4048155338#32)) (k0_pay193 (k0_pay180 n) (k0_pay183 o3 (k0_pay173 kw) q (k0_pay175 q) (k0_pay176 q) (k0_pay177 q)
      (k0_pay178 q)) b3 s3) (k0_pay194 (k0_pay188 (k0_pay184 s0) (k0_pay186 o0 n (k0_pay173 kw) q (k0_pay175 q) (k0_pay176 q) (k0_pay177 q) (k0_pay178
      q) b0 s0) (k0_pay187 o0 n (k0_pay173 kw) q (k0_pay175 q) (k0_pay176 q) (k0_pay177 q) (k0_pay178 q) b0 s0))) (k0_pay195 o0 (k0_pay174 vw))
      (constant S256x256 FTy.f32 0#32))
      = chunk o0 o1 o2 o3 kw vw q n b0 b1 b2 b3 s0 s1 s2 s3 := rfl

end Cert.AttnIdeal.Proof

end

end
-- ==== Proof.AttnKernel.lean ====
/-
  Banded attention with a sink, as the kernel leaves it: its result array at an index, over real arguments.
-/
module

public import proofs.«01_k».proof.Proof.AttnBlocks
public import proofs.«01_k».proof.Proof.AttnForms

@[expose] public section

set_option maxRecDepth 16384

noncomputable section

namespace Cert.AttnIdeal.Proof

open Cert.AttnIdeal Cert.AttnIdeal.Gen Idealize.ShloMosaic Idealize.ShloMosaic.TcCoe Idealize.SL.Sem
open Attn (row qcol kcol key hd)

variable {m : (ℓ : Loc nD τ sig) → Buf (Elt Ideal) ℓ} {c : Dev nD} {p : Attn}

theorem out_apply (h : Args m p c) (t : Fin cfg0.N) (k : Fin 8) (i : Fin 64) (g r : Fin 4) (d : Fin 64) :
    (outsAt0 m c t : FVec Ideal S512x1024 .bf16) (ix2 ⟨k.val * 64 + i.val, by omega⟩ (qcol g r d))
      = (p.o (ch t k) g r i d : EReal) := by
  unfold outsAt0
  frame_out
  canon_tiles x hx
  case piece0 =>
    refine (congrFun (form7 _ _ _ _ _ _ _ _ _ _ _ _ _ _ _ _) x).trans ?_
    exact chunk_at (k := 7) hx0 hx1 (word t 7) (own_load t 0 _ rfl _) (own_load t 1 _ rfl _) (own_load t 2 _ rfl _) (own_load t 3 _ rfl _)
      (key_load h t 7 _ rfl _) (value_load h t 7 _ rfl _) (query_load h t 7 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece1 =>
    refine (congrFun (form6 _ _ _ _ _ _ _ _ _ _ _ _ _ _ _ _) x).trans ?_
    exact chunk_at (k := 6) hx0 hx1 (word t 6) (own_load t 0 _ rfl _) (own_load t 1 _ rfl _) (own_load t 2 _ rfl _) (own_load t 3 _ rfl _)
      (key_load h t 6 _ rfl _) (value_load h t 6 _ rfl _) (query_load h t 6 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece2 =>
    refine (congrFun (form5 _ _ _ _ _ _ _ _ _ _ _ _ _ _ _ _) x).trans ?_
    exact chunk_at (k := 5) hx0 hx1 (word t 5) (own_load t 0 _ rfl _) (own_load t 1 _ rfl _) (own_load t 2 _ rfl _) (own_load t 3 _ rfl _)
      (key_load h t 5 _ rfl _) (value_load h t 5 _ rfl _) (query_load h t 5 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece3 =>
    refine (congrFun (form4 _ _ _ _ _ _ _ _ _ _ _ _ _ _ _ _) x).trans ?_
    exact chunk_at (k := 4) hx0 hx1 (word t 4) (own_load t 0 _ rfl _) (own_load t 1 _ rfl _) (own_load t 2 _ rfl _) (own_load t 3 _ rfl _)
      (key_load h t 4 _ rfl _) (value_load h t 4 _ rfl _) (query_load h t 4 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece4 =>
    refine (congrFun (form3 _ _ _ _ _ _ _ _ _ _ _ _ _ _ _ _) x).trans ?_
    exact chunk_at (k := 3) hx0 hx1 (word t 3) (own_load t 0 _ rfl _) (own_load t 1 _ rfl _) (own_load t 2 _ rfl _) (own_load t 3 _ rfl _)
      (key_load h t 3 _ rfl _) (value_load h t 3 _ rfl _) (query_load h t 3 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece5 =>
    refine (congrFun (form2 _ _ _ _ _ _ _ _ _ _ _ _ _ _ _ _) x).trans ?_
    exact chunk_at (k := 2) hx0 hx1 (word t 2) (own_load t 0 _ rfl _) (own_load t 1 _ rfl _) (own_load t 2 _ rfl _) (own_load t 3 _ rfl _)
      (key_load h t 2 _ rfl _) (value_load h t 2 _ rfl _) (query_load h t 2 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece6 =>
    refine (congrFun (form1 _ _ _ _ _ _ _ _ _ _ _ _ _ _ _ _) x).trans ?_
    exact chunk_at (k := 1) hx0 hx1 (word t 1) (own_load t 0 _ rfl _) (own_load t 1 _ rfl _) (own_load t 2 _ rfl _) (own_load t 3 _ rfl _)
      (key_load h t 1 _ rfl _) (value_load h t 1 _ rfl _) (query_load h t 1 _ rfl _)
      (bias_load h t 0 _ rfl _) (bias_load h t 1 _ rfl _) (bias_load h t 2 _ rfl _) (bias_load h t 3 _ rfl _)
      (sink_load h t 0 _ rfl _) (sink_load h t 1 _ rfl _) (sink_load h t 2 _ rfl _) (sink_load h t 3 _ rfl _)
  case piece7 =>
    refine (congrFun (form0 _ _ _ _
      (View.ld (Val := Elt Ideal) (e' := .bf16) (iblk m c 2 t) (Rect.unit (s := S4224x256) (k0_off1 (grid0.coords t) 0#32) S192x256.size (k0_off1_inb (grid0.coords t) 0)))
      (View.ld (Val := Elt Ideal) (e' := .bf16) (iblk m c 3 t) (Rect.unit (s := S4224x256) (k0_off1 (grid0.coords t) 0#32) S192x256.size (k0_off1_inb (grid0.coords t) 0)))
      (View.ld (Val := Elt Ideal) (e' := .bf16) (iblk m c 1 t) (Rect.unit (s := S512x1024) ![0, 0] S64x1024.size inb_S512x1024_S64x1024_0_0))
      (Scalar.addi (Scalar.muli (BitVec.ofNat 32 (grid0.coords t 0).val) 8#32) 0#32)
      _ _ _ _ _ _ _ _ ?_ ?_ ?_ ?_ ?_) x).trans ?_
    pick_goal 6
    · exact chunk_at (k := 0) (hx0.trans (by simp)) hx1 (word t 0) (own_load t 0 _ rfl _) (own_load t 1 _ rfl _) (own_load t 2 _ rfl _) (own_load t 3 _ rfl _)
        (key_load h t 0 _ rfl _) (value_load h t 0 _ rfl _) (query_load h t 0 _ rfl _)
        (bias_load h t 0 _ rfl _) (bias_load h t 1 _ rfl _) (bias_load h t 2 _ rfl _) (bias_load h t 3 _ rfl _)
        (sink_load h t 0 _ rfl _) (sink_load h t 1 _ rfl _) (sink_load h t 2 _ rfl _) (sink_load h t 3 _ rfl _)
    · rw [Memref.IsWhole.read_unread]
      rfl
    · rfl
    · rfl
    · rfl
    · rfl

end Cert.AttnIdeal.Proof

end

end
-- ==== Proof.AttnRef.lean ====
/-
  Banded attention with a sink, as the reference computes it: its result at an index, over real arguments.
-/
module

public import proofs.«01_k».proof.Proof.AttnReal
public import proofs.«01_k».proof.Proof.Gen.AttnRefIdeal.Read
public import Idealize.ShloMosaic.Lib.Pipeline.ValueKit.Point

@[expose] public section

set_option maxRecDepth 16384

noncomputable section

namespace Cert.AttnRefIdeal.Proof

open Cert.AttnRefIdeal Cert.AttnRefIdeal.Read Idealize.ShloMosaic Idealize.ShloMosaic.TcCoe Idealize.SL.Sem
open Attn (row qcol kcol key hd)

variable {p : Attn} {x0 : FVec Ideal S4096x1024 .bf16} {x1 x2 : FVec Ideal S4096x256 .bf16} {x3 : FVec Ideal S16 .f32}
  {x4 : FVec Ideal S16x64x192 .f32}

/-- The padded keys, in chunks. -/
theorem keys_apply (hk : ∀ a l, x1 (ix2 a l) = (p.k a l : EReal)) (a : Fin 66) (b : Fin 64) (g : Fin 4) (d : Fin 64) :
    val_main_v8 (F := Ideal) x1 (ix4 a b g d) = (Attn.pad p.k ⟨a.val * 64 + b.val, by omega⟩ (kcol g d) : EReal) := by
  pointwise [val_main_v8, val_main_v7, val_main_v6, val_main_cst, val_main_v1]
  unfold Attn.pad
  by_cases h : a.val * 64 + b.val < 128
  · rw [dif_pos h, dif_neg (by show ¬ 128 ≤ a.val * 64 + b.val; omega)]
    rfl
  · rw [dif_neg h, dif_pos (by show 128 ≤ a.val * 64 + b.val; omega), hk]
    rfl

/-- The padded values, in chunks. -/
theorem values_apply (hv : ∀ a l, x2 (ix2 a l) = (p.v a l : EReal)) (a : Fin 66) (b : Fin 64) (g : Fin 4) (d : Fin 64) :
    val_main_v10 (F := Ideal) x2 (ix4 a b g d) = (Attn.pad p.v ⟨a.val * 64 + b.val, by omega⟩ (kcol g d) : EReal) := by
  pointwise [val_main_v10, val_main_v9, val_main_v6, val_main_cst, val_main_v2]
  unfold Attn.pad
  by_cases h : a.val * 64 + b.val < 128
  · rw [dif_pos h, dif_neg (by show ¬ 128 ≤ a.val * 64 + b.val; omega)]
    rfl
  · rw [dif_neg h, dif_pos (by show 128 ≤ a.val * 64 + b.val; omega), hv]
    rfl

/-- The keys of a band. -/
theorem kband_apply (hk : ∀ a l, x1 (ix2 a l) = (p.k a l : EReal)) (n : Fin 64) (j : Fin 192) (g : Fin 4) (d : Fin 64) :
    val_main_v14 (F := Ideal) x1 (ix4 n j g d) = (Attn.pad p.k (key n j) (kcol g d) : EReal) := by
  have e := keys_apply hk
  pointwise [val_main_v14, val_main_v11, val_main_v12, val_main_v13]
  simp only [e]
  split
  · rfl
  · split
    · refine congrArg (fun x => ((Attn.pad p.k x (kcol g d) : ℝ) : EReal)) (Fin.ext ?_)
      show (1 + n.val) * 64 + (j.val - 64) = n.val * 64 + j.val
      omega
    · refine congrArg (fun x => ((Attn.pad p.k x (kcol g d) : ℝ) : EReal)) (Fin.ext ?_)
      show (2 + n.val) * 64 + (j.val - 64 - 64) = n.val * 64 + j.val
      omega

/-- The values of a band. -/
theorem vband_apply (hv : ∀ a l, x2 (ix2 a l) = (p.v a l : EReal)) (n : Fin 64) (j : Fin 192) (g : Fin 4) (d : Fin 64) :
    val_main_v18 (F := Ideal) x2 (ix4 n j g d) = (Attn.pad p.v (key n j) (kcol g d) : EReal) := by
  have e := values_apply hv
  pointwise [val_main_v18, val_main_v15, val_main_v16, val_main_v17]
  simp only [e]
  split
  · rfl
  · split
    · refine congrArg (fun x => ((Attn.pad p.v x (kcol g d) : ℝ) : EReal)) (Fin.ext ?_)
      show (1 + n.val) * 64 + (j.val - 64) = n.val * 64 + j.val
      omega
    · refine congrArg (fun x => ((Attn.pad p.v x (kcol g d) : ℝ) : EReal)) (Fin.ext ?_)
      show (2 + n.val) * 64 + (j.val - 64 - 64) = n.val * 64 + j.val
      omega

theorem floor_div : ∀ j : Fin 192, Scalar.select
          (IntOp.andi
            (IntOp.cmpi CmpIPredicate.ne
              (if BitVec.ofNat 32 j.val = 0 then (0 : BitVec 32) else if (BitVec.ofNat 32 j.val).msb = true then -1 else 1)
              (if 64#32 = 0 then (0 : BitVec 32) else if BitVec.msb 64#32 = true then -1 else 1))
            (IntOp.cmpi CmpIPredicate.ne (IntOp.remsi ArithUnit.host (BitVec.ofNat 32 j.val) 64#32) 0#32))
          (IntOp.subi (IntOp.divsi ArithUnit.host (BitVec.ofNat 32 j.val) 64#32) 1#32)
          (IntOp.divsi ArithUnit.host (BitVec.ofNat 32 j.val) 64#32) = BitVec.ofNat 32 (j.val / 64) := by
  decide +kernel

theorem key_chunk : ∀ (n : Fin 64) (b : Fin 3), IntOp.cmpi CmpIPredicate.sge
    (IntOp.addi (IntOp.subi (BitVec.ofNat 32 n.val) 2#32) (BitVec.ofNat 32 b.val)) 0#32 = BitVec.ofBool (decide (2 ≤ n.val + b.val)) := by
  decide +kernel

/-- A key is at or after the sequence's start. -/
theorem valid_apply (n : Fin 64) (j : Fin 192) :
    val_main_v38 (F := Ideal) (ix2 n j) = BitVec.ofBool (decide (128 ≤ n.val * 64 + j.val)) := by
  pointwise [val_main_v38, val_main_v37, val_main_v36, val_main_v35, val_main_v34, val_main_v33, val_main_v32, val_main_v31,
    val_main_v30, val_main_v29, val_main_v28, val_main_v27, val_main_c, val_main_c_1, val_main_c_2, val_main_call0_v13,
    val_main_call0_v12, val_main_call0_v11, val_main_call0_v10, val_main_call0_v9, val_main_call0_v8, val_main_call0_v7,
    val_main_call0_v6, val_main_call0_v5, val_main_call0_v4, val_main_call0_v3, val_main_call0_v2, val_main_call0_v1,
    val_main_call0_v0, val_main_call0_c, val_main_call0_c_0]
  refine (congrArg (fun x => IntOp.cmpi CmpIPredicate.sge (IntOp.addi (IntOp.subi (BitVec.ofNat 32 n.val) 2#32) x) 0#32) (floor_div j)).trans ?_
  refine (key_chunk n ⟨j.val / 64, by omega⟩).trans (congrArg BitVec.ofBool (decide_eq_decide.mpr ?_))
  show 2 ≤ n.val + j.val / 64 ↔ _
  omega

/-- The products of queries and keys. -/
theorem qk_apply (hk : ∀ a l, x1 (ix2 a l) = (p.k a l : EReal))
    (hq : ∀ a y, x0 (ix2 a y) = (p.q a y : EReal)) (n : Fin 64) (g r : Fin 4) (i : Fin 64) (j : Fin 192) :
    val_main_v20 (F := Ideal) x0 x1 (ix5 n g r i j)
      = ((∑ d : Fin 64, Attn.pad p.k (key n j) (kcol g d) * p.q (row n i) (qcol g r d) : ℝ) : EReal) := by
  have e := kband_apply hk
  pointwise [val_main_v20, val_main_v19, val_main_v5, val_main_v0]
  simp only [e, hq, ← EReal.coe_mul, Reals.coe_sum]
  refine congrArg _ (Finset.sum_congr rfl fun d _ => congrArg (Attn.pad p.k (key n j) (kcol g d) * ·) ?_)
  exact congrArg (p.q (row n i)) (Fin.ext (by show g.val * 256 + r.val * 64 + d.val = (4 * g.val + r.val) * 64 + d.val; omega))

/-- The scores. -/
theorem score_apply (hk : ∀ a l, x1 (ix2 a l) = (p.k a l : EReal)) (hq : ∀ a y, x0 (ix2 a y) = (p.q a y : EReal))
    (hb : ∀ h i j, x4 (ix3 h i j) = (p.bias h i j : EReal)) (n : Fin 64) (g r : Fin 4) (i : Fin 64) (j : Fin 192) :
    val_main_v40 (F := Ideal) x0 x1 x4 (ix5 n g r i j) = (p.s n g r i j : EReal) := by
  have e := qk_apply hk hq n g r i j
  have v := valid_apply n j
  pointwise [val_main_v40, val_main_v39, val_main_call1_v0, val_main_call1_v1, val_main_call1_v2, val_main_cst_3, val_main_v26,
    val_main_v25, val_main_v24, val_main_v23, val_main_v22, val_main_v21, val_main_cst_0]
  rw [v, e, hb, Reals.ceighth, ← EReal.coe_mul, ← EReal.coe_add]
  refine (congrArg (Scalar.select _ _) Reals.cneg).trans ?_
  unfold Attn.s
  rw [show (⟨g.val * 4 + r.val, by omega⟩ : Fin 16) = hd g r from Fin.ext (by show g.val * 4 + r.val = 4 * g.val + r.val; omega)]
  by_cases h : 128 ≤ n.val * 64 + j.val <;> simp [h, Scalar.select]

/-- The scores and the sink. -/
def y (p : Attn) (n : Fin 64) (g r : Fin 4) (i : Fin 64) (x : Fin 193) : ℝ :=
  if h : x.val < 192 then p.s n g r i ⟨x.val, h⟩ else p.sink (hd g r)

theorem y_apply (hk : ∀ a l, x1 (ix2 a l) = (p.k a l : EReal)) (hq : ∀ a y, x0 (ix2 a y) = (p.q a y : EReal))
    (hb : ∀ h i j, x4 (ix3 h i j) = (p.bias h i j : EReal)) (hs : ∀ h, x3 (ix1 h) = (p.sink h : EReal))
    (n : Fin 64) (g r : Fin 4) (i : Fin 64) (x : Fin 193) :
    val_main_v43 (F := Ideal) x0 x1 x3 x4 (ix5 n g r i x) = (y p n g r i x : EReal) := by
  have e := score_apply hk hq hb n g r i
  have e2 (z : Fin 1) : val_main_v42 (F := Ideal) x3 (ix5 n g r i z) = (p.sink (hd g r) : EReal) := by
    pointwise [val_main_v42, val_main_v41, val_main_v4, val_main_v3]
    refine (hs _).trans (congrArg (fun h => ((p.sink h : ℝ) : EReal)) (Fin.ext ?_))
    show g.val * 4 + r.val = 4 * g.val + r.val
    omega
  pointwise [val_main_v43]
  unfold y
  by_cases h : x.val < 192
  · rw [dif_pos h, dif_pos h, e]
  · rw [dif_neg h, dif_neg h, e2]

theorem max_apply (n : Fin 64) (g r : Fin 4) (i : Fin 64) :
    val_main_v44 (F := Ideal) x0 x1 x3 x4 (ix4 n g r i)
      = Finset.fold max ⊥ (fun x => val_main_v43 (F := Ideal) x0 x1 x3 x4 (ix5 n g r i x)) Finset.univ := by
  unfold val_main_v44
  generalize val_main_v43 (F := Ideal) x0 x1 x3 x4 = Y
  pointwise [val_main_cst_4]
  rw [Reals.cbot]

theorem sum_apply (n : Fin 64) (g r : Fin 4) (i : Fin 64) :
    val_main_v51 (F := Ideal) x0 x1 x3 x4 (ix4 n g r i)
      = ∑ x, val_main_v50 (F := Ideal) x0 x1 x3 x4 (ix5 n g r i x) := by
  unfold val_main_v51
  generalize val_main_v50 (F := Ideal) x0 x1 x3 x4 = Y
  pointwise [val_main_cst_6]

/-- The greatest of finitely many reals is a real. -/
theorem fold_real {N : Nat} (f : Fin N → ℝ) (a : Fin N) : ∃ M : ℝ, Finset.fold max ⊥ (fun x => (f x : EReal)) Finset.univ = (M : EReal) := by
  obtain ⟨M, hM⟩ := Reals.fold_max Finset.univ f (f a)
  refine ⟨M, ?_⟩
  rw [← hM]
  exact (max_eq_left ((Finset.le_fold_max _).mpr (Or.inr ⟨a, Finset.mem_univ _, le_rfl⟩))).symm

/-- A softmax of reals, whatever is taken off. -/
theorem softmax_real {N : Nat} (f : Fin N → ℝ) (M : ℝ) (j : Fin N) :
    Ideal.div (Ideal.exp ((f j : EReal) - (M : EReal))) (∑ x, Ideal.exp ((f x : EReal) - (M : EReal)))
      = ((Real.exp (f j) / ∑ x, Real.exp (f x) : ℝ) : EReal) := by
  have hp : 0 < ∑ x, Real.exp (f x) := Finset.sum_pos (fun _ _ => Real.exp_pos _) ⟨j, Finset.mem_univ _⟩
  have hq : 0 < ∑ x, Real.exp (f x - M) := Finset.sum_pos (fun _ _ => Real.exp_pos _) ⟨j, Finset.mem_univ _⟩
  simp only [← EReal.coe_sub, Ideal.exp_coe, Reals.coe_sum]
  rw [Reals.div_real _ hq.ne']
  refine congrArg _ ?_
  simp only [Real.exp_sub, ← Finset.sum_div]
  rw [div_div_div_cancel_right₀ (Real.exp_pos M).ne']

theorem exp_apply (n : Fin 64) (g r : Fin 4) (i : Fin 64) (x : Fin 193) :
    val_main_v50 (F := Ideal) x0 x1 x3 x4 (ix5 n g r i x) = Ideal.exp (val_main_v43 (F := Ideal) x0 x1 x3 x4 (ix5 n g r i x)
      - max ⊥ (val_main_v44 (F := Ideal) x0 x1 x3 x4 (ix4 n g r i))) := by
  rw [val_main_v50_apply, val_main_v49_apply, val_main_v48_apply, val_main_v47_apply, val_main_v46_apply, val_main_v45_apply, val_main_cst_5_apply]
  have ei : idx_main_v47 (idx_main_v48 (ix5 n g r i x)) = ix4 n g r i :=
    funext fun a => by match a with | ⟨0, _⟩ => rfl | ⟨1, _⟩ => rfl | ⟨2, _⟩ => rfl | ⟨3, _⟩ => rfl
  rw [ei]
  generalize val_main_v43 (F := Ideal) x0 x1 x3 x4 (ix5 n g r i x) = a
  generalize val_main_v44 (F := Ideal) x0 x1 x3 x4 (ix4 n g r i) = b
  show Ideal.exp (a - max (Ideal.ofBits FTy.f32 0xFF800000#32) b) = _
  rw [Reals.cbot]

/-- The weights. -/
theorem weight_apply (hk : ∀ a l, x1 (ix2 a l) = (p.k a l : EReal)) (hq : ∀ a y, x0 (ix2 a y) = (p.q a y : EReal))
    (hb : ∀ h i j, x4 (ix3 h i j) = (p.bias h i j : EReal)) (hs : ∀ h, x3 (ix1 h) = (p.sink h : EReal))
    (n : Fin 64) (g r : Fin 4) (i : Fin 64) (j : Fin 192) :
    val_main_v55 (F := Ideal) x0 x1 x3 x4 (ix5 n g r i j) = (p.w n g r i j : EReal) := by
  have e := y_apply hk hq hb hs n g r i
  obtain ⟨M, hM⟩ := fold_real (y p n g r i) 0
  have ex (x) : val_main_v50 (F := Ideal) x0 x1 x3 x4 (ix5 n g r i x) = Ideal.exp ((y p n g r i x : EReal) - (M : EReal)) := by
    rw [exp_apply, max_apply]
    simp only [e, hM]
    rw [max_eq_right bot_le]
  pointwise [val_main_v55, val_main_v54, val_main_v53, val_main_v52]
  rw [sum_apply]
  simp only [ex]
  refine (softmax_real _ _ _).trans (congrArg _ ?_)
  unfold Attn.w
  rw [Fin.sum_univ_castSucc]
  have el : y p n g r i (Fin.last 192) = p.sink (hd g r) := dif_neg (by decide)
  have ec (x : Fin 192) : y p n g r i x.castSucc = p.s n g r i x := dif_pos x.isLt
  simp only [ec, el]
  exact congrArg (fun z => Real.exp z / _) (ec j)

/-- The result. -/
theorem out_apply (hk : ∀ a l, x1 (ix2 a l) = (p.k a l : EReal)) (hv : ∀ a l, x2 (ix2 a l) = (p.v a l : EReal))
    (hq : ∀ a y, x0 (ix2 a y) = (p.q a y : EReal))
    (hb : ∀ h i j, x4 (ix3 h i j) = (p.bias h i j : EReal)) (hs : ∀ h, x3 (ix1 h) = (p.sink h : EReal))
    (n : Fin 64) (g r : Fin 4) (i d : Fin 64) :
    val_main_v59 (F := Ideal) x0 x1 x2 x3 x4 (ix2 (row n i) (qcol g r d)) = (p.o n g r i d : EReal) := by
  have e := weight_apply hk hq hb hs
  have v := vband_apply hv
  have e57 : val_main_v57 (F := Ideal) x0 x1 x2 x3 x4 (ix5 n i g r d) = (p.o n g r i d : EReal) := by
    pointwise [val_main_v57, val_main_v56]
    simp only [e, v, ← EReal.coe_mul, Reals.coe_sum]
    exact congrArg _ (Finset.sum_congr rfl fun j _ => mul_comm _ _)
  pointwise [val_main_v59, val_main_v58]
  refine (congrArg (val_main_v57 (F := Ideal) x0 x1 x2 x3 x4) ?_).trans e57
  have f0 : (⟨(row n i).val / 64, by omega⟩ : Fin 64) = n := Fin.ext (by show (n.val * 64 + i.val) / 64 = n.val; omega)
  have f1 : (⟨(row n i).val % 64, by omega⟩ : Fin 64) = i := Fin.ext (by show (n.val * 64 + i.val) % 64 = i.val; omega)
  have f2 : (⟨(qcol g r d).val / 256, by omega⟩ : Fin 4) = g := Fin.ext (by show ((4 * g.val + r.val) * 64 + d.val) / 256 = g.val; omega)
  have f3 : (⟨(qcol g r d).val / 64 % 4, by omega⟩ : Fin 4) = r := Fin.ext (by show ((4 * g.val + r.val) * 64 + d.val) / 64 % 4 = r.val; omega)
  have f4 : (⟨(qcol g r d).val % 64, by omega⟩ : Fin 64) = d := Fin.ext (by show ((4 * g.val + r.val) * 64 + d.val) % 64 = d.val; omega)
  simp only [f0, f1, f2, f3, f4]

end Cert.AttnRefIdeal.Proof

end

end
-- ==== Proof.AttnClaim.lean ====
/-
  Banded attention with a sink: kernel and reference end with the same array.
-/
module

public import proofs.«01_k».proof.Defs
public import proofs.«01_k».proof.Proof.AttnKernel
public import proofs.«01_k».proof.Proof.AttnRef
public import proofs.«01_k».proof.Proof.Reals
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_attn_finite

@[expose] public section

set_option maxRecDepth 16384

noncomputable section

open Idealize.ShloMosaic Idealize.SL.Sem

namespace Cert.AttnIdeal.Proof

open Cert.AttnIdeal Cert.AttnIdeal.Gen Idealize.ShloMosaic Idealize.ShloMosaic.TcCoe Idealize.SL.Sem
open Cert.AttnRefIdeal.Read (val_main_v59)
open _root_.Attn (row qcol)

variable {m : (ℓ : Loc nD τ sig) → Buf (Elt Ideal) ℓ} {c : Dev nD} {p : Attn}

/-- Under the precondition the arguments are an attention's real arguments. -/
theorem args_of_pre (h : Cert.Pre_AttnIdeal_attn_finite m) (c : Dev nD) : ∃ p, Args m p c := by
  obtain ⟨h0, h1, h2, h3, h4⟩ := h c
  exact ⟨⟨_, _, _, _, _⟩, fun _ _ => Reals.real_of_test h0 (fun _ => rfl) _, fun _ _ => Reals.real_of_test h1 (fun _ => rfl) _,
    fun _ _ => Reals.real_of_test h2 (fun _ => rfl) _, fun _ => Reals.real_of_test h3 (fun _ => rfl) _,
    fun _ _ _ => Reals.real_of_test h4 (fun _ => rfl) _⟩

/-- The result array is the reference's. -/
theorem result6 (h : Args m p c) : (dats m 0 c).arrAt 6 cfg0.N
    = val_main_v59 (F := Ideal) (m (Thread.loc (Dev.tc c) main_arg0)) (m (Thread.loc (Dev.tc c) main_arg1))
        (m (Thread.loc (Dev.tc c) main_arg2)) (m (Thread.loc (Dev.tc c) main_arg3)) (m (Thread.loc (Dev.tc c) main_arg4)) := by
  have point : ∀ (t : Fin cfg0.N) (y : S512x1024.Idx) (e : S4096x1024.Idx),
      e = ix2 ⟨t.val * 512 + (y 0).val, by have := lt_eight t; have := (y 0).isLt; change (y 0).val < 512 at this; omega⟩ (y 1) →
      outsAt0 m c t y = val_main_v59 (F := Ideal) (m (Thread.loc (Dev.tc c) main_arg0)) (m (Thread.loc (Dev.tc c) main_arg1))
        (m (Thread.loc (Dev.tc c) main_arg2)) (m (Thread.loc (Dev.tc c) main_arg3)) (m (Thread.loc (Dev.tc c) main_arg4)) e := by
    intro t y e he
    obtain ⟨r, l, rfl⟩ : ∃ (r : Fin 512) (l : Fin 1024), y = ix2 r l := ⟨y 0, y 1, eq_ix2 y⟩
    have l8 := lt_eight t
    obtain ⟨k, i, rfl⟩ : ∃ (k : Fin 8) (i : Fin 64), r = ⟨k.val * 64 + i.val, by omega⟩ :=
      ⟨⟨r.val / 64, by omega⟩, ⟨r.val % 64, by omega⟩, Fin.ext (by show r.val = r.val / 64 * 64 + r.val % 64; omega)⟩
    obtain ⟨g, s, d, rfl⟩ : ∃ (g s : Fin 4) (d : Fin 64), l = qcol g s d :=
      ⟨⟨l.val / 256, by omega⟩, ⟨l.val / 64 % 4, by omega⟩, ⟨l.val % 64, by omega⟩,
        Fin.ext (by show l.val = (4 * (l.val / 256) + l.val / 64 % 4) * 64 + l.val % 64; omega)⟩
    obtain rfl : e = ix2 (row (ch t k) i) (qcol g s d) := he.trans (congrArg (fun x => ix2 x (qcol g s d))
      (Fin.ext (by show t.val * 512 + (k.val * 64 + i.val) = (t.val * 8 + k.val) * 64 + i.val; omega)))
    rw [out_apply h t k i g s d]
    exact (Cert.AttnRefIdeal.Proof.out_apply h.k h.v h.q h.bias h.sink (ch t k) g s i d).symm
  refine (dats m 0 c).arrAt_eq_of_covers 6 _ (by decide +kernel) fun t _ y => ?_
  blk_simp
  rw [after0_6]
  refine point t y _ ?_
  blk_ext [idx t]

/-- Kernel and reference, from memories that agree on the arguments, end with equal results. -/
theorem algebraic : Cert.algebraic_AttnIdeal_AttnRefIdeal_pre_attn_finite := by
  intro m ρ m' ρ' hpre hag
  refine ⟨fun c => (dats m 0 c).arrAt 6 cfg0.N, Value.run_blocks m ρ, ?_⟩
  refine (θ_run Cert.AttnRefIdeal.defs _ _).mono (fun r h c => ?_) (Cert.AttnRefIdeal.Value.run (F := Ideal) m' ρ')
  obtain ⟨p, hA⟩ := args_of_pre hpre c
  obtain ⟨e0, e1, e2, e3, e4⟩ := hag c
  refine ⟨(h c).1.trans ?_, (h c).2⟩
  have e := result6 hA
  rw [← e0, ← e1, ← e2, ← e3, ← e4] at e
  rw [Cert.AttnRefIdeal.Read.val_main_v59_eq]
  exact e.symm

end Cert.AttnIdeal.Proof

/-- The reference's frame: its run, read at the arguments; it declares no semaphore. -/
theorem Cert.AttnRefIdeal.Proof.frame : Cert.quiescent_AttnRefIdeal := fun m ρ _ =>
  (θ_run Cert.AttnRefIdeal.defs _ _).mono (fun _ h => ⟨fun c => (h c).2, funext fun q => nomatch q⟩)
    (Cert.AttnRefIdeal.Value.run (F := Ideal) m ρ)

end

end
-- ==== Proof.Fwd.lean ====
/-
  The forward lines of a feed-forward block and of the mixer over the extended reals: a row's norm, a product, the logistic
  gate.
-/
module

public import proofs.«01_k».proof.Proof.Reals
public import Idealize.ShloMosaic.Lib.Pipeline.ValueKit.Acc

@[expose] public section

noncomputable section

namespace Fwd

open Idealize.ShloMosaic

/-- A row over the root of its mean square, times a weight. -/
def nrm (x g : Fin 1024 → EReal) (l : Fin 1024) : EReal :=
  x l * Ideal.rsqrt (Ideal.div (∑ k, x k * x k) (Ideal.ofBits FTy.f32 1149239296#32) + Ideal.ofBits FTy.f32 897988541#32) * g l

/-- A row times a matrix. -/
def prod {K L : ℕ} (a : Fin K → EReal) (w : Fin K → Fin L → EReal) (l : Fin L) : EReal := ∑ k, a k * w k l

/-- The gate of a feed-forward block. -/
def gate (a b : EReal) : EReal := a * Ideal.logistic a * b

/-- The residual with half of a norm added. -/
def half (x y : EReal) : EReal := x + Ideal.ofBits FTy.f32 1056964608#32 * y

/-- The residual with a norm added. -/
def add (x y : EReal) : EReal := x + y

/-- Column `j` of slot `k` of the four slots of a hidden row. -/
def col (k : Fin 4) (j : Fin 704) : Fin 2816 := ⟨k.val * 704 + j.val, by omega⟩

/-- The slots' sums, in their order, are the whole sum. -/
theorem slots (f : Fin 2816 → EReal) :
    ∑ j, f (col 0 j) + ∑ j, f (col 1 j) + ∑ j, f (col 2 j) + ∑ j, f (col 3 j) = ∑ k, f k := by
  rw [← Fin.sum_mul_add_fin 4 704 f, Fin.sum_univ_four]; rfl

/-- The host's logistic function. -/
theorem sigmoid (a : EReal) :
    Ideal.div (Ideal.ofBits FTy.f32 1065353216#32) (Ideal.ofBits FTy.f32 1065353216#32 + Ideal.exp (-a)) = Ideal.logistic a := by
  rw [Reals.cone, EReal.coe_one]; rfl

end Fwd

end

end
-- ==== Proof.LossKernel.lean ====
/-
  The second feed-forward block's forward call with the loss, as the kernel leaves it: its six result arrays at an index.
-/
module

public import proofs.«01_k».proof.Proof.Gen.LossIdeal.Value
public import proofs.«01_k».proof.Proof.Fwd
public import Idealize.ShloMosaic.Lib.Pipeline.ValueKit.Point

@[expose] public section

set_option maxRecDepth 16384

noncomputable section

namespace Cert.LossIdeal.Proof

open Cert.LossIdeal Cert.LossIdeal.Gen Idealize.ShloMosaic Idealize.ShloMosaic.TcCoe Idealize.SL.Sem
open Fwd (col)

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![0, 0, 0] ∧ win0_3.index t = ![0, 0, 0] ∧ win0_4.index t = ![0, 0, 0] ∧ win0_5.index t = ![0, 0]
    ∧ win0_6.index t = ![t.val, 0] ∧ win0_7.index t = ![t.val, 0]
    ∧ win0_8.index t = ![0, t.val, 0] ∧ win0_9.index t = ![0, t.val, 0] ∧ win0_10.index t = ![0, t.val, 0]
    ∧ win0_11.index t = ![t.val, 0] ∧ win0_12.index t = ![0, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- The norm from the arguments. -/
def n (c : Dev nD) (i : Fin 4096) (l : Fin 1024) : EReal :=
  Fwd.nrm (fun l => m (Thread.loc (Dev.tc c) main_arg0) (ix2 i l)) (fun l => m (Thread.loc (Dev.tc c) main_arg1) (ix2 0 l)) l

/-- The two products from the arguments. -/
def a (c : Dev nD) (i : Fin 4096) (j : Fin 2816) : EReal :=
  Fwd.prod (n m c i) (fun k l => m (Thread.loc (Dev.tc c) main_arg2) (ix2 k l)) j

def b (c : Dev nD) (i : Fin 4096) (j : Fin 2816) : EReal :=
  Fwd.prod (n m c i) (fun k l => m (Thread.loc (Dev.tc c) main_arg3) (ix2 k l)) j

/-- The output product, and the block's result with the target taken off, from the arguments. -/
def f (c : Dev nD) (i : Fin 4096) (l : Fin 1024) : EReal :=
  Fwd.prod (fun k => Fwd.gate (a m c i k) (b m c i k)) (fun k l => m (Thread.loc (Dev.tc c) main_arg4) (ix2 k l)) l

def e (c : Dev nD) (i : Fin 4096) (l : Fin 1024) : EReal :=
  HSub.hSub (α := EReal) (β := EReal) (γ := EReal) (Fwd.half (m (Thread.loc (Dev.tc c) main_arg0) (ix2 i l))
    (Fwd.nrm (f m c i) (fun l => m (Thread.loc (Dev.tc c) main_arg5) (ix2 0 l)) l)) (m (Thread.loc (Dev.tc c) main_arg6) (ix2 i l))

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (r : Fin 1) (l : Fin 1024) :
    iblk m c 1 t (ix2 r l) = m (Thread.loc (Dev.tc c) main_arg1) (ix2 r l) := by
  blk_ext! [iblk, V, idx t]

theorem iblk2 (c : Dev nD) (t : Fin cfg0.N) (k : Fin 4) (j : Fin 704) (l : Fin 1024) :
    iblk m c 2 t (ix3 k j l) = m (Thread.loc (Dev.tc c) main_arg2) (ix2 l (col k j)) := by
  unfold col; blk_ext! [iblk, V, idx t]

theorem iblk3 (c : Dev nD) (t : Fin cfg0.N) (k : Fin 4) (j : Fin 704) (l : Fin 1024) :
    iblk m c 3 t (ix3 k j l) = m (Thread.loc (Dev.tc c) main_arg3) (ix2 l (col k j)) := by
  unfold col; blk_ext! [iblk, V, idx t]

theorem iblk4 (c : Dev nD) (t : Fin cfg0.N) (k : Fin 4) (j : Fin 704) (l : Fin 1024) :
    iblk m c 4 t (ix3 k j l) = m (Thread.loc (Dev.tc c) main_arg4) (ix2 (col k j) l) := by
  unfold col; blk_ext! [iblk, V, idx t]

theorem iblk5 (c : Dev nD) (t : Fin cfg0.N) (r : Fin 1) (l : Fin 1024) :
    iblk m c 5 t (ix2 r l) = m (Thread.loc (Dev.tc c) main_arg5) (ix2 r l) := by
  blk_ext! [iblk, V, idx t]

theorem iblk6 (c : Dev nD) (t : Fin cfg0.N) (r : Fin 512) (l : Fin 1024) :
    iblk m c 6 t (ix2 r l) = m (Thread.loc (Dev.tc c) main_arg6) (ix2 (row t r) l) := by
  unfold row; blk_ext! [iblk, V, idx t]

/-- The norm at a grid point. -/
theorem n_pay (c : Dev nD) (t : Fin cfg0.N) (r : Fin 512) (l : Fin 1024) :
    k0_pay5 (iblk m c 0 t) (iblk m c 1 t) (ix2 r l) = n m c (row t r) l := by
  pointwise [k0_pay5]
  simp only [iblk0, iblk1]
  rfl

/-- A local index of a slot's piece. -/
theorem local_eq {r : Fin 512} {j : Fin 704} {x : S1x512x704.Idx} (h1 : (r : Nat) = x 1) (h2 : (j : Nat) = x 2) :
    x = ix3 0 r j := by
  rw [eq_ix3 x]
  exact congrArg₂ (fun a b => ix3 a b (x 2)) (Subsingleton.elim (α := Fin 1) _ _) (Fin.ext h1.symm : x 1 = r) |>.trans
    (congrArg (ix3 0 r) (Fin.ext h2.symm : x 2 = j))

/-- The second result at an index, slot by slot. -/
theorem a_apply (c : Dev nD) (t : Fin cfg0.N) (k : Fin 4) (r : Fin 512) (j : Fin 704) :
    (outsAt0 m c t.val t.isLt).2.1 (ix3 k r j) = a m c (row t r) (col k j) := by
  by_cases ht : t.val % 8 = 0
  · rw [outsAt0_A m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay7, k0_pay10, k0_pay14, k0_pay17, k0_pay21, k0_pay24, k0_pay28, k0_pay31]
      simp only [iblk2, n_pay]
      rfl
  · rw [outsAt0_B m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay7, k0_pay10, k0_pay14, k0_pay17, k0_pay21, k0_pay24, k0_pay28, k0_pay31]
      simp only [iblk2, n_pay]
      rfl

/-- The third result at an index, slot by slot. -/
theorem b_apply (c : Dev nD) (t : Fin cfg0.N) (k : Fin 4) (r : Fin 512) (j : Fin 704) :
    (outsAt0 m c t.val t.isLt).2.2.1 (ix3 k r j) = b m c (row t r) (col k j) := by
  by_cases ht : t.val % 8 = 0
  · rw [outsAt0_A m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay8, k0_pay11, k0_pay15, k0_pay18, k0_pay22, k0_pay25, k0_pay29, k0_pay32]
      simp only [iblk3, n_pay]
      rfl
  · rw [outsAt0_B m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay8, k0_pay11, k0_pay15, k0_pay18, k0_pay22, k0_pay25, k0_pay29, k0_pay32]
      simp only [iblk3, n_pay]
      rfl

/-- The fourth result at an index, slot by slot. -/
theorem h_apply (c : Dev nD) (t : Fin cfg0.N) (k : Fin 4) (r : Fin 512) (j : Fin 704) :
    (outsAt0 m c t.val t.isLt).2.2.2.1 (ix3 k r j) = Fwd.gate (a m c (row t r) (col k j)) (b m c (row t r) (col k j)) := by
  by_cases ht : t.val % 8 = 0
  · rw [outsAt0_A m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay7, k0_pay8, k0_pay9, k0_pay12, k0_pay14, k0_pay15, k0_pay16, k0_pay19, k0_pay21, k0_pay22, k0_pay23, k0_pay26, k0_pay28, k0_pay29, k0_pay30, k0_pay33]
      simp only [iblk2, iblk3, n_pay]
      rfl
  · rw [outsAt0_B m c t ht]; frame_out
    canon_tiles x hx
    case' piece0 => obtain rfl : k = 3 := Fin.ext (by change (k : Nat) = _ at hx0; omega)
    case' piece1 => obtain rfl : k = 2 := Fin.ext (by change (k : Nat) = _ at hx0; omega)
    case' piece2 => obtain rfl : k = 1 := Fin.ext (by change (k : Nat) = _ at hx0; omega)
    case' piece3 => obtain rfl : k = 0 := Fin.ext (by change (k : Nat) = _ at hx0; omega)
    all_goals
      obtain rfl : x = ix3 0 r j := local_eq hx1 hx2
      pointwise [k0_pay7, k0_pay8, k0_pay9, k0_pay12, k0_pay14, k0_pay15, k0_pay16, k0_pay19, k0_pay21, k0_pay22, k0_pay23, k0_pay26, k0_pay28, k0_pay29, k0_pay30, k0_pay33]
      simp only [iblk2, iblk3, n_pay]
      rfl

/-- The output product as the body sums it at a grid point, and the root of its mean square. -/
def fsum (c : Dev nD) (t : Fin cfg0.N) : FVec Ideal S512x1024 .f32 :=
  k0_pay34 (k0_pay5 (iblk m c 0 t) (iblk m c 1 t))
    (k0_pay27 (k0_pay5 (iblk m c 0 t) (iblk m c 1 t))
      (k0_pay13 k0_pay6
        (k0_pay9 (iblk m c 0 t) (iblk m c 1 t)
          (View.ld (iblk m c 2 t) (Rect.unit ![0, 0, 0] ![1, 704, 1024] inb_S4x704x1024_S1x704x1024_0_0_0))
          (View.ld (iblk m c 3 t) (Rect.unit ![0, 0, 0] ![1, 704, 1024] inb_S4x704x1024_S1x704x1024_0_0_0)))
        (View.ld (iblk m c 4 t) (Rect.unit ![0, 0, 0] ![1, 704, 1024] inb_S4x704x1024_S1x704x1024_0_0_0)))
      (k0_pay16 (k0_pay5 (iblk m c 0 t) (iblk m c 1 t))
        (View.ld (iblk m c 2 t) (Rect.unit ![1, 0, 0] ![1, 704, 1024] inb_S4x704x1024_S1x704x1024_1_0_0))
        (View.ld (iblk m c 3 t) (Rect.unit ![1, 0, 0] ![1, 704, 1024] inb_S4x704x1024_S1x704x1024_1_0_0)))
      (k0_pay20 (View.ld (iblk m c 4 t) (Rect.unit ![1, 0, 0] ![1, 704, 1024] inb_S4x704x1024_S1x704x1024_1_0_0)))
      (View.ld (iblk m c 2 t) (Rect.unit ![2, 0, 0] ![1, 704, 1024] inb_S4x704x1024_S1x704x1024_2_0_0))
      (View.ld (iblk m c 3 t) (Rect.unit ![2, 0, 0] ![1, 704, 1024] inb_S4x704x1024_S1x704x1024_2_0_0))
      (View.ld (iblk m c 4 t) (Rect.unit ![2, 0, 0] ![1, 704, 1024] inb_S4x704x1024_S1x704x1024_2_0_0)))
    (k0_pay28 (k0_pay5 (iblk m c 0 t) (iblk m c 1 t))
      (View.ld (iblk m c 2 t) (Rect.unit ![3, 0, 0] ![1, 704, 1024] inb_S4x704x1024_S1x704x1024_3_0_0)))
    (View.ld (iblk m c 3 t) (Rect.unit ![3, 0, 0] ![1, 704, 1024] inb_S4x704x1024_S1x704x1024_3_0_0))
    (View.ld (iblk m c 4 t) (Rect.unit ![3, 0, 0] ![1, 704, 1024] inb_S4x704x1024_S1x704x1024_3_0_0))

def rts (c : Dev nD) (t : Fin cfg0.N) : FVec Ideal S512x1024 .f32 :=
  k0_pay35 (k0_pay5 (iblk m c 0 t) (iblk m c 1 t))
    (k0_pay27 (k0_pay5 (iblk m c 0 t) (iblk m c 1 t))
      (k0_pay13 k0_pay6
        (k0_pay9 (iblk m c 0 t) (iblk m c 1 t)
          (View.ld (iblk m c 2 t) (Rect.unit ![0, 0, 0] ![1, 704, 1024] inb_S4x704x1024_S1x704x1024_0_0_0))
          (View.ld (iblk m c 3 t) (Rect.unit ![0, 0, 0] ![1, 704, 1024] inb_S4x704x1024_S1x704x1024_0_0_0)))
        (View.ld (iblk m c 4 t) (Rect.unit ![0, 0, 0] ![1, 704, 1024] inb_S4x704x1024_S1x704x1024_0_0_0)))
      (k0_pay16 (k0_pay5 (iblk m c 0 t) (iblk m c 1 t))
        (View.ld (iblk m c 2 t) (Rect.unit ![1, 0, 0] ![1, 704, 1024] inb_S4x704x1024_S1x704x1024_1_0_0))
        (View.ld (iblk m c 3 t) (Rect.unit ![1, 0, 0] ![1, 704, 1024] inb_S4x704x1024_S1x704x1024_1_0_0)))
      (k0_pay20 (View.ld (iblk m c 4 t) (Rect.unit ![1, 0, 0] ![1, 704, 1024] inb_S4x704x1024_S1x704x1024_1_0_0)))
      (View.ld (iblk m c 2 t) (Rect.unit ![2, 0, 0] ![1, 704, 1024] inb_S4x704x1024_S1x704x1024_2_0_0))
      (View.ld (iblk m c 3 t) (Rect.unit ![2, 0, 0] ![1, 704, 1024] inb_S4x704x1024_S1x704x1024_2_0_0))
      (View.ld (iblk m c 4 t) (Rect.unit ![2, 0, 0] ![1, 704, 1024] inb_S4x704x1024_S1x704x1024_2_0_0)))
    (k0_pay28 (k0_pay5 (iblk m c 0 t) (iblk m c 1 t))
      (View.ld (iblk m c 2 t) (Rect.unit ![3, 0, 0] ![1, 704, 1024] inb_S4x704x1024_S1x704x1024_3_0_0)))
    (View.ld (iblk m c 3 t) (Rect.unit ![3, 0, 0] ![1, 704, 1024] inb_S4x704x1024_S1x704x1024_3_0_0))
    (View.ld (iblk m c 4 t) (Rect.unit ![3, 0, 0] ![1, 704, 1024] inb_S4x704x1024_S1x704x1024_3_0_0))

theorem fsum_apply (c : Dev nD) (t : Fin cfg0.N) (r : Fin 512) (l : Fin 1024) : fsum m c t (ix2 r l) = f m c (row t r) l := by
  unfold fsum
  pointwise [k0_pay34, k0_pay30, k0_pay29, k0_pay28, k0_pay27, k0_pay23, k0_pay22, k0_pay21, k0_pay20, k0_pay16, k0_pay15, k0_pay14, k0_pay13, k0_pay9, k0_pay8, k0_pay7, k0_pay6]
  simp only [iblk2, iblk3, iblk4, n_pay]
  exact Fwd.slots fun k => HMul.hMul (α := EReal) (β := EReal) (γ := EReal)
    (Fwd.gate (a m c (row t r) k) (b m c (row t r) k)) (m (Thread.loc (Dev.tc c) main_arg4) (ix2 k l))

/-- The root of a row's mean square. -/
theorem root (v14 : FVec Ideal S512x1024 .bf16) (v90 : FVec Ideal S512x1024 .f32) (v93 : FVec Ideal S512x704 .f32)
    (v94 v112 : Vec Ideal S1x704x1024 .bf16) (r : Fin 512) (l : Fin 1024) :
    k0_pay35 v14 v90 v93 v94 v112 (ix2 r l)
      = Ideal.rsqrt (Ideal.div (∑ k : Fin 1024, k0_pay34 v14 v90 v93 v94 v112 (ix2 r k) * k0_pay34 v14 v90 v93 v94 v112 (ix2 r k))
          (Ideal.ofBits FTy.f32 1149239296#32) + Ideal.ofBits FTy.f32 897988541#32) := by
  pointwise [k0_pay35]

theorem rts_apply (c : Dev nD) (t : Fin cfg0.N) (r : Fin 512) (l : Fin 1024) : rts m c t (ix2 r l)
    = Ideal.rsqrt (Ideal.div (∑ k : Fin 1024, fsum m c t (ix2 r k) * fsum m c t (ix2 r k))
        (Ideal.ofBits FTy.f32 1149239296#32) + Ideal.ofBits FTy.f32 897988541#32) :=
  root _ _ _ _ _ r l

/-- What the block's result exceeds the target by, at a grid point. -/
theorem e_pay (c : Dev nD) (t : Fin cfg0.N) (r : Fin 512) (l : Fin 1024) :
    k0_pay2 (iblk m c 0 t) (fsum m c t) (iblk m c 5 t) (rts m c t) (iblk m c 6 t) (ix2 r l) = e m c (row t r) l := by
  pointwise [k0_pay2]
  simp only [iblk0, iblk5, iblk6, rts_apply, fsum_apply]
  rfl

/-- The fifth result at an index. -/
theorem f_apply (c : Dev nD) (t : Fin cfg0.N) (r : Fin 512) (l : Fin 1024) :
    (outsAt0 m c t.val t.isLt).2.2.2.2.1 (ix2 r l) = f m c (row t r) l := by
  rw [← fsum_apply]
  by_cases ht : t.val % 8 = 0
  · rw [outsAt0_A m c t ht]; frame_out; rfl
  · rw [outsAt0_B m c t ht]; frame_out; rfl

/-- The first result at an index: the loss's gradient. -/
theorem dy_apply (c : Dev nD) (t : Fin cfg0.N) (r : Fin 512) (l : Fin 1024) :
    (outsAt0 m c t.val t.isLt).1 (ix2 r l) = e m c (row t r) l * Ideal.ofBits FTy.f32 981467136#32 := by
  have h : (outsAt0 m c t.val t.isLt).1 = k0_pay3 (iblk m c 0 t) (fsum m c t) (iblk m c 5 t) (rts m c t) (iblk m c 6 t) := by
    by_cases ht : t.val % 8 = 0
    · rw [outsAt0_A m c t ht]; frame_out; rfl
    · rw [outsAt0_B m c t ht]; frame_out; rfl
  rw [h]
  pointwise [k0_pay3]
  simp only [e_pay]

/-- One grid point's part of the sum of squares. -/
theorem s_step (c : Dev nD) (t : Fin cfg0.N) (u : Vec Ideal S1x128 .f32) (l : Fin 128) :
    k0_pay4 (iblk m c 0 t) (fsum m c t) (iblk m c 5 t) (rts m c t) (iblk m c 6 t) u (ix2 0 l)
      = u (ix2 0 l) + ∑ k : Fin 1024, ∑ r : Fin 512, e m c (row t r) k * e m c (row t r) k := by
  pointwise [k0_pay4]
  simp only [e_pay]

theorem s_first (c : Dev nD) (t : Fin cfg0.N) (h : t.val % 8 = 0) : (outsAt0 m c t.val t.isLt).2.2.2.2.2
    = k0_pay4 (iblk m c 0 t) (fsum m c t) (iblk m c 5 t) (rts m c t) (iblk m c 6 t) (k0_pay1 (F := Ideal)) := by
  rw [outsAt0_A m c t h]; frame_out; rfl

theorem s_next (c : Dev nD) (t : Fin cfg0.N) (h : ¬t.val % 8 = 0) : (outsAt0 m c t.val t.isLt).2.2.2.2.2
    = k0_pay4 (iblk m c 0 t) (fsum m c t) (iblk m c 5 t) (rts m c t) (iblk m c 6 t) (outsAt0 m c (t.val - 1) (Nat.lt_of_le_of_lt (Nat.sub_le _ _) t.isLt)).2.2.2.2.2 := by
  rw [outsAt0_B m c t h]; frame_out; rfl

/-- A sum over the grid's points and a block's rows is the sum over all rows. -/
theorem sum_rows (g : Fin 4096 → EReal) : ∑ t : Fin cfg0.N, ∑ r : Fin 512, g (row t r) = ∑ i, g i :=
  Fin.sum_mul_add_congr (S := 8) (n := 512) fun _ _ _ => rfl

/-- The sum of squares over all rows. -/
def sq (c : Dev nD) : EReal := ∑ i : Fin 4096, ∑ l : Fin 1024, e m c i l * e m c i l

/-- The sixth result at an index. -/
theorem s_apply (c : Dev nD) (l : Fin 128) : (outsAt0 m c t0_7.val t0_7.isLt).2.2.2.2.2 (ix2 0 l) = sq m c := by
  have h := Pipeline.eq_sum_fin_of_reset_step_apply_last (fun n h (l : Fin 128) => (outsAt0 m c n h).2.2.2.2.2 (ix2 0 l)) 8
    (fun _ => (0 : EReal)) (fun t _ => ∑ k : Fin 1024, ∑ r : Fin 512, e m c (row t r) k * e m c (row t r) k)
    (fun t ht l => by
      beta_reduce; rw [s_first m c t ht, s_step]; congr 1; pointwise [k0_pay1])
    (fun t ht l => by beta_reduce; rw [s_next m c t ht, s_step]) (le_of_eq Gen.N_0) t0_7 rfl l
  beta_reduce at h
  rw [h, zero_add, Finset.sum_comm]
  exact (Finset.sum_congr rfl fun k _ => sum_rows fun i => e m c i k * e m c i k).trans Finset.sum_comm

end Cert.LossIdeal.Proof

end

end
-- ==== Proof.LossClaim.lean ====
/-
  The second feed-forward block with the loss: kernel and reference end with the same arrays.
-/
module

public import proofs.«01_k».proof.Defs
public import proofs.«01_k».proof.Proof.LossKernel
public import proofs.«01_k».proof.Proof.Gen.LossRefIdeal.Run
public import proofs.«01_k».proof.Proof.Gen.LossRefIdeal.Read

@[expose] public section

set_option maxRecDepth 16384

noncomputable section

open Idealize.ShloMosaic Idealize.SL.Sem

namespace Cert.LossIdeal.Proof

open Cert.LossIdeal Cert.LossIdeal.Gen Idealize.ShloMosaic Idealize.ShloMosaic.TcCoe Idealize.SL.Sem
open Cert.LossRefIdeal.Read
open Fwd (col)

variable (m : (ℓ : Loc nD τ sig) → Buf (Elt Ideal) ℓ) (c : Dev nD)

/-- The reference's norm at an index. -/
theorem ref_n (i : Fin 4096) (l : Fin 1024) :
    val_main_v13 (F := Ideal) (m (Thread.loc (Dev.tc c) main_arg0)) (m (Thread.loc (Dev.tc c) main_arg1)) (ix2 i l) = n m c i l := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The reference's products at an index. -/
theorem ref_a (i : Fin 4096) (j : Fin 2816) :
    val_main_v14 (F := Ideal) (m (Thread.loc (Dev.tc c) main_arg0)) (m (Thread.loc (Dev.tc c) main_arg1)) (m (Thread.loc (Dev.tc c) main_arg2)) (ix2 i j) = a m c i j := by
  pointwise [val_main_v14]
  simp only [ref_n]
  rfl

theorem ref_b (i : Fin 4096) (j : Fin 2816) :
    val_main_v15 (F := Ideal) (m (Thread.loc (Dev.tc c) main_arg0)) (m (Thread.loc (Dev.tc c) main_arg1)) (m (Thread.loc (Dev.tc c) main_arg3)) (ix2 i j) = b m c i j := by
  pointwise [val_main_v15]
  simp only [ref_n]
  rfl

/-- The reference's gate at an index. -/
theorem ref_h (i : Fin 4096) (j : Fin 2816) :
    val_main_v17 (F := Ideal) (m (Thread.loc (Dev.tc c) main_arg0)) (m (Thread.loc (Dev.tc c) main_arg1)) (m (Thread.loc (Dev.tc c) main_arg2)) (m (Thread.loc (Dev.tc c) main_arg3)) (ix2 i j) = Fwd.gate (a m c i j) (b m c i j) := by
  pointwise [val_main_v17, val_main_v16, val_main_call0_v5, val_main_call0_v4, val_main_call0_cst_0, val_main_call0_v3, val_main_call0_v2, val_main_call0_cst, val_main_call0_v1, val_main_call0_v0]
  simp only [ref_a, ref_b]
  rfl

/-- The reference's output product at an index. -/
theorem ref_f (i : Fin 4096) (l : Fin 1024) :
    val_main_v18 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (ix2 i l) = f m c i l := by
  pointwise [val_main_v18]
  simp only [ref_h]
  rfl

/-- What the reference's result exceeds the target by, at an index. -/
theorem ref_e (i : Fin 4096) (l : Fin 1024) :
    val_main_v40 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (ix2 i l) = e m c i l := by
  pointwise [val_main_v40, val_main_v35, val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4, val_main_cst_5]
  simp only [ref_f]
  rfl

theorem ref_e' (i : Fin 4096) (l : Fin 1024) :
    val_main_v36 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (ix2 i l) = e m c i l := by
  rw [← ref_e]; pointwise [val_main_v36, val_main_v40]

/-- The loss's factors: a half, over a row's width, times the square's two. -/
theorem factors (x : EReal) :
    Ideal.div (Ideal.ofBits FTy.f32 1056964608#32) (Ideal.ofBits FTy.f32 1149239296#32) * (Ideal.ofBits FTy.f32 1073741824#32 * x)
      = x * Ideal.ofBits FTy.f32 981467136#32 := by
  have h2 : Ideal.ofBits FTy.f32 1073741824#32 = ((2 : ℝ) : EReal) := by
    simp [Ideal.ofBits, Ideal.ieee]; rw [← EReal.coe_mul]; norm_num
  have h10 : Ideal.ofBits FTy.f32 981467136#32 = ((1 / 1024 : ℝ) : EReal) := by
    simp [Ideal.ofBits, Ideal.ieee]; rw [← EReal.coe_mul]; norm_num
  rw [Reals.chalf, Reals.c1024, Reals.div_real _ (by norm_num), h2, h10, ← mul_assoc, ← EReal.coe_mul, mul_comm]
  norm_num

/-- The loss's gradient in the reference at an index. -/
theorem ref_dy (i : Fin 4096) (l : Fin 1024) :
    val_main_v54 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (ix2 i l) = e m c i l * Ideal.ofBits FTy.f32 981467136#32 := by
  pointwise [val_main_v54, val_main_v53, val_main_v52, val_main_v51, val_main_v50, val_main_v49, val_main_v43, val_main_v42, val_main_cst_14, val_main_cst_13, val_main_cst_12, val_main_cst_7]
  simp only [ref_e]
  exact factors _

/-- The reference's sum of squares. -/
theorem ref_s (l : Fin 128) :
    val_main_v39 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (ix2 0 l) = sq m c := by
  pointwise [val_main_v39, val_main_v38, val_main_v37, val_main_cst_6]
  simp only [ref_e']
  rfl

/-- The reference's arrays slot by slot. -/
theorem ref_apart_a (k : Fin 4) (i : Fin 4096) (j : Fin 704) :
    val_main_v57 (F := Ideal) (m (Thread.loc (Dev.tc c) main_arg0)) (m (Thread.loc (Dev.tc c) main_arg1)) (m (Thread.loc (Dev.tc c) main_arg2)) (ix3 k i j) = a m c i (col k j) := by
  rw [← ref_a]; pointwise [val_main_v57, val_main_v56, val_main_v55]; rfl

theorem ref_apart_b (k : Fin 4) (i : Fin 4096) (j : Fin 704) :
    val_main_v60 (F := Ideal) (m (Thread.loc (Dev.tc c) main_arg0)) (m (Thread.loc (Dev.tc c) main_arg1)) (m (Thread.loc (Dev.tc c) main_arg3)) (ix3 k i j) = b m c i (col k j) := by
  rw [← ref_b]; pointwise [val_main_v60, val_main_v59, val_main_v58]; rfl

theorem ref_apart_h (k : Fin 4) (i : Fin 4096) (j : Fin 704) :
    val_main_v63 (F := Ideal) (m (Thread.loc (Dev.tc c) main_arg0)) (m (Thread.loc (Dev.tc c) main_arg1)) (m (Thread.loc (Dev.tc c) main_arg2)) (m (Thread.loc (Dev.tc c) main_arg3)) (ix3 k i j) = Fwd.gate (a m c i (col k j)) (b m c i (col k j)) := by
  rw [← ref_h]; pointwise [val_main_v63, val_main_v62, val_main_v61]; rfl

theorem result7 : (dats m 0 c).arrAt 7 cfg0.N
    = val_main_v54 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (t : Fin cfg0.N) (y : S512x1024.Idx) (e : S4096x1024.Idx), e = ix2 (row t (y 0)) (y 1) →
      (dats m 0 c).after 7 t y = val_main_v54 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) e := by
    intro t y e he
    obtain ⟨r, l, rfl⟩ : ∃ (r : Fin 512) (l : Fin 1024), y = ix2 r l := ⟨y 0, y 1, eq_ix2 y⟩
    obtain rfl : e = ix2 (row t r) l := he
    rw [after0_7, ref_dy, dy_apply]
  refine (dats m 0 c).arrAt_eq_of_covers 7 _ (by decide +kernel) fun t _ y => ?_
  blk_simp
  refine point t y _ ?_
  unfold row
  blk_ext [idx t]

theorem result8 : (dats m 0 c).arrAt 8 cfg0.N
    = val_main_v57 (F := Ideal) (m (Thread.loc (Dev.tc c) main_arg0)) (m (Thread.loc (Dev.tc c) main_arg1)) (m (Thread.loc (Dev.tc c) main_arg2)) := by
  have point : ∀ (t : Fin cfg0.N) (y : S4x512x704.Idx) (e : S4x4096x704.Idx), e = ix3 (y 0) (row t (y 1)) (y 2) →
      (dats m 0 c).after 8 t y = val_main_v57 (F := Ideal) (m (Thread.loc (Dev.tc c) main_arg0)) (m (Thread.loc (Dev.tc c) main_arg1)) (m (Thread.loc (Dev.tc c) main_arg2)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_8, ref_apart_a, a_apply]
  refine (dats m 0 c).arrAt_eq_of_covers 8 _ (by decide +kernel) fun t _ y => ?_
  blk_simp
  refine point t y _ ?_
  unfold row
  blk_ext [idx t]

theorem result9 : (dats m 0 c).arrAt 9 cfg0.N
    = val_main_v60 (F := Ideal) (m (Thread.loc (Dev.tc c) main_arg0)) (m (Thread.loc (Dev.tc c) main_arg1)) (m (Thread.loc (Dev.tc c) main_arg3)) := by
  have point : ∀ (t : Fin cfg0.N) (y : S4x512x704.Idx) (e : S4x4096x704.Idx), e = ix3 (y 0) (row t (y 1)) (y 2) →
      (dats m 0 c).after 9 t y = val_main_v60 (F := Ideal) (m (Thread.loc (Dev.tc c) main_arg0)) (m (Thread.loc (Dev.tc c) main_arg1)) (m (Thread.loc (Dev.tc c) main_arg3)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_9, ref_apart_b, b_apply]
  refine (dats m 0 c).arrAt_eq_of_covers 9 _ (by decide +kernel) fun t _ y => ?_
  blk_simp
  refine point t y _ ?_
  unfold row
  blk_ext [idx t]

theorem result10 : (dats m 0 c).arrAt 10 cfg0.N
    = val_main_v63 (F := Ideal) (m (Thread.loc (Dev.tc c) main_arg0)) (m (Thread.loc (Dev.tc c) main_arg1)) (m (Thread.loc (Dev.tc c) main_arg2)) (m (Thread.loc (Dev.tc c) main_arg3)) := by
  have point : ∀ (t : Fin cfg0.N) (y : S4x512x704.Idx) (e : S4x4096x704.Idx), e = ix3 (y 0) (row t (y 1)) (y 2) →
      (dats m 0 c).after 10 t y = val_main_v63 (F := Ideal) (m (Thread.loc (Dev.tc c) main_arg0)) (m (Thread.loc (Dev.tc c) main_arg1)) (m (Thread.loc (Dev.tc c) main_arg2)) (m (Thread.loc (Dev.tc c) main_arg3)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_10, ref_apart_h, h_apply]
  refine (dats m 0 c).arrAt_eq_of_covers 10 _ (by decide +kernel) fun t _ y => ?_
  blk_simp
  refine point t y _ ?_
  unfold row
  blk_ext [idx t]

theorem result11 : (dats m 0 c).arrAt 11 cfg0.N
    = val_main_v18 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) := by
  have point : ∀ (t : Fin cfg0.N) (y : S512x1024.Idx) (e : S4096x1024.Idx), e = ix2 (row t (y 0)) (y 1) →
      (dats m 0 c).after 11 t y = val_main_v18 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) e := by
    intro t y e he
    obtain ⟨r, l, rfl⟩ : ∃ (r : Fin 512) (l : Fin 1024), y = ix2 r l := ⟨y 0, y 1, eq_ix2 y⟩
    obtain rfl : e = ix2 (row t r) l := he
    rw [after0_11, ref_f, f_apply]
  refine (dats m 0 c).arrAt_eq_of_covers 11 _ (by decide +kernel) fun t _ y => ?_
  blk_simp
  refine point t y _ ?_
  unfold row
  blk_ext [idx t]

theorem result12 : (dats m 0 c).arrAt 12 cfg0.N
    = val_main_v39 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) := by
  have point : ∀ (y u : S1x128.Idx), u = y → (outsAt0 m c t0_7.val t0_7.isLt).2.2.2.2.2 y = val_main_v39 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) u := by
    intro y u hu
    obtain ⟨l, hl⟩ : ∃ l : Fin 128, y = ix2 0 l := ⟨y 1, by rw [eq_ix2 y]; congr 1; exact Subsingleton.elim (α := Fin 1) _ _⟩
    rw [hu, hl, ref_s, s_apply]
  refine (dats m 0 c).arrAt_eq_of_covers 12 _ (by decide +kernel) fun t hf y => ?_
  have ht : t = t0_7 := (by decide +kernel : ∀ t : Fin grid0.N, win0_12.flush t = true → t = t0_7) t hf
  blk_simp
  rw [after0_12]
  subst ht
  refine point y _ ?_
  blk_ext [idx t0_7]

/-- Kernel and reference, from memories that agree on the arguments, end with equal results. -/
theorem algebraic : Cert.algebraic_LossIdeal_LossRefIdeal := by
  intro m ρ m' ρ' _ hag
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, Value.run_blocks m ρ, ?_⟩
  refine (θ_run Cert.LossRefIdeal.defs _ _).mono (fun r h c => ?_) (Cert.LossRefIdeal.Value.run (F := Ideal) m' ρ')
  obtain ⟨e0, e1, e2, e3, e4, e5, e6⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
  · have e := result7 m c
    rw [← e0, ← e1, ← e2, ← e3, ← e4, ← e5, ← e6] at e
    rw [Cert.LossRefIdeal.Read.val_main_v54_eq]; exact e.symm
  · have e := result8 m c
    rw [← e0, ← e1, ← e2] at e
    rw [Cert.LossRefIdeal.Read.val_main_v57_eq]; exact e.symm
  · have e := result9 m c
    rw [← e0, ← e1, ← e3] at e
    rw [Cert.LossRefIdeal.Read.val_main_v60_eq]; exact e.symm
  · have e := result10 m c
    rw [← e0, ← e1, ← e2, ← e3] at e
    rw [Cert.LossRefIdeal.Read.val_main_v63_eq]; exact e.symm
  · have e := result11 m c
    rw [← e0, ← e1, ← e2, ← e3, ← e4] at e
    rw [Cert.LossRefIdeal.Read.val_main_v18_eq]; exact e.symm
  · have e := result12 m c
    rw [← e0, ← e1, ← e2, ← e3, ← e4, ← e5, ← e6] at e
    rw [Cert.LossRefIdeal.Read.val_main_v39_eq]; exact e.symm

end Cert.LossIdeal.Proof

/-- The reference's frame: its run, read at the arguments; it declares no semaphore. -/
theorem Cert.LossRefIdeal.Proof.frame : Cert.quiescent_LossRefIdeal := fun m ρ _ =>
  (θ_run Cert.LossRefIdeal.defs _ _).mono (fun _ h => ⟨fun c => (h c).2.2.2.2.2.2, funext fun q => nomatch q⟩)
    (Cert.LossRefIdeal.Value.run (F := Ideal) m ρ)

end

end
-- ==== Proof.UpKernel.lean ====
/-
  The input half of a feed-forward block, as the kernel leaves it: its four result arrays at an index.
-/
module

public import proofs.«01_k».proof.Proof.Gen.UpIdeal.Value
public import proofs.«01_k».proof.Proof.Fwd
public import Idealize.ShloMosaic.Lib.Pipeline.ValueKit.Point

@[expose] public section

set_option maxRecDepth 16384

noncomputable section

namespace Cert.UpIdeal.Proof

open Cert.UpIdeal Cert.UpIdeal.Gen Idealize.ShloMosaic Idealize.ShloMosaic.TcCoe Idealize.SL.Sem
open Fwd (col)

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![0, 0, 0] ∧ win0_3.index t = ![0, 0, 0] ∧ win0_4.index t = ![t.val, 0]
    ∧ win0_5.index t = ![0, t.val, 0] ∧ win0_6.index t = ![0, t.val, 0] ∧ win0_7.index t = ![0, t.val, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- The norm from the arguments. -/
def n (c : Dev nD) (i : Fin 4096) (l : Fin 1024) : EReal :=
  Fwd.nrm (fun l => m (Thread.loc (Dev.tc c) main_arg0) (ix2 i l)) (fun l => m (Thread.loc (Dev.tc c) main_arg1) (ix2 0 l)) l

/-- The two products from the arguments. -/
def a (c : Dev nD) (i : Fin 4096) (j : Fin 2816) : EReal :=
  Fwd.prod (n m c i) (fun k l => m (Thread.loc (Dev.tc c) main_arg2) (ix2 k l)) j

def b (c : Dev nD) (i : Fin 4096) (j : Fin 2816) : EReal :=
  Fwd.prod (n m c i) (fun k l => m (Thread.loc (Dev.tc c) main_arg3) (ix2 k l)) j

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (r : Fin 1) (l : Fin 1024) :
    iblk m c 1 t (ix2 r l) = m (Thread.loc (Dev.tc c) main_arg1) (ix2 r l) := by
  blk_ext! [iblk, V, idx t]

theorem iblk2 (c : Dev nD) (t : Fin cfg0.N) (k : Fin 4) (j : Fin 704) (l : Fin 1024) :
    iblk m c 2 t (ix3 k j l) = m (Thread.loc (Dev.tc c) main_arg2) (ix2 l (col k j)) := by
  unfold col; blk_ext! [iblk, V, idx t]

theorem iblk3 (c : Dev nD) (t : Fin cfg0.N) (k : Fin 4) (j : Fin 704) (l : Fin 1024) :
    iblk m c 3 t (ix3 k j l) = m (Thread.loc (Dev.tc c) main_arg3) (ix2 l (col k j)) := by
  unfold col; blk_ext! [iblk, V, idx t]

/-- The norm at a grid point. -/
theorem n_pay (c : Dev nD) (t : Fin cfg0.N) (r : Fin 512) (l : Fin 1024) :
    k0_pay2 (iblk m c 0 t) (iblk m c 1 t) (ix2 r l) = n m c (row t r) l := by
  pointwise [k0_pay2]
  simp only [iblk0, iblk1, Reals.czero, EReal.coe_zero, zero_add]
  rfl

/-- A local index of a slot's piece. -/
theorem local_eq {r : Fin 512} {j : Fin 704} {x : S1x512x704.Idx} (h1 : (r : Nat) = x 1) (h2 : (j : Nat) = x 2) :
    x = ix3 0 r j := by
  rw [eq_ix3 x]
  exact congrArg₂ (fun a b => ix3 a b (x 2)) (Subsingleton.elim (α := Fin 1) _ _) (Fin.ext h1.symm : x 1 = r) |>.trans
    (congrArg (ix3 0 r) (Fin.ext h2.symm : x 2 = j))

/-- The first result at an index. -/
theorem n_apply (c : Dev nD) (t : Fin cfg0.N) (r : Fin 512) (l : Fin 1024) :
    out0_4 (iblk m c 0 t) (iblk m c 1 t) (iblk m c 2 t) (iblk m c 3 t) (ix2 r l) = n m c (row t r) l := by
  rw [← n_pay]; unfold out0_4; frame_out

/-- The second result at an index, slot by slot. -/
theorem a_apply (c : Dev nD) (t : Fin cfg0.N) (k : Fin 4) (r : Fin 512) (j : Fin 704) :
    out0_5 (iblk m c 0 t) (iblk m c 1 t) (iblk m c 2 t) (iblk m c 3 t) (ix3 k r j) = a m c (row t r) (col k j) := by
  unfold_out out0_5
  frame_out
  canon_tiles x hx
  case' piece0 => obtain rfl : k = 3 := Fin.ext (by change (k : Nat) = _ at hx0; omega)
  case' piece1 => obtain rfl : k = 2 := Fin.ext (by change (k : Nat) = _ at hx0; omega)
  case' piece2 => obtain rfl : k = 1 := Fin.ext (by change (k : Nat) = _ at hx0; omega)
  case' piece3 => obtain rfl : k = 0 := Fin.ext (by change (k : Nat) = _ at hx0; omega)
  all_goals
    obtain rfl : x = ix3 0 r j := local_eq hx1 hx2
    pointwise [k0_pay3, k0_pay5, k0_pay9, k0_pay11, k0_pay14, k0_pay16, k0_pay19, k0_pay21]
    simp only [iblk2, n_pay, Reals.czero, EReal.coe_zero, zero_add]
    rfl

/-- The third result at an index, slot by slot. -/
theorem b_apply (c : Dev nD) (t : Fin cfg0.N) (k : Fin 4) (r : Fin 512) (j : Fin 704) :
    out0_6 (iblk m c 0 t) (iblk m c 1 t) (iblk m c 2 t) (iblk m c 3 t) (ix3 k r j) = b m c (row t r) (col k j) := by
  unfold_out out0_6
  frame_out
  canon_tiles x hx
  case' piece0 => obtain rfl : k = 3 := Fin.ext (by change (k : Nat) = _ at hx0; omega)
  case' piece1 => obtain rfl : k = 2 := Fin.ext (by change (k : Nat) = _ at hx0; omega)
  case' piece2 => obtain rfl : k = 1 := Fin.ext (by change (k : Nat) = _ at hx0; omega)
  case' piece3 => obtain rfl : k = 0 := Fin.ext (by change (k : Nat) = _ at hx0; omega)
  all_goals
    obtain rfl : x = ix3 0 r j := local_eq hx1 hx2
    pointwise [k0_pay4, k0_pay6, k0_pay10, k0_pay12, k0_pay15, k0_pay17, k0_pay20, k0_pay22]
    simp only [iblk3, n_pay, Reals.czero, EReal.coe_zero, zero_add]
    rfl

/-- The fourth result at an index, slot by slot. -/
theorem h_apply (c : Dev nD) (t : Fin cfg0.N) (k : Fin 4) (r : Fin 512) (j : Fin 704) :
    out0_7 (iblk m c 0 t) (iblk m c 1 t) (iblk m c 2 t) (iblk m c 3 t) (ix3 k r j)
      = Fwd.gate (a m c (row t r) (col k j)) (b m c (row t r) (col k j)) := by
  unfold_out out0_7
  frame_out
  canon_tiles x hx
  case' piece0 => obtain rfl : k = 3 := Fin.ext (by change (k : Nat) = _ at hx0; omega)
  case' piece1 => obtain rfl : k = 2 := Fin.ext (by change (k : Nat) = _ at hx0; omega)
  case' piece2 => obtain rfl : k = 1 := Fin.ext (by change (k : Nat) = _ at hx0; omega)
  case' piece3 => obtain rfl : k = 0 := Fin.ext (by change (k : Nat) = _ at hx0; omega)
  all_goals
    obtain rfl : x = ix3 0 r j := local_eq hx1 hx2
    pointwise [k0_pay1, k0_pay3, k0_pay4, k0_pay7, k0_pay8, k0_pay9, k0_pay10, k0_pay13, k0_pay14, k0_pay15, k0_pay18, k0_pay19, k0_pay20]
    simp only [iblk2, iblk3, n_pay, Reals.czero, EReal.coe_zero, zero_add]
    rfl

end Cert.UpIdeal.Proof

end

end
-- ==== Proof.UpClaim.lean ====
/-
  The input half of a feed-forward block: kernel and reference end with the same arrays.
-/
module

public import proofs.«01_k».proof.Defs
public import proofs.«01_k».proof.Proof.UpKernel
public import proofs.«01_k».proof.Proof.Gen.UpRefIdeal.Run
public import proofs.«01_k».proof.Proof.Gen.UpRefIdeal.Read

@[expose] public section

set_option maxRecDepth 16384

noncomputable section

open Idealize.ShloMosaic Idealize.SL.Sem

namespace Cert.UpIdeal.Proof

open Cert.UpIdeal Cert.UpIdeal.Gen Idealize.ShloMosaic Idealize.ShloMosaic.TcCoe Idealize.SL.Sem
open Cert.UpRefIdeal.Read
open Fwd (col)

variable (m : (ℓ : Loc nD τ sig) → Buf (Elt Ideal) ℓ) (c : Dev nD)

/-- The reference's norm at an index. -/
theorem ref_n (i : Fin 4096) (l : Fin 1024) :
    val_main_v13 (F := Ideal) (m (Thread.loc (Dev.tc c) main_arg0)) (m (Thread.loc (Dev.tc c) main_arg1)) (ix2 i l) = n m c i l := by
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

/-- The reference's products at an index. -/
theorem ref_a (i : Fin 4096) (j : Fin 2816) :
    val_main_v14 (F := Ideal) (m (Thread.loc (Dev.tc c) main_arg0)) (m (Thread.loc (Dev.tc c) main_arg1)) (m (Thread.loc (Dev.tc c) main_arg2)) (ix2 i j) = a m c i j := by
  pointwise [val_main_v14]
  simp only [ref_n]
  rfl

theorem ref_b (i : Fin 4096) (j : Fin 2816) :
    val_main_v15 (F := Ideal) (m (Thread.loc (Dev.tc c) main_arg0)) (m (Thread.loc (Dev.tc c) main_arg1)) (m (Thread.loc (Dev.tc c) main_arg3)) (ix2 i j) = b m c i j := by
  pointwise [val_main_v15]
  simp only [ref_n]
  rfl

/-- The reference's gate at an index. -/
theorem ref_h (i : Fin 4096) (j : Fin 2816) :
    val_main_v24 (F := Ideal) (m (Thread.loc (Dev.tc c) main_arg0)) (m (Thread.loc (Dev.tc c) main_arg1)) (m (Thread.loc (Dev.tc c) main_arg2)) (m (Thread.loc (Dev.tc c) main_arg3)) (ix2 i j) = Fwd.gate (a m c i j) (b m c i j) := by
  pointwise [val_main_v24, val_main_v23, val_main_call0_v5, val_main_call0_v4, val_main_call0_cst_0, val_main_call0_v3, val_main_call0_v2, val_main_call0_cst, val_main_call0_v1, val_main_call0_v0]
  simp only [ref_a, ref_b, Fwd.sigmoid]
  rfl

/-- The reference's arrays slot by slot. -/
theorem ref_apart_a (k : Fin 4) (i : Fin 4096) (j : Fin 704) :
    val_main_v19 (F := Ideal) (m (Thread.loc (Dev.tc c) main_arg0)) (m (Thread.loc (Dev.tc c) main_arg1)) (m (Thread.loc (Dev.tc c) main_arg2)) (ix3 k i j) = a m c i (col k j) := by
  rw [← ref_a]; pointwise [val_main_v19, val_main_v18, val_main_v17]; rfl

theorem ref_apart_b (k : Fin 4) (i : Fin 4096) (j : Fin 704) :
    val_main_v22 (F := Ideal) (m (Thread.loc (Dev.tc c) main_arg0)) (m (Thread.loc (Dev.tc c) main_arg1)) (m (Thread.loc (Dev.tc c) main_arg3)) (ix3 k i j) = b m c i (col k j) := by
  rw [← ref_b]; pointwise [val_main_v22, val_main_v21, val_main_v20]; rfl

theorem ref_apart_h (k : Fin 4) (i : Fin 4096) (j : Fin 704) :
    val_main_v27 (F := Ideal) (m (Thread.loc (Dev.tc c) main_arg0)) (m (Thread.loc (Dev.tc c) main_arg1)) (m (Thread.loc (Dev.tc c) main_arg2)) (m (Thread.loc (Dev.tc c) main_arg3)) (ix3 k i j) = Fwd.gate (a m c i (col k j)) (b m c i (col k j)) := by
  rw [← ref_h]; pointwise [val_main_v27, val_main_v26, val_main_v25]; rfl

/-- The reference's first array at an index. -/
theorem ref_n' (i : Fin 4096) (l : Fin 1024) :
    val_main_v16 (F := Ideal) (m (Thread.loc (Dev.tc c) main_arg0)) (m (Thread.loc (Dev.tc c) main_arg1)) (ix2 i l) = n m c i l := by
  rw [← ref_n]; pointwise [val_main_v16]

theorem result4 : (dats m 0 c).arrAt 4 cfg0.N
    = val_main_v16 (F := Ideal) (m (Thread.loc (Dev.tc c) main_arg0)) (m (Thread.loc (Dev.tc c) main_arg1)) := by
  have point : ∀ (t : Fin cfg0.N) (y : S512x1024.Idx) (e : S4096x1024.Idx), e = ix2 (row t (y 0)) (y 1) →
      (dats m 0 c).after 4 t y = val_main_v16 (F := Ideal) (m (Thread.loc (Dev.tc c) main_arg0)) (m (Thread.loc (Dev.tc c) main_arg1)) e := by
    intro t y e he
    obtain ⟨r, l, rfl⟩ : ∃ (r : Fin 512) (l : Fin 1024), y = ix2 r l := ⟨y 0, y 1, eq_ix2 y⟩
    obtain rfl : e = ix2 (row t r) l := he
    rw [after0_4, ref_n', n_apply]
  refine (dats m 0 c).arrAt_eq_of_covers 4 _ (by decide +kernel) fun t _ y => ?_
  blk_simp
  refine point t y _ ?_
  unfold row
  blk_ext [idx t]

theorem result5 : (dats m 0 c).arrAt 5 cfg0.N
    = val_main_v19 (F := Ideal) (m (Thread.loc (Dev.tc c) main_arg0)) (m (Thread.loc (Dev.tc c) main_arg1)) (m (Thread.loc (Dev.tc c) main_arg2)) := by
  have point : ∀ (t : Fin cfg0.N) (y : S4x512x704.Idx) (e : S4x4096x704.Idx), e = ix3 (y 0) (row t (y 1)) (y 2) →
      (dats m 0 c).after 5 t y = val_main_v19 (F := Ideal) (m (Thread.loc (Dev.tc c) main_arg0)) (m (Thread.loc (Dev.tc c) main_arg1)) (m (Thread.loc (Dev.tc c) main_arg2)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_5, ref_apart_a, a_apply]
  refine (dats m 0 c).arrAt_eq_of_covers 5 _ (by decide +kernel) fun t _ y => ?_
  blk_simp
  refine point t y _ ?_
  unfold row
  blk_ext [idx t]

theorem result6 : (dats m 0 c).arrAt 6 cfg0.N
    = val_main_v22 (F := Ideal) (m (Thread.loc (Dev.tc c) main_arg0)) (m (Thread.loc (Dev.tc c) main_arg1)) (m (Thread.loc (Dev.tc c) main_arg3)) := by
  have point : ∀ (t : Fin cfg0.N) (y : S4x512x704.Idx) (e : S4x4096x704.Idx), e = ix3 (y 0) (row t (y 1)) (y 2) →
      (dats m 0 c).after 6 t y = val_main_v22 (F := Ideal) (m (Thread.loc (Dev.tc c) main_arg0)) (m (Thread.loc (Dev.tc c) main_arg1)) (m (Thread.loc (Dev.tc c) main_arg3)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_6, ref_apart_b, b_apply]
  refine (dats m 0 c).arrAt_eq_of_covers 6 _ (by decide +kernel) fun t _ y => ?_
  blk_simp
  refine point t y _ ?_
  unfold row
  blk_ext [idx t]

theorem result7 : (dats m 0 c).arrAt 7 cfg0.N
    = val_main_v27 (F := Ideal) (m (Thread.loc (Dev.tc c) main_arg0)) (m (Thread.loc (Dev.tc c) main_arg1)) (m (Thread.loc (Dev.tc c) main_arg2)) (m (Thread.loc (Dev.tc c) main_arg3)) := by
  have point : ∀ (t : Fin cfg0.N) (y : S4x512x704.Idx) (e : S4x4096x704.Idx), e = ix3 (y 0) (row t (y 1)) (y 2) →
      (dats m 0 c).after 7 t y = val_main_v27 (F := Ideal) (m (Thread.loc (Dev.tc c) main_arg0)) (m (Thread.loc (Dev.tc c) main_arg1)) (m (Thread.loc (Dev.tc c) main_arg2)) (m (Thread.loc (Dev.tc c) main_arg3)) e := by
    intro t y e he
    obtain ⟨k, r, j, rfl⟩ : ∃ (k : Fin 4) (r : Fin 512) (j : Fin 704), y = ix3 k r j := ⟨y 0, y 1, y 2, eq_ix3 y⟩
    obtain rfl : e = ix3 k (row t r) j := he
    rw [after0_7, ref_apart_h, h_apply]
  refine (dats m 0 c).arrAt_eq_of_covers 7 _ (by decide +kernel) fun t _ y => ?_
  blk_simp
  refine point t y _ ?_
  unfold row
  blk_ext [idx t]

/-- Kernel and reference, from memories that agree on the arguments, end with equal results. -/
theorem algebraic : Cert.algebraic_UpIdeal_UpRefIdeal := by
  intro m ρ m' ρ' _ hag
  refine ⟨fun c => (dats m 0 c).arrAt 4 cfg0.N, fun c => (dats m 0 c).arrAt 5 cfg0.N, fun c => (dats m 0 c).arrAt 6 cfg0.N, fun c => (dats m 0 c).arrAt 7 cfg0.N, Value.run_blocks m ρ, ?_⟩
  refine (θ_run Cert.UpRefIdeal.defs _ _).mono (fun r h c => ?_) (Cert.UpRefIdeal.Value.run (F := Ideal) m' ρ')
  obtain ⟨e0, e1, e2, e3⟩ := hag c
  refine ⟨(h c).1.trans ?_, (h c).2.1.trans ?_, (h c).2.2.1.trans ?_, (h c).2.2.2.1.trans ?_, (h c).2.2.2.2⟩
  · have e := result4 m c
    rw [← e0, ← e1] at e
    rw [Cert.UpRefIdeal.Read.val_main_v16_eq]; exact e.symm
  · have e := result5 m c
    rw [← e0, ← e1, ← e2] at e
    rw [Cert.UpRefIdeal.Read.val_main_v19_eq]; exact e.symm
  · have e := result6 m c
    rw [← e0, ← e1, ← e3] at e
    rw [Cert.UpRefIdeal.Read.val_main_v22_eq]; exact e.symm
  · have e := result7 m c
    rw [← e0, ← e1, ← e2, ← e3] at e
    rw [Cert.UpRefIdeal.Read.val_main_v27_eq]; exact e.symm

end Cert.UpIdeal.Proof

/-- The reference's frame: its run, read at the arguments; it declares no semaphore. -/
theorem Cert.UpRefIdeal.Proof.frame : Cert.quiescent_UpRefIdeal := fun m ρ _ =>
  (θ_run Cert.UpRefIdeal.defs _ _).mono (fun _ h => ⟨fun c => (h c).2.2.2.2, funext fun q => nomatch q⟩)
    (Cert.UpRefIdeal.Value.run (F := Ideal) m ρ)

end

end
-- ==== Proof.DownKernel.lean ====
/-
  The output half of a feed-forward block, as the kernel leaves it: its two result arrays at an index.
-/
module

public import proofs.«01_k».proof.Proof.Gen.DownIdeal.Value
public import proofs.«01_k».proof.Proof.Fwd
public import Idealize.ShloMosaic.Lib.Pipeline.ValueKit.Point

@[expose] public section

set_option maxRecDepth 16384

noncomputable section

namespace Cert.DownIdeal.Proof

open Cert.DownIdeal Cert.DownIdeal.Gen Idealize.ShloMosaic Idealize.ShloMosaic.TcCoe Idealize.SL.Sem
open Fwd (col)

variable (m : (ℓ : Loc nD τ sig) → Buf (Elt Ideal) ℓ)

/-- Where each window's block lies at a grid point. -/
theorem idx : ∀ t : Fin cfg0.N, win0_0.index t = ![t.val, 0] ∧ win0_1.index t = ![0, t.val, 0]
    ∧ win0_2.index t = ![0, 0, 0] ∧ win0_3.index t = ![0, 0] ∧ win0_4.index t = ![t.val, 0] ∧ win0_5.index t = ![t.val, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- The output product from the arguments. -/
def f (c : Dev nD) (i : Fin 4096) (l : Fin 1024) : EReal :=
  Fwd.prod (fun k => m (Thread.loc (Dev.tc c) main_arg1) (ix2 i k)) (fun k l => m (Thread.loc (Dev.tc c) main_arg2) (ix2 k l)) l

/-- The block's result from the arguments. -/
def h (c : Dev nD) (i : Fin 4096) (l : Fin 1024) : EReal :=
  Fwd.half (m (Thread.loc (Dev.tc c) main_arg0) (ix2 i l))
    (Fwd.nrm (f m c i) (fun l => m (Thread.loc (Dev.tc c) main_arg3) (ix2 0 l)) l)

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (k : Fin 4) (r : Fin 512) (j : Fin 704) :
    iblk m c 1 t (ix3 k r j) = m (Thread.loc (Dev.tc c) main_arg1) (ix2 (row t r) (col k j)) := by
  unfold row col; blk_ext! [iblk, V, idx t]

theorem iblk2 (c : Dev nD) (t : Fin cfg0.N) (k : Fin 4) (j : Fin 704) (l : Fin 1024) :
    iblk m c 2 t (ix3 k j l) = m (Thread.loc (Dev.tc c) main_arg2) (ix2 (col k j) l) := by
  unfold col; blk_ext! [iblk, V, idx t]

theorem iblk3 (c : Dev nD) (t : Fin cfg0.N) (r : Fin 1) (l : Fin 1024) :
    iblk m c 3 t (ix2 r l) = m (Thread.loc (Dev.tc c) main_arg3) (ix2 r l) := by
  blk_ext! [iblk, V, idx t]

/-- The output product as the body sums it at a grid point. -/
def fsum (c : Dev nD) (t : Fin cfg0.N) : FVec Ideal S512x1024 .f32 :=
  k0_pay2 (View.ld (iblk m c 1 t) r0_0) (View.ld (iblk m c 2 t) r0_1) (View.ld (iblk m c 1 t) r0_2) (View.ld (iblk m c 2 t) r0_3)
    (View.ld (iblk m c 1 t) r0_4) (View.ld (iblk m c 2 t) r0_5) (View.ld (iblk m c 1 t) r0_6) (View.ld (iblk m c 2 t) r0_7)

theorem fsum_apply (c : Dev nD) (t : Fin cfg0.N) (r : Fin 512) (l : Fin 1024) : fsum m c t (ix2 r l) = f m c (row t r) l := by
  unfold fsum
  pointwise [k0_pay2]
  simp only [iblk1, iblk2]
  exact Fwd.slots fun k => HMul.hMul (α := EReal) (β := EReal) (γ := EReal) (m (Thread.loc (Dev.tc c) main_arg1) (ix2 (row t r) k))
    (m (Thread.loc (Dev.tc c) main_arg2) (ix2 k l))

/-- The second result at an index. -/
theorem f_apply (c : Dev nD) (t : Fin cfg0.N) (r : Fin 512) (l : Fin 1024) :
    out0_5 (iblk m c 0 t) (iblk m c 1 t) (iblk m c 2 t) (iblk m c 3 t) (ix2 r l) = f m c (row t r) l := by
  rw [← fsum_apply]
  unfold out0_5
  frame_out
  rfl

/-- The first result at an index. -/
theorem h_apply (c : Dev nD) (t : Fin cfg0.N) (r : Fin 512) (l : Fin 1024) :
    out0_4 (iblk m c 0 t) (iblk m c 1 t) (iblk m c 2 t) (iblk m c 3 t) (ix2 r l) = h m c (row t r) l := by
  have e : out0_4 (iblk m c 0 t) (iblk m c 1 t) (iblk m c 2 t) (iblk m c 3 t)
      = k0_pay1 (fsum m c t) (iblk m c 0 t) (iblk m c 3 t) := by
    unfold out0_4
    frame_out
    rfl
  rw [e]
  pointwise [k0_pay1]
  simp only [iblk0, iblk3, fsum_apply]
  rfl

end Cert.DownIdeal.Proof

end

end
-- ==== Proof.DownClaim.lean ====
/-
  The output half of a feed-forward block: kernel and reference end with the same arrays.
-/
module

public import proofs.«01_k».proof.Defs
public import proofs.«01_k».proof.Proof.DownKernel
public import proofs.«01_k».proof.Proof.Gen.DownRefIdeal.Run
public import proofs.«01_k».proof.Proof.Gen.DownRefIdeal.Read

@[expose] public section

set_option maxRecDepth 16384

noncomputable section

open Idealize.ShloMosaic Idealize.SL.Sem

namespace Cert.DownIdeal.Proof

open Cert.DownIdeal Cert.DownIdeal.Gen Idealize.ShloMosaic Idealize.ShloMosaic.TcCoe Idealize.SL.Sem
open Cert.DownRefIdeal.Read

variable (m : (ℓ : Loc nD τ sig) → Buf (Elt Ideal) ℓ) (c : Dev nD)

/-- The reference's second array at an index. -/
theorem ref_f (i : Fin 4096) (l : Fin 1024) :
    val_main_v1 (F := Ideal) (m (Thread.loc (Dev.tc c) main_arg1)) (m (Thread.loc (Dev.tc c) main_arg2)) (ix2 i l) = f m c i l := by
  pointwise [val_main_v1, val_main_v0]
  rfl

/-- The reference's first array at an index. -/
theorem ref_h (i : Fin 4096) (l : Fin 1024) :
    val_main_v18 (F := Ideal) (m (Thread.loc (Dev.tc c) main_arg0)) (m (Thread.loc (Dev.tc c) main_arg1))
      (m (Thread.loc (Dev.tc c) main_arg2)) (m (Thread.loc (Dev.tc c) main_arg3)) (ix2 i l) = h m c i l := by
  pointwise [val_main_v18, val_main_v17, val_main_v16, val_main_cst_2, val_main_v15, val_main_v14, val_main_v13, val_main_v12, val_main_v11, val_main_v10, val_main_v9, val_main_v8, val_main_cst_1, val_main_v7, val_main_v6, val_main_cst_0, val_main_v5, val_main_v4, val_main_cst, val_main_v3, val_main_v2]
  simp only [ref_f, Reals.czero, EReal.coe_zero, zero_add]
  rfl

theorem result4 : (dats m 0 c).arrAt 4 cfg0.N
    = val_main_v18 (F := Ideal) (m (Thread.loc (Dev.tc c) main_arg0)) (m (Thread.loc (Dev.tc c) main_arg1))
      (m (Thread.loc (Dev.tc c) main_arg2)) (m (Thread.loc (Dev.tc c) main_arg3)) := by
  have point : ∀ (t : Fin cfg0.N) (y : S512x1024.Idx) (e : S4096x1024.Idx), e = ix2 (row t (y 0)) (y 1) →
      out0_4 (iblk m c 0 t) (iblk m c 1 t) (iblk m c 2 t) (iblk m c 3 t) y
        = val_main_v18 (F := Ideal) (m (Thread.loc (Dev.tc c) main_arg0)) (m (Thread.loc (Dev.tc c) main_arg1))
          (m (Thread.loc (Dev.tc c) main_arg2)) (m (Thread.loc (Dev.tc c) main_arg3)) e := by
    intro t y e he
    obtain ⟨r, l, rfl⟩ : ∃ (r : Fin 512) (l : Fin 1024), y = ix2 r l := ⟨y 0, y 1, eq_ix2 y⟩
    obtain rfl : e = ix2 (row t r) l := he
    rw [ref_h, h_apply]
  refine (dats m 0 c).arrAt_eq_of_covers 4 _ (by decide +kernel) fun t _ y => ?_
  blk_simp
  rw [after0_4]
  refine point t y _ ?_
  unfold row
  blk_ext [idx t]

theorem result5 : (dats m 0 c).arrAt 5 cfg0.N
    = val_main_v1 (F := Ideal) (m (Thread.loc (Dev.tc c) main_arg1)) (m (Thread.loc (Dev.tc c) main_arg2)) := by
  have point : ∀ (t : Fin cfg0.N) (y : S512x1024.Idx) (e : S4096x1024.Idx), e = ix2 (row t (y 0)) (y 1) →
      out0_5 (iblk m c 0 t) (iblk m c 1 t) (iblk m c 2 t) (iblk m c 3 t) y
        = val_main_v1 (F := Ideal) (m (Thread.loc (Dev.tc c) main_arg1)) (m (Thread.loc (Dev.tc c) main_arg2)) e := by
    intro t y e he
    obtain ⟨r, l, rfl⟩ : ∃ (r : Fin 512) (l : Fin 1024), y = ix2 r l := ⟨y 0, y 1, eq_ix2 y⟩
    obtain rfl : e = ix2 (row t r) l := he
    rw [ref_f, f_apply]
  refine (dats m 0 c).arrAt_eq_of_covers 5 _ (by decide +kernel) fun t _ y => ?_
  blk_simp
  rw [after0_5]
  refine point t y _ ?_
  unfold row
  blk_ext [idx t]

/-- Kernel and reference, from memories that agree on the arguments, end with equal results. -/
theorem algebraic : Cert.algebraic_DownIdeal_DownRefIdeal := by
  intro m ρ m' ρ' _ hag
  refine ⟨fun c => (dats m 0 c).arrAt 4 cfg0.N, fun c => (dats m 0 c).arrAt 5 cfg0.N, Value.run_blocks m ρ, ?_⟩
  refine (θ_run Cert.DownRefIdeal.defs _ _).mono (fun r h c => ?_) (Cert.DownRefIdeal.Value.run (F := Ideal) m' ρ')
  obtain ⟨e0, e1, e2, e3⟩ := hag c
  refine ⟨(h c).1.trans ?_, (h c).2.1.trans ?_, (h c).2.2⟩
  · have e := result4 m c
    rw [← e0, ← e1, ← e2, ← e3] at e
    rw [Cert.DownRefIdeal.Read.val_main_v18_eq]; exact e.symm
  · have e := result5 m c
    rw [← e1, ← e2] at e
    rw [Cert.DownRefIdeal.Read.val_main_v1_eq]; exact e.symm

end Cert.DownIdeal.Proof

/-- The reference's frame: its run, read at the arguments; it declares no semaphore. -/
theorem Cert.DownRefIdeal.Proof.frame : Cert.quiescent_DownRefIdeal := fun m ρ _ =>
  (θ_run Cert.DownRefIdeal.defs _ _).mono (fun _ h => ⟨fun c => (h c).2.2, funext fun q => nomatch q⟩)
    (Cert.DownRefIdeal.Value.run (F := Ideal) m ρ)

end

end
-- ==== Proof.ProjKernel.lean ====
/-
  The mixer's pre-norm, its two input products and its gates, as the kernel leaves them: its seven result arrays at an
  index.
-/
module

public import proofs.«01_k».proof.Proof.Gen.ProjIdeal.Value
public import proofs.«01_k».proof.Proof.Fwd
public import Idealize.ShloMosaic.Lib.Pipeline.ValueKit.Point

@[expose] public section

set_option maxRecDepth 16384

noncomputable section

namespace Cert.ProjIdeal.Proof

open Cert.ProjIdeal Cert.ProjIdeal.Gen Idealize.ShloMosaic Idealize.ShloMosaic.TcCoe Idealize.SL.Sem

variable (m : (ℓ : Loc nD τ sig) → Buf (Elt Ideal) ℓ)

/-- Where each window's block lies at a grid point. -/
theorem idx : ∀ t : Fin cfg0.N, win0_0.index t = ![t.val, 0] ∧ win0_1.index t = ![0, 0]
    ∧ win0_2.index t = ![0, 0, 0] ∧ win0_3.index t = ![0, 0, 0] ∧ win0_4.index t = ![0, 0]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0]
    ∧ win0_11.index t = ![t.val, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- Column `j` of slot `k` of the input product and of the gates. -/
def col (k : Fin 4) (j : Fin 896) : Fin 3584 := ⟨k.val * 896 + j.val, by omega⟩

def gcol (k : Fin 4) (j : Fin 512) : Fin 2048 := ⟨k.val * 512 + j.val, by omega⟩

/-- The norm, the input product and the gates from the arguments. -/
def n (c : Dev nD) (i : Fin 4096) (l : Fin 1024) : EReal :=
  Fwd.nrm (fun l => m (Thread.loc (Dev.tc c) main_arg0) (ix2 i l)) (fun l => m (Thread.loc (Dev.tc c) main_arg1) (ix2 0 l)) l

def p (c : Dev nD) (i : Fin 4096) (j : Fin 3584) : EReal :=
  Fwd.prod (n m c i) (fun k l => m (Thread.loc (Dev.tc c) main_arg2) (ix2 k l)) j

def g (c : Dev nD) (i : Fin 4096) (j : Fin 2048) : EReal :=
  Ideal.logistic (Fwd.add (Fwd.prod (n m c i) (fun k l => m (Thread.loc (Dev.tc c) main_arg3) (ix2 k l)) j)
    (m (Thread.loc (Dev.tc c) main_arg4) (ix2 0 j)))

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (r : Fin 1) (l : Fin 1024) :
    iblk m c 1 t (ix2 r l) = m (Thread.loc (Dev.tc c) main_arg1) (ix2 r l) := by
  blk_ext! [iblk, V, idx t]

theorem iblk2 (c : Dev nD) (t : Fin cfg0.N) (k : Fin 4) (l : Fin 1024) (j : Fin 896) :
    iblk m c 2 t (ix3 k l j) = m (Thread.loc (Dev.tc c) main_arg2) (ix2 l (col k j)) := by
  unfold col; blk_ext! [iblk, V, idx t]

theorem iblk3 (c : Dev nD) (t : Fin cfg0.N) (k : Fin 4) (l : Fin 1024) (j : Fin 512) :
    iblk m c 3 t (ix3 k l j) = m (Thread.loc (Dev.tc c) main_arg3) (ix2 l (gcol k j)) := by
  unfold gcol; blk_ext! [iblk, V, idx t]

theorem iblk4 (c : Dev nD) (t : Fin cfg0.N) (r : Fin 1) (j : Fin 2048) :
    iblk m c 4 t (ix2 r j) = m (Thread.loc (Dev.tc c) main_arg4) (ix2 r j) := by
  blk_ext! [iblk, V, idx t]

/-- The norm at a grid point. -/
theorem n_pay (c : Dev nD) (t : Fin cfg0.N) (r : Fin 512) (l : Fin 1024) :
    k0_pay4 (iblk m c 0 t) (iblk m c 1 t) (ix2 r l) = n m c (row t r) l := by
  pointwise [k0_pay4]
  simp only [iblk0, iblk1]
  rfl

/-- The first result at an index. -/
theorem n_apply (c : Dev nD) (t : Fin cfg0.N) (r : Fin 512) (l : Fin 1024) :
    (outsAt0 m c t).1 (ix2 r l) = n m c (row t r) l := by
  rw [← n_pay]; unfold outsAt0; frame_out

/-- A product at a slot's column. -/
theorem p_at (c : Dev nD) (i : Fin 4096) (k : Fin 4) (j : Fin 896) {l : Fin 3584} (h : l.val = k.val * 896 + j.val) :
    Fwd.prod (n m c i) (fun k l => m (Thread.loc (Dev.tc c) main_arg2) (ix2 k l)) (col k j) = p m c i l := by
  obtain rfl : l = col k j := Fin.ext h
  rfl

/-- The second result at an index: the queries' columns. -/
theorem q_apply (c : Dev nD) (t : Fin cfg0.N) (r : Fin 512) (l : Fin 1024) :
    (outsAt0 m c t).2.1 (ix2 r l) = p m c (row t r) ⟨0 + l.val, by omega⟩ := by
  unfold outsAt0
  frame_out
  canon_tiles x hx using View.cover_of_tiledBy _ ![512, 128] (by sl_kernel_rfl) _
  case piece0 =>
    obtain ⟨r', j, rfl⟩ : ∃ (r' : Fin 512) (j : Fin 128), x = ix2 r' j := ⟨x 0, x 1, eq_ix2 x⟩
    obtain rfl : r = r' := Fin.ext hx0
    have hl : (l : Nat) = 896 + (j : Nat) := hx1
    have hj : 0 + (l : Nat) = 1 * 896 + ((j : Nat)) := by omega
    rw [← p_at m c (row t r) 1 ⟨j, by omega⟩ hj]
    pointwise [k0_pay5, k0_pay6, k0_pay7, k0_pay8, k0_pay9, k0_pay10, k0_pay11, k0_pay12, k0_pay13, k0_pay14]
    simp only [iblk2, n_pay]
    rfl
  case piece1 =>
    obtain ⟨r', j, rfl⟩ : ∃ (r' : Fin 512) (j : Fin 896), x = ix2 r' j := ⟨x 0, x 1, eq_ix2 x⟩
    obtain rfl : r = r' := Fin.ext hx0
    have hl : (l : Nat) = (j : Nat) := hx1
    have hj : 0 + (l : Nat) = 0 * 896 + ((j : Nat)) := by omega
    rw [← p_at m c (row t r) 0 ⟨j, by omega⟩ hj]
    pointwise [k0_pay5, k0_pay6, k0_pay7, k0_pay8, k0_pay9, k0_pay10, k0_pay11, k0_pay12, k0_pay13, k0_pay14]
    simp only [iblk2, n_pay]
    rfl

/-- The third result at an index. -/
theorem k_apply (c : Dev nD) (t : Fin cfg0.N) (r : Fin 512) (l : Fin 256) :
    (outsAt0 m c t).2.2.1 (ix2 r l) = p m c (row t r) ⟨1024 + l.val, by omega⟩ := by
  unfold outsAt0
  frame_out
  have hl : 1024 + (l : Nat) = 1 * 896 + (128 + (l : Nat)) := by omega
  rw [← p_at m c (row t r) 1 ⟨128 + l, by omega⟩ hl]
  pointwise [k0_pay5, k0_pay6, k0_pay7, k0_pay8, k0_pay9, k0_pay10, k0_pay11, k0_pay12, k0_pay13, k0_pay14]
  simp only [iblk2, n_pay]
  rfl

/-- The fourth result at an index. -/
theorem v_apply (c : Dev nD) (t : Fin cfg0.N) (r : Fin 512) (l : Fin 256) :
    (outsAt0 m c t).2.2.2.1 (ix2 r l) = p m c (row t r) ⟨1280 + l.val, by omega⟩ := by
  unfold outsAt0
  frame_out
  have hl : 1280 + (l : Nat) = 1 * 896 + (384 + (l : Nat)) := by omega
  rw [← p_at m c (row t r) 1 ⟨384 + l, by omega⟩ hl]
  pointwise [k0_pay5, k0_pay6, k0_pay7, k0_pay8, k0_pay9, k0_pay10, k0_pay11, k0_pay12, k0_pay13, k0_pay14]
  simp only [iblk2, n_pay]
  rfl

/-- The fifth result at an index. -/
theorem xr_apply (c : Dev nD) (t : Fin cfg0.N) (r : Fin 512) (l : Fin 1024) :
    (outsAt0 m c t).2.2.2.2.1 (ix2 r l) = p m c (row t r) ⟨1536 + l.val, by omega⟩ := by
  unfold outsAt0
  frame_out
  canon_tiles x hx using View.cover_of_tiledBy _ ![512, 256] (by sl_kernel_rfl) _
  case piece0 =>
    obtain ⟨r', j, rfl⟩ : ∃ (r' : Fin 512) (j : Fin 768), x = ix2 r' j := ⟨x 0, x 1, eq_ix2 x⟩
    obtain rfl : r = r' := Fin.ext hx0
    have hl : (l : Nat) = 256 + (j : Nat) := hx1
    have hj : 1536 + (l : Nat) = 2 * 896 + ((j : Nat)) := by omega
    rw [← p_at m c (row t r) 2 ⟨j, by omega⟩ hj]
    pointwise [k0_pay5, k0_pay6, k0_pay7, k0_pay8, k0_pay9, k0_pay10, k0_pay11, k0_pay12, k0_pay13, k0_pay14]
    simp only [iblk2, n_pay]
    rfl
  case piece1 =>
    obtain ⟨r', j, rfl⟩ : ∃ (r' : Fin 512) (j : Fin 256), x = ix2 r' j := ⟨x 0, x 1, eq_ix2 x⟩
    obtain rfl : r = r' := Fin.ext hx0
    have hl : (l : Nat) = (j : Nat) := hx1
    have hj : 1536 + (l : Nat) = 1 * 896 + (640 + (j : Nat)) := by omega
    rw [← p_at m c (row t r) 1 ⟨640 + j, by omega⟩ hj]
    pointwise [k0_pay5, k0_pay6, k0_pay7, k0_pay8, k0_pay9, k0_pay10, k0_pay11, k0_pay12, k0_pay13, k0_pay14]
    simp only [iblk2, n_pay]
    rfl

/-- The sixth result at an index. -/
theorem xg_apply (c : Dev nD) (t : Fin cfg0.N) (r : Fin 512) (l : Fin 1024) :
    (outsAt0 m c t).2.2.2.2.2.1 (ix2 r l) = p m c (row t r) ⟨2560 + l.val, by omega⟩ := by
  unfold outsAt0
  frame_out
  canon_tiles x hx using View.cover_of_tiledBy _ ![512, 128] (by sl_kernel_rfl) _
  case piece0 =>
    obtain ⟨r', j, rfl⟩ : ∃ (r' : Fin 512) (j : Fin 896), x = ix2 r' j := ⟨x 0, x 1, eq_ix2 x⟩
    obtain rfl : r = r' := Fin.ext hx0
    have hl : (l : Nat) = 128 + (j : Nat) := hx1
    have hj : 2560 + (l : Nat) = 3 * 896 + ((j : Nat)) := by omega
    rw [← p_at m c (row t r) 3 ⟨j, by omega⟩ hj]
    pointwise [k0_pay5, k0_pay6, k0_pay7, k0_pay8, k0_pay9, k0_pay10, k0_pay11, k0_pay12, k0_pay13, k0_pay14]
    simp only [iblk2, n_pay]
    rfl
  case piece1 =>
    obtain ⟨r', j, rfl⟩ : ∃ (r' : Fin 512) (j : Fin 128), x = ix2 r' j := ⟨x 0, x 1, eq_ix2 x⟩
    obtain rfl : r = r' := Fin.ext hx0
    have hl : (l : Nat) = (j : Nat) := hx1
    have hj : 2560 + (l : Nat) = 2 * 896 + (768 + (j : Nat)) := by omega
    rw [← p_at m c (row t r) 2 ⟨768 + j, by omega⟩ hj]
    pointwise [k0_pay5, k0_pay6, k0_pay7, k0_pay8, k0_pay9, k0_pay10, k0_pay11, k0_pay12, k0_pay13, k0_pay14]
    simp only [iblk2, n_pay]
    rfl

/-- The seventh result at an index. -/
theorem g_apply (c : Dev nD) (t : Fin cfg0.N) (r : Fin 512) (l : Fin 2048) :
    (outsAt0 m c t).2.2.2.2.2.2 (ix2 r l) = g m c (row t r) l := by
  unfold outsAt0
  frame_out
  canon_tiles x hx
  case piece0 =>
    obtain ⟨r', j, rfl⟩ : ∃ (r' : Fin 512) (j : Fin 512), x = ix2 r' j := ⟨x 0, x 1, eq_ix2 x⟩
    obtain rfl : r = r' := Fin.ext hx0
    have hl : (l : Nat) = 1536 + (j : Nat) := hx1
    obtain rfl : l = gcol 3 j := Fin.ext (by change (l : Nat) = 3 * 512 + (j : Nat); omega)
    pointwise [k0_pay1, k0_pay2, k0_pay3, k0_pay15]
    simp only [iblk3, iblk4, n_pay]
    refine congrArg Ideal.logistic (congrArg (Fwd.add _) (congrArg _ (congrArg (ix2 0) (Fin.ext ?_))))
    change 1536 + (j : Nat) = 3 * 512 + (j : Nat)
    omega
  case piece1 =>
    obtain ⟨r', j, rfl⟩ : ∃ (r' : Fin 512) (j : Fin 512), x = ix2 r' j := ⟨x 0, x 1, eq_ix2 x⟩
    obtain rfl : r = r' := Fin.ext hx0
    have hl : (l : Nat) = 1024 + (j : Nat) := hx1
    obtain rfl : l = gcol 2 j := Fin.ext (by change (l : Nat) = 2 * 512 + (j : Nat); omega)
    pointwise [k0_pay1, k0_pay2, k0_pay3, k0_pay15]
    simp only [iblk3, iblk4, n_pay]
    refine congrArg Ideal.logistic (congrArg (Fwd.add _) (congrArg _ (congrArg (ix2 0) (Fin.ext ?_))))
    change 1024 + (j : Nat) = 2 * 512 + (j : Nat)
    omega
  case piece2 =>
    obtain ⟨r', j, rfl⟩ : ∃ (r' : Fin 512) (j : Fin 512), x = ix2 r' j := ⟨x 0, x 1, eq_ix2 x⟩
    obtain rfl : r = r' := Fin.ext hx0
    have hl : (l : Nat) = 512 + (j : Nat) := hx1
    obtain rfl : l = gcol 1 j := Fin.ext (by change (l : Nat) = 1 * 512 + (j : Nat); omega)
    pointwise [k0_pay1, k0_pay2, k0_pay3, k0_pay15]
    simp only [iblk3, iblk4, n_pay]
    refine congrArg Ideal.logistic (congrArg (Fwd.add _) (congrArg _ (congrArg (ix2 0) (Fin.ext ?_))))
    change 512 + (j : Nat) = 1 * 512 + (j : Nat)
    omega
  case piece3 =>
    obtain ⟨r', j, rfl⟩ : ∃ (r' : Fin 512) (j : Fin 512), x = ix2 r' j := ⟨x 0, x 1, eq_ix2 x⟩
    obtain rfl : r = r' := Fin.ext hx0
    have hl : (l : Nat) = (j : Nat) := hx1
    obtain rfl : l = gcol 0 j := Fin.ext (by change (l : Nat) = 0 * 512 + (j : Nat); omega)
    pointwise [k0_pay1, k0_pay2, k0_pay3, k0_pay15]
    simp only [iblk3, iblk4, n_pay]
    refine congrArg Ideal.logistic (congrArg (Fwd.add _) (congrArg _ (congrArg (ix2 0) (Fin.ext ?_))))
    change (j : Nat) = 0 * 512 + (j : Nat)
    omega

end Cert.ProjIdeal.Proof

end

end
-- ==== Proof.ProjClaim.lean ====
/-
  The input half of the mixer: kernel and reference end with the same arrays.
-/
module

public import proofs.«01_k».proof.Defs
public import proofs.«01_k».proof.Proof.ProjKernel
public import proofs.«01_k».proof.Proof.Gen.ProjRefIdeal.Run
public import proofs.«01_k».proof.Proof.Gen.ProjRefIdeal.Read

@[expose] public section

set_option maxRecDepth 16384

noncomputable section

open Idealize.ShloMosaic Idealize.SL.Sem

namespace Cert.ProjIdeal.Proof

open Cert.ProjIdeal Cert.ProjIdeal.Gen Idealize.ShloMosaic Idealize.ShloMosaic.TcCoe Idealize.SL.Sem
open Cert.ProjRefIdeal.Read

variable (m : (ℓ : Loc nD τ sig) → Buf (Elt Ideal) ℓ) (c : Dev nD)

/-- The reference's norm at an index. -/
theorem ref_n (i : Fin 4096) (l : Fin 1024) :
    val_main_v13 (F := Ideal) (m (Thread.loc (Dev.tc c) main_arg0)) (m (Thread.loc (Dev.tc c) main_arg1)) (ix2 i l) = n m c i l := by
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

/-- The reference's product at an index. -/
theorem ref_p (i : Fin 4096) (j : Fin 3584) :
    val_main_v14 (F := Ideal) (m (Thread.loc (Dev.tc c) main_arg0)) (m (Thread.loc (Dev.tc c) main_arg1)) (m (Thread.loc (Dev.tc c) main_arg2)) (ix2 i j) = p m c i j := by
  pointwise [val_main_v14]
  simp only [ref_n]
  rfl

/-- The reference's gates at an index. -/
theorem ref_g (i : Fin 4096) (j : Fin 2048) :
    val_main_v36 (F := Ideal) (m (Thread.loc (Dev.tc c) main_arg0)) (m (Thread.loc (Dev.tc c) main_arg1)) (m (Thread.loc (Dev.tc c) main_arg3)) (m (Thread.loc (Dev.tc c) main_arg4)) (ix2 i j) = g m c i j := by
  pointwise [val_main_v36, val_main_v30, val_main_v29, val_main_cst_3, val_main_v28, val_main_v27, val_main_cst_2, val_main_v26, val_main_v25, val_main_v24, val_main_v23, val_main_v22, val_main_v21, val_main_v20]
  simp only [ref_n]
  rfl

/-- The reference's other results at an index. -/
theorem ref_u (i : Fin 4096) (l : Fin 1024) :
    val_main_v31 (F := Ideal) (m (Thread.loc (Dev.tc c) main_arg0)) (m (Thread.loc (Dev.tc c) main_arg1)) (ix2 i l) = n m c i l := by
  rw [← ref_n]; pointwise [val_main_v31]

theorem ref_q (i : Fin 4096) (l : Fin 1024) :
    val_main_v32 (F := Ideal) (m (Thread.loc (Dev.tc c) main_arg0)) (m (Thread.loc (Dev.tc c) main_arg1)) (m (Thread.loc (Dev.tc c) main_arg2)) (ix2 i l) = p m c i ⟨0 + l.val, by omega⟩ := by
  rw [← ref_p]; pointwise [val_main_v32, val_main_v15]

theorem ref_k (i : Fin 4096) (l : Fin 256) :
    val_main_v33 (F := Ideal) (m (Thread.loc (Dev.tc c) main_arg0)) (m (Thread.loc (Dev.tc c) main_arg1)) (m (Thread.loc (Dev.tc c) main_arg2)) (ix2 i l) = p m c i ⟨1024 + l.val, by omega⟩ := by
  rw [← ref_p]; pointwise [val_main_v33, val_main_v16]

theorem ref_v (i : Fin 4096) (l : Fin 256) :
    val_main_v34 (F := Ideal) (m (Thread.loc (Dev.tc c) main_arg0)) (m (Thread.loc (Dev.tc c) main_arg1)) (m (Thread.loc (Dev.tc c) main_arg2)) (ix2 i l) = p m c i ⟨1280 + l.val, by omega⟩ := by
  rw [← ref_p]; pointwise [val_main_v34, val_main_v17]

theorem ref_xr (i : Fin 4096) (l : Fin 1024) :
    val_main_v18 (F := Ideal) (m (Thread.loc (Dev.tc c) main_arg0)) (m (Thread.loc (Dev.tc c) main_arg1)) (m (Thread.loc (Dev.tc c) main_arg2)) (ix2 i l) = p m c i ⟨1536 + l.val, by omega⟩ := by
  rw [← ref_p]; pointwise [val_main_v18]

theorem ref_xg (i : Fin 4096) (l : Fin 1024) :
    val_main_v35 (F := Ideal) (m (Thread.loc (Dev.tc c) main_arg0)) (m (Thread.loc (Dev.tc c) main_arg1)) (m (Thread.loc (Dev.tc c) main_arg2)) (ix2 i l) = p m c i ⟨2560 + l.val, by omega⟩ := by
  rw [← ref_p]; pointwise [val_main_v35, val_main_v19]

theorem result5 : (dats m 0 c).arrAt 5 cfg0.N
    = val_main_v31 (F := Ideal) (m (Thread.loc (Dev.tc c) main_arg0)) (m (Thread.loc (Dev.tc c) main_arg1)) := by
  have point : ∀ (t : Fin cfg0.N) (y : S512x1024.Idx) (e : S4096x1024.Idx), e = ix2 (row t (y 0)) (y 1) →
      (dats m 0 c).after 5 t y = val_main_v31 (F := Ideal) (m (Thread.loc (Dev.tc c) main_arg0)) (m (Thread.loc (Dev.tc c) main_arg1)) e := by
    intro t y e he
    obtain ⟨r, l, rfl⟩ : ∃ (r : Fin 512) (l : Fin 1024), y = ix2 r l := ⟨y 0, y 1, eq_ix2 y⟩
    obtain rfl : e = ix2 (row t r) l := he
    rw [after0_5, ref_u, n_apply]
  refine (dats m 0 c).arrAt_eq_of_covers 5 _ (by decide +kernel) fun t _ y => ?_
  blk_simp
  refine point t y _ ?_
  unfold row
  blk_ext [idx t]

theorem result6 : (dats m 0 c).arrAt 6 cfg0.N
    = val_main_v32 (F := Ideal) (m (Thread.loc (Dev.tc c) main_arg0)) (m (Thread.loc (Dev.tc c) main_arg1)) (m (Thread.loc (Dev.tc c) main_arg2)) := by
  have point : ∀ (t : Fin cfg0.N) (y : S512x1024.Idx) (e : S4096x1024.Idx), e = ix2 (row t (y 0)) (y 1) →
      (dats m 0 c).after 6 t y = val_main_v32 (F := Ideal) (m (Thread.loc (Dev.tc c) main_arg0)) (m (Thread.loc (Dev.tc c) main_arg1)) (m (Thread.loc (Dev.tc c) main_arg2)) e := by
    intro t y e he
    obtain ⟨r, l, rfl⟩ : ∃ (r : Fin 512) (l : Fin 1024), y = ix2 r l := ⟨y 0, y 1, eq_ix2 y⟩
    obtain rfl : e = ix2 (row t r) l := he
    rw [after0_6, ref_q, q_apply]
  refine (dats m 0 c).arrAt_eq_of_covers 6 _ (by decide +kernel) fun t _ y => ?_
  blk_simp
  refine point t y _ ?_
  unfold row
  blk_ext [idx t]

theorem result7 : (dats m 0 c).arrAt 7 cfg0.N
    = val_main_v33 (F := Ideal) (m (Thread.loc (Dev.tc c) main_arg0)) (m (Thread.loc (Dev.tc c) main_arg1)) (m (Thread.loc (Dev.tc c) main_arg2)) := by
  have point : ∀ (t : Fin cfg0.N) (y : S512x256.Idx) (e : S4096x256.Idx), e = ix2 (row t (y 0)) (y 1) →
      (dats m 0 c).after 7 t y = val_main_v33 (F := Ideal) (m (Thread.loc (Dev.tc c) main_arg0)) (m (Thread.loc (Dev.tc c) main_arg1)) (m (Thread.loc (Dev.tc c) main_arg2)) e := by
    intro t y e he
    obtain ⟨r, l, rfl⟩ : ∃ (r : Fin 512) (l : Fin 256), y = ix2 r l := ⟨y 0, y 1, eq_ix2 y⟩
    obtain rfl : e = ix2 (row t r) l := he
    rw [after0_7, ref_k, k_apply]
  refine (dats m 0 c).arrAt_eq_of_covers 7 _ (by decide +kernel) fun t _ y => ?_
  blk_simp
  refine point t y _ ?_
  unfold row
  blk_ext [idx t]

theorem result8 : (dats m 0 c).arrAt 8 cfg0.N
    = val_main_v34 (F := Ideal) (m (Thread.loc (Dev.tc c) main_arg0)) (m (Thread.loc (Dev.tc c) main_arg1)) (m (Thread.loc (Dev.tc c) main_arg2)) := by
  have point : ∀ (t : Fin cfg0.N) (y : S512x256.Idx) (e : S4096x256.Idx), e = ix2 (row t (y 0)) (y 1) →
      (dats m 0 c).after 8 t y = val_main_v34 (F := Ideal) (m (Thread.loc (Dev.tc c) main_arg0)) (m (Thread.loc (Dev.tc c) main_arg1)) (m (Thread.loc (Dev.tc c) main_arg2)) e := by
    intro t y e he
    obtain ⟨r, l, rfl⟩ : ∃ (r : Fin 512) (l : Fin 256), y = ix2 r l := ⟨y 0, y 1, eq_ix2 y⟩
    obtain rfl : e = ix2 (row t r) l := he
    rw [after0_8, ref_v, v_apply]
  refine (dats m 0 c).arrAt_eq_of_covers 8 _ (by decide +kernel) fun t _ y => ?_
  blk_simp
  refine point t y _ ?_
  unfold row
  blk_ext [idx t]

theorem result9 : (dats m 0 c).arrAt 9 cfg0.N
    = val_main_v18 (F := Ideal) (m (Thread.loc (Dev.tc c) main_arg0)) (m (Thread.loc (Dev.tc c) main_arg1)) (m (Thread.loc (Dev.tc c) main_arg2)) := by
  have point : ∀ (t : Fin cfg0.N) (y : S512x1024.Idx) (e : S4096x1024.Idx), e = ix2 (row t (y 0)) (y 1) →
      (dats m 0 c).after 9 t y = val_main_v18 (F := Ideal) (m (Thread.loc (Dev.tc c) main_arg0)) (m (Thread.loc (Dev.tc c) main_arg1)) (m (Thread.loc (Dev.tc c) main_arg2)) e := by
    intro t y e he
    obtain ⟨r, l, rfl⟩ : ∃ (r : Fin 512) (l : Fin 1024), y = ix2 r l := ⟨y 0, y 1, eq_ix2 y⟩
    obtain rfl : e = ix2 (row t r) l := he
    rw [after0_9, ref_xr, xr_apply]
  refine (dats m 0 c).arrAt_eq_of_covers 9 _ (by decide +kernel) fun t _ y => ?_
  blk_simp
  refine point t y _ ?_
  unfold row
  blk_ext [idx t]

theorem result10 : (dats m 0 c).arrAt 10 cfg0.N
    = val_main_v35 (F := Ideal) (m (Thread.loc (Dev.tc c) main_arg0)) (m (Thread.loc (Dev.tc c) main_arg1)) (m (Thread.loc (Dev.tc c) main_arg2)) := by
  have point : ∀ (t : Fin cfg0.N) (y : S512x1024.Idx) (e : S4096x1024.Idx), e = ix2 (row t (y 0)) (y 1) →
      (dats m 0 c).after 10 t y = val_main_v35 (F := Ideal) (m (Thread.loc (Dev.tc c) main_arg0)) (m (Thread.loc (Dev.tc c) main_arg1)) (m (Thread.loc (Dev.tc c) main_arg2)) e := by
    intro t y e he
    obtain ⟨r, l, rfl⟩ : ∃ (r : Fin 512) (l : Fin 1024), y = ix2 r l := ⟨y 0, y 1, eq_ix2 y⟩
    obtain rfl : e = ix2 (row t r) l := he
    rw [after0_10, ref_xg, xg_apply]
  refine (dats m 0 c).arrAt_eq_of_covers 10 _ (by decide +kernel) fun t _ y => ?_
  blk_simp
  refine point t y _ ?_
  unfold row
  blk_ext [idx t]

theorem result11 : (dats m 0 c).arrAt 11 cfg0.N
    = val_main_v36 (F := Ideal) (m (Thread.loc (Dev.tc c) main_arg0)) (m (Thread.loc (Dev.tc c) main_arg1)) (m (Thread.loc (Dev.tc c) main_arg3)) (m (Thread.loc (Dev.tc c) main_arg4)) := by
  have point : ∀ (t : Fin cfg0.N) (y : S512x2048.Idx) (e : S4096x2048.Idx), e = ix2 (row t (y 0)) (y 1) →
      (dats m 0 c).after 11 t y = val_main_v36 (F := Ideal) (m (Thread.loc (Dev.tc c) main_arg0)) (m (Thread.loc (Dev.tc c) main_arg1)) (m (Thread.loc (Dev.tc c) main_arg3)) (m (Thread.loc (Dev.tc c) main_arg4)) e := by
    intro t y e he
    obtain ⟨r, l, rfl⟩ : ∃ (r : Fin 512) (l : Fin 2048), y = ix2 r l := ⟨y 0, y 1, eq_ix2 y⟩
    obtain rfl : e = ix2 (row t r) l := he
    rw [after0_11, ref_g, g_apply]
  refine (dats m 0 c).arrAt_eq_of_covers 11 _ (by decide +kernel) fun t _ y => ?_
  blk_simp
  refine point t y _ ?_
  unfold row
  blk_ext [idx t]

/-- Kernel and reference, from memories that agree on the arguments, end with equal results. -/
theorem algebraic : Cert.algebraic_ProjIdeal_ProjRefIdeal := by
  intro m ρ m' ρ' _ hag
  refine ⟨fun c => (dats m 0 c).arrAt 5 cfg0.N, fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, Value.run_blocks m ρ, ?_⟩
  refine (θ_run Cert.ProjRefIdeal.defs _ _).mono (fun r h c => ?_) (Cert.ProjRefIdeal.Value.run (F := Ideal) m' ρ')
  obtain ⟨e0, e1, e2, e3, e4⟩ := hag c
  refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
  · have e := result5 m c
    rw [← e0, ← e1] at e
    rw [Cert.ProjRefIdeal.Read.val_main_v31_eq]; exact e.symm
  · have e := result6 m c
    rw [← e0, ← e1, ← e2] at e
    rw [Cert.ProjRefIdeal.Read.val_main_v32_eq]; exact e.symm
  · have e := result7 m c
    rw [← e0, ← e1, ← e2] at e
    rw [Cert.ProjRefIdeal.Read.val_main_v33_eq]; exact e.symm
  · have e := result8 m c
    rw [← e0, ← e1, ← e2] at e
    rw [Cert.ProjRefIdeal.Read.val_main_v34_eq]; exact e.symm
  · have e := result9 m c
    rw [← e0, ← e1, ← e2] at e
    rw [Cert.ProjRefIdeal.Read.val_main_v18_eq]; exact e.symm
  · have e := result10 m c
    rw [← e0, ← e1, ← e2] at e
    rw [Cert.ProjRefIdeal.Read.val_main_v35_eq]; exact e.symm
  · have e := result11 m c
    rw [← e0, ← e1, ← e3, ← e4] at e
    rw [Cert.ProjRefIdeal.Read.val_main_v36_eq]; exact e.symm

end Cert.ProjIdeal.Proof

/-- The reference's frame: its run, read at the arguments; it declares no semaphore. -/
theorem Cert.ProjRefIdeal.Proof.frame : Cert.quiescent_ProjRefIdeal := fun m ρ _ =>
  (θ_run Cert.ProjRefIdeal.defs _ _).mono (fun _ h => ⟨fun c => (h c).2.2.2.2.2.2.2, funext fun q => nomatch q⟩)
    (Cert.ProjRefIdeal.Value.run (F := Ideal) m ρ)

end

end
-- ==== Proof.MergeKernel.lean ====
/-
  The merge of the mixer's two branches, as the kernel leaves it: its five result arrays at an index.
-/
module

public import proofs.«01_k».proof.Proof.Gen.MergeIdeal.Value
public import proofs.«01_k».proof.Proof.Fwd
public import Idealize.ShloMosaic.Lib.Pipeline.ValueKit.Point

@[expose] public section

set_option maxRecDepth 16384

noncomputable section

namespace Cert.MergeIdeal.Proof

open Cert.MergeIdeal Cert.MergeIdeal.Gen Idealize.ShloMosaic Idealize.ShloMosaic.TcCoe Idealize.SL.Sem

variable (m : (ℓ : Loc nD τ sig) → Buf (Elt Ideal) ℓ)

/-- Where each window's block lies at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- Every grid point is one of eight. -/
theorem lt_eight : ∀ t : Fin cfg0.N, t.val < 8 := (by decide +kernel : ∀ t : Fin grid0.N, t.val < 8)

/-- Row `r` of block `t`. -/
def row (t : Fin cfg0.N) (r : Fin 512) : Fin 4096 :=
  ⟨t.val * 512 + r.val, by have := lt_eight t; omega⟩

/-- Column `l` of the first and of the second half of a row of the gates. -/
def fst (l : Fin 1024) : Fin 2048 := ⟨l.val, by omega⟩

def snd (l : Fin 1024) : Fin 2048 := ⟨1024 + l.val, by omega⟩

/-- The two branches' products from the arguments. -/
def ya (c : Dev nD) (i : Fin 4096) (l : Fin 1024) : EReal :=
  Fwd.prod (fun k => m (Thread.loc (Dev.tc c) main_arg0) (ix2 i k)) (fun k l => m (Thread.loc (Dev.tc c) main_arg4) (ix2 k l)) l

def yb (c : Dev nD) (i : Fin 4096) (l : Fin 1024) : EReal :=
  Fwd.prod (fun k => m (Thread.loc (Dev.tc c) main_arg1) (ix2 i k)) (fun k l => m (Thread.loc (Dev.tc c) main_arg5) (ix2 k l)) l

/-- A gate from the arguments. -/
def g (c : Dev nD) (i : Fin 4096) (j : Fin 2048) : EReal := Ideal.logistic (m (Thread.loc (Dev.tc c) main_arg2) (ix2 i j))

/-- The gated sum from the arguments. -/
def s (c : Dev nD) (i : Fin 4096) (l : Fin 1024) : EReal := g m c i (fst l) * ya m c i l + g m c i (snd l) * yb m c i l

/-- Its product. -/
def f (c : Dev nD) (i : Fin 4096) (l : Fin 1024) : EReal :=
  Fwd.prod (s m c i) (fun k l => m (Thread.loc (Dev.tc c) main_arg6) (ix2 k l)) l

/-- The residual with the product's norm added. -/
def h (c : Dev nD) (i : Fin 4096) (l : Fin 1024) : EReal :=
  Fwd.add (m (Thread.loc (Dev.tc c) main_arg3) (ix2 i l))
    (Fwd.nrm (f m c i) (fun l => m (Thread.loc (Dev.tc c) main_arg7) (ix2 0 l)) l)

/-- The logistic function's derivative. -/
def d (a : EReal) : EReal := a * (1 - a)

/-- What the host lines before the kernel leave in the gates' operand. -/
theorem host_g (c : Dev nD) (i : Fin 4096) (j : Fin 2048) :
    (StableHlo.after hostOps0 (fun b => m (c, b)) (Proc.tc.devRef main_v6) : FVec Ideal S4096x2048 .bf16) (ix2 i j) = g m c i j := by
  simp only [hostOps0]
  after_results_simp
  pointwise []
  rfl

theorem iblk0 (c : Dev nD) (t : Fin cfg0.N) (r : Fin 512) (l : Fin 1024) :
    iblk m c 0 t (ix2 r l) = m (Thread.loc (Dev.tc c) main_arg0) (ix2 (row t r) l) := by
  unfold row; blk_ext! [iblk, V, idx t]

theorem iblk1 (c : Dev nD) (t : Fin cfg0.N) (r : Fin 512) (l : Fin 1024) :
    iblk m c 1 t (ix2 r l) = m (Thread.loc (Dev.tc c) main_arg1) (ix2 (row t r) l) := by
  unfold row; blk_ext! [iblk, V, idx t]

theorem iblk2 (c : Dev nD) (t : Fin cfg0.N) (r : Fin 512) (j : Fin 2048) :
    iblk m c 2 t (ix2 r j) = g m c (row t r) j := by
  rw [← host_g]; unfold row; blk_ext! [iblk, V, idx t]

theorem iblk3 (c : Dev nD) (t : Fin cfg0.N) (r : Fin 512) (l : Fin 1024) :
    iblk m c 3 t (ix2 r l) = m (Thread.loc (Dev.tc c) main_arg3) (ix2 (row t r) l) := by
  unfold row; blk_ext! [iblk, V, idx t]

theorem iblk4 (c : Dev nD) (t : Fin cfg0.N) (k l : Fin 1024) :
    iblk m c 4 t (ix2 k l) = m (Thread.loc (Dev.tc c) main_arg4) (ix2 k l) := by
  blk_ext! [iblk, V, idx t]

theorem iblk5 (c : Dev nD) (t : Fin cfg0.N) (k l : Fin 1024) :
    iblk m c 5 t (ix2 k l) = m (Thread.loc (Dev.tc c) main_arg5) (ix2 k l) := by
  blk_ext! [iblk, V, idx t]

theorem iblk6 (c : Dev nD) (t : Fin cfg0.N) (k l : Fin 1024) :
    iblk m c 6 t (ix2 k l) = m (Thread.loc (Dev.tc c) main_arg6) (ix2 k l) := by
  blk_ext! [iblk, V, idx t]

theorem iblk7 (c : Dev nD) (t : Fin cfg0.N) (r : Fin 1) (l : Fin 1024) :
    iblk m c 7 t (ix2 r l) = m (Thread.loc (Dev.tc c) main_arg7) (ix2 r l) := by
  blk_ext! [iblk, V, idx t]

/-- A load of a whole block is the block. -/
theorem ld0 {e : EltTy} (X : S512x1024.Idx → Elt Ideal e) : View.ld X r0_0 = X :=
  View.ld_unit_zero (by funext a; fin_cases a <;> rfl) _ X

theorem ld1 {e : EltTy} (X : S1024x1024.Idx → Elt Ideal e) : View.ld X r0_1 = X :=
  View.ld_unit_zero (by funext a; fin_cases a <;> rfl) _ X

/-- The branches' products, the gates' halves, the gated sum and its product at a grid point. -/
theorem ya_pay (c : Dev nD) (t : Fin cfg0.N) (r : Fin 512) (l : Fin 1024) :
    k0_pay2 (iblk m c 0 t) (iblk m c 4 t) (ix2 r l) = ya m c (row t r) l := by
  pointwise [k0_pay2]
  simp only [iblk0, iblk4, Reals.czero, EReal.coe_zero, zero_add]
  rfl

theorem yb_pay (c : Dev nD) (t : Fin cfg0.N) (r : Fin 512) (l : Fin 1024) :
    k0_pay3 (iblk m c 1 t) (iblk m c 5 t) (ix2 r l) = yb m c (row t r) l := by
  pointwise [k0_pay3]
  simp only [iblk1, iblk5, Reals.czero, EReal.coe_zero, zero_add]
  rfl

theorem ga_pay (c : Dev nD) (t : Fin cfg0.N) (r : Fin 512) (l : Fin 1024) :
    k0_pay4 (View.ld (iblk m c 2 t) r0_2) (ix2 r l) = g m c (row t r) (fst l) := by
  rw [← iblk2]; pointwise [k0_pay4, fst]

theorem gb_pay (c : Dev nD) (t : Fin cfg0.N) (r : Fin 512) (l : Fin 1024) :
    k0_pay5 (View.ld (iblk m c 2 t) r0_3) (ix2 r l) = g m c (row t r) (snd l) := by
  rw [← iblk2]; pointwise [k0_pay5, snd]

theorem s_pay (c : Dev nD) (t : Fin cfg0.N) (r : Fin 512) (l : Fin 1024) :
    k0_pay6 (iblk m c 0 t) (iblk m c 4 t) (iblk m c 1 t) (iblk m c 5 t)
      (View.ld (iblk m c 2 t) r0_2) (View.ld (iblk m c 2 t) r0_3) (ix2 r l) = s m c (row t r) l := by
  pointwise [k0_pay6]
  simp only [ya_pay, yb_pay, ga_pay, gb_pay]
  rfl

theorem f_pay (c : Dev nD) (t : Fin cfg0.N) (r : Fin 512) (l : Fin 1024) :
    k0_pay10 (iblk m c 0 t) (iblk m c 1 t) (iblk m c 2 t) (iblk m c 3 t) (iblk m c 4 t) (iblk m c 5 t) (iblk m c 6 t) (iblk m c 7 t)
      (ix2 r l) = f m c (row t r) l := by
  unfold k0_pay10
  simp only [ld0, ld1]
  pointwise [k0_pay7]
  simp only [iblk6]
  unfold f Fwd.prod
  exact Finset.sum_congr rfl fun x _ =>
    congrArg (fun y => HMul.hMul (α := EReal) (β := EReal) (γ := EReal) y (m (Thread.loc (Dev.tc c) main_arg6) (ix2 x l)))
      (s_pay m c t r x)

/-- The residual's sum with a product's norm. -/
theorem add_nrm (v20 : FVec Ideal S512x1024 .f32) (v35 : Vec Ideal S512x1024 .f32) (v36 : Vec Ideal S1x1024 .f32) (r : Fin 512)
    (l : Fin 1024) :
    k0_pay1 v20 v35 v36 (ix2 r l)
      = Fwd.add (v35 (ix2 r l)) (Fwd.nrm (fun l => v20 (ix2 r l)) (fun l => v36 (ix2 0 l)) l) := by
  pointwise [k0_pay1]
  rfl

/-- The first result at an index. -/
theorem h_apply (c : Dev nD) (t : Fin cfg0.N) (r : Fin 512) (l : Fin 1024) :
    out0_8 (iblk m c 0 t) (iblk m c 1 t) (iblk m c 2 t) (iblk m c 3 t) (iblk m c 4 t) (iblk m c 5 t) (iblk m c 6 t) (iblk m c 7 t)
      (ix2 r l) = h m c (row t r) l := by
  unfold out0_8
  frame_out
  simp only [add_nrm, f_pay, iblk3, iblk7]
  rfl

/-- The second result at an index. -/
theorem f_apply (c : Dev nD) (t : Fin cfg0.N) (r : Fin 512) (l : Fin 1024) :
    out0_9 (iblk m c 0 t) (iblk m c 1 t) (iblk m c 2 t) (iblk m c 3 t) (iblk m c 4 t) (iblk m c 5 t) (iblk m c 6 t) (iblk m c 7 t)
      (ix2 r l) = f m c (row t r) l := by
  unfold out0_9
  frame_out
  rw [f_pay]

/-- The third result at an index. -/
theorem s_apply (c : Dev nD) (t : Fin cfg0.N) (r : Fin 512) (l : Fin 1024) :
    out0_10 (iblk m c 0 t) (iblk m c 1 t) (iblk m c 2 t) (iblk m c 3 t) (iblk m c 4 t) (iblk m c 5 t) (iblk m c 6 t) (iblk m c 7 t)
      (ix2 r l) = s m c (row t r) l := by
  rw [← s_pay]; unfold out0_10; frame_out; rfl

/-- The last two results at an index. -/
theorem da_apply (c : Dev nD) (t : Fin cfg0.N) (r : Fin 512) (l : Fin 1024) :
    out0_11 (iblk m c 0 t) (iblk m c 1 t) (iblk m c 2 t) (iblk m c 3 t) (iblk m c 4 t) (iblk m c 5 t) (iblk m c 6 t) (iblk m c 7 t)
      (ix2 r l) = ya m c (row t r) l * d (g m c (row t r) (fst l)) := by
  rw [← ya_pay, ← ga_pay]; unfold out0_11; frame_out; pointwise [k0_pay8]; rfl

theorem db_apply (c : Dev nD) (t : Fin cfg0.N) (r : Fin 512) (l : Fin 1024) :
    out0_12 (iblk m c 0 t) (iblk m c 1 t) (iblk m c 2 t) (iblk m c 3 t) (iblk m c 4 t) (iblk m c 5 t) (iblk m c 6 t) (iblk m c 7 t)
      (ix2 r l) = yb m c (row t r) l * d (g m c (row t r) (snd l)) := by
  rw [← yb_pay, ← gb_pay]; unfold out0_12; frame_out; pointwise [k0_pay9]; rfl

end Cert.MergeIdeal.Proof

end

end
-- ==== Proof.MergeClaim.lean ====
/-
  The merge of the mixer's two branches: kernel and reference end with the same arrays.
-/
module

public import proofs.«01_k».proof.Defs
public import proofs.«01_k».proof.Proof.MergeKernel
public import proofs.«01_k».proof.Proof.Gen.MergeRefIdeal.Run
public import proofs.«01_k».proof.Proof.Gen.MergeRefIdeal.Read

@[expose] public section

set_option maxRecDepth 16384

noncomputable section

open Idealize.ShloMosaic Idealize.SL.Sem

namespace Cert.MergeIdeal.Proof

open Cert.MergeIdeal Cert.MergeIdeal.Gen Idealize.ShloMosaic Idealize.ShloMosaic.TcCoe Idealize.SL.Sem
open Cert.MergeRefIdeal.Read

variable (m : (ℓ : Loc nD τ sig) → Buf (Elt Ideal) ℓ) (c : Dev nD)

/-- The reference's branch products at an index. -/
theorem ref_ya (i : Fin 4096) (l : Fin 1024) : val_main_v1 (F := Ideal) (m (Thread.loc (Dev.tc c) main_arg0)) (m (Thread.loc (Dev.tc c) main_arg4)) (ix2 i l) = ya m c i l := by
  pointwise [val_main_v1, val_main_v0]
  rfl

theorem ref_yb (i : Fin 4096) (l : Fin 1024) : val_main_v3 (F := Ideal) (m (Thread.loc (Dev.tc c) main_arg1)) (m (Thread.loc (Dev.tc c) main_arg5)) (ix2 i l) = yb m c i l := by
  pointwise [val_main_v3, val_main_v2]
  rfl

/-- The reference's gates at an index. -/
theorem ref_ga (i : Fin 4096) (l : Fin 1024) : val_main_v11 (F := Ideal) (m (Thread.loc (Dev.tc c) main_arg2)) (ix2 i l) = g m c i (fst l) := by
  pointwise [val_main_v11, val_main_v10, val_main_v9, val_main_v8, val_main_v7, val_main_v6, val_main_cst, val_main_cst_0, val_main_v4]
  rfl

theorem ref_gb (i : Fin 4096) (l : Fin 1024) : val_main_v21 (F := Ideal) (m (Thread.loc (Dev.tc c) main_arg2)) (ix2 i l) = g m c i (snd l) := by
  pointwise [val_main_v21, val_main_v20, val_main_v19, val_main_v18, val_main_v17, val_main_v16, val_main_cst_2, val_main_cst_3, val_main_v5]
  rfl

/-- The reference's gated sum at an index. -/
theorem ref_s (i : Fin 4096) (l : Fin 1024) : val_main_v26 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) (ix2 i l) = s m c i l := by
  pointwise [val_main_v26, val_main_v25, val_main_v15]
  simp only [ref_ya, ref_yb, ref_ga, ref_gb]
  rfl

theorem ref_s' (i : Fin 4096) (l : Fin 1024) : val_main_v48 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) (ix2 i l) = s m c i l := by
  rw [← ref_s]; pointwise [val_main_v48]

/-- The reference's product of the sum at an index. -/
theorem ref_f (i : Fin 4096) (l : Fin 1024) : val_main_v32 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) (m (Thread.loc (Dev.tc c) main_arg6)) (ix2 i l) = f m c i l := by
  pointwise [val_main_v32]
  simp only [ref_s]
  rfl

/-- The reference's first array at an index. -/
theorem ref_h (i : Fin 4096) (l : Fin 1024) : val_main_v47 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (m (Thread.loc (Dev.tc c) main_arg7)) (ix2 i l) = h m c i l := by
  pointwise [val_main_v47, val_main_v46, val_main_v45, val_main_v44, val_main_v43, val_main_v42, val_main_v41, val_main_v40, val_main_v39, val_main_v38, val_main_v37, val_main_v36, val_main_v35, val_main_v34, val_main_v33, val_main_cst_6, val_main_cst_7, val_main_cst_8]
  simp only [ref_f, Reals.czero, EReal.coe_zero, zero_add]
  rfl

/-- The reference's last two arrays at an index. -/
theorem ref_da (i : Fin 4096) (l : Fin 1024) :
    val_main_v49 (F := Ideal) (m (Thread.loc (Dev.tc c) main_arg0)) (m (Thread.loc (Dev.tc c) main_arg2)) (m (Thread.loc (Dev.tc c) main_arg4)) (ix2 i l) = ya m c i l * d (g m c i (fst l)) := by
  pointwise [val_main_v49, val_main_v31, val_main_v30, val_main_v27, val_main_cst_5, val_main_v14, val_main_v13, val_main_v12, val_main_cst_1]
  simp only [ref_ya, ref_ga, d]

theorem ref_db (i : Fin 4096) (l : Fin 1024) :
    val_main_v50 (F := Ideal) (m (Thread.loc (Dev.tc c) main_arg1)) (m (Thread.loc (Dev.tc c) main_arg2)) (m (Thread.loc (Dev.tc c) main_arg5)) (ix2 i l) = yb m c i l * d (g m c i (snd l)) := by
  pointwise [val_main_v50, val_main_v29, val_main_v28, val_main_v27, val_main_cst_5, val_main_v24, val_main_v23, val_main_v22, val_main_cst_4]
  simp only [ref_yb, ref_gb, d]

theorem result8 : (dats m 0 c).arrAt 8 cfg0.N
    = val_main_v47 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (m (Thread.loc (Dev.tc c) main_arg7)) := by
  have point : ∀ (t : Fin cfg0.N) (y : S512x1024.Idx) (e : S4096x1024.Idx), e = ix2 (row t (y 0)) (y 1) →
      (dats m 0 c).after 8 t y = val_main_v47 (F := Ideal) (m (Thread.loc (Dev.tc c) main_arg0)) (m (Thread.loc (Dev.tc c) main_arg1)) (m (Thread.loc (Dev.tc c) main_arg2)) (m (Thread.loc (Dev.tc c) main_arg3)) (m (Thread.loc (Dev.tc c) main_arg4)) (m (Thread.loc (Dev.tc c) main_arg5)) (m (Thread.loc (Dev.tc c) main_arg6)) (m (Thread.loc (Dev.tc c) main_arg7)) e := by
    intro t y e he
    obtain ⟨r, l, rfl⟩ : ∃ (r : Fin 512) (l : Fin 1024), y = ix2 r l := ⟨y 0, y 1, eq_ix2 y⟩
    obtain rfl : e = ix2 (row t r) l := he
    rw [after0_8, ref_h, h_apply]
  refine (dats m 0 c).arrAt_eq_of_covers 8 _ (by decide +kernel) fun t _ y => ?_
  blk_simp
  refine point t y _ ?_
  unfold row
  blk_ext [idx t]

theorem result9 : (dats m 0 c).arrAt 9 cfg0.N
    = val_main_v32 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) (m (Thread.loc (Dev.tc c) main_arg6)) := by
  have point : ∀ (t : Fin cfg0.N) (y : S512x1024.Idx) (e : S4096x1024.Idx), e = ix2 (row t (y 0)) (y 1) →
      (dats m 0 c).after 9 t y = val_main_v32 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) (m (Thread.loc (Dev.tc c) main_arg6)) e := by
    intro t y e he
    obtain ⟨r, l, rfl⟩ : ∃ (r : Fin 512) (l : Fin 1024), y = ix2 r l := ⟨y 0, y 1, eq_ix2 y⟩
    obtain rfl : e = ix2 (row t r) l := he
    rw [after0_9, ref_f, f_apply]
  refine (dats m 0 c).arrAt_eq_of_covers 9 _ (by decide +kernel) fun t _ y => ?_
  blk_simp
  refine point t y _ ?_
  unfold row
  blk_ext [idx t]

theorem result10 : (dats m 0 c).arrAt 10 cfg0.N
    = val_main_v48 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) := by
  have point : ∀ (t : Fin cfg0.N) (y : S512x1024.Idx) (e : S4096x1024.Idx), e = ix2 (row t (y 0)) (y 1) →
      (dats m 0 c).after 10 t y = val_main_v48 (F := Ideal) (m (Thread.loc (Dev.tc c) main_arg0)) (m (Thread.loc (Dev.tc c) main_arg1)) (m (Thread.loc (Dev.tc c) main_arg2)) (m (Thread.loc (Dev.tc c) main_arg4)) (m (Thread.loc (Dev.tc c) main_arg5)) e := by
    intro t y e he
    obtain ⟨r, l, rfl⟩ : ∃ (r : Fin 512) (l : Fin 1024), y = ix2 r l := ⟨y 0, y 1, eq_ix2 y⟩
    obtain rfl : e = ix2 (row t r) l := he
    rw [after0_10, ref_s', s_apply]
  refine (dats m 0 c).arrAt_eq_of_covers 10 _ (by decide +kernel) fun t _ y => ?_
  blk_simp
  refine point t y _ ?_
  unfold row
  blk_ext [idx t]

theorem result11 : (dats m 0 c).arrAt 11 cfg0.N
    = val_main_v49 (F := Ideal) (m (Thread.loc (Dev.tc c) main_arg0)) (m (Thread.loc (Dev.tc c) main_arg2)) (m (Thread.loc (Dev.tc c) main_arg4)) := by
  have point : ∀ (t : Fin cfg0.N) (y : S512x1024.Idx) (e : S4096x1024.Idx), e = ix2 (row t (y 0)) (y 1) →
      (dats m 0 c).after 11 t y = val_main_v49 (F := Ideal) (m (Thread.loc (Dev.tc c) main_arg0)) (m (Thread.loc (Dev.tc c) main_arg2)) (m (Thread.loc (Dev.tc c) main_arg4)) e := by
    intro t y e he
    obtain ⟨r, l, rfl⟩ : ∃ (r : Fin 512) (l : Fin 1024), y = ix2 r l := ⟨y 0, y 1, eq_ix2 y⟩
    obtain rfl : e = ix2 (row t r) l := he
    rw [after0_11, ref_da, da_apply]
  refine (dats m 0 c).arrAt_eq_of_covers 11 _ (by decide +kernel) fun t _ y => ?_
  blk_simp
  refine point t y _ ?_
  unfold row
  blk_ext [idx t]

theorem result12 : (dats m 0 c).arrAt 12 cfg0.N
    = val_main_v50 (F := Ideal) (m (Thread.loc (Dev.tc c) main_arg1)) (m (Thread.loc (Dev.tc c) main_arg2)) (m (Thread.loc (Dev.tc c) main_arg5)) := by
  have point : ∀ (t : Fin cfg0.N) (y : S512x1024.Idx) (e : S4096x1024.Idx), e = ix2 (row t (y 0)) (y 1) →
      (dats m 0 c).after 12 t y = val_main_v50 (F := Ideal) (m (Thread.loc (Dev.tc c) main_arg1)) (m (Thread.loc (Dev.tc c) main_arg2)) (m (Thread.loc (Dev.tc c) main_arg5)) e := by
    intro t y e he
    obtain ⟨r, l, rfl⟩ : ∃ (r : Fin 512) (l : Fin 1024), y = ix2 r l := ⟨y 0, y 1, eq_ix2 y⟩
    obtain rfl : e = ix2 (row t r) l := he
    rw [after0_12, ref_db, db_apply]
  refine (dats m 0 c).arrAt_eq_of_covers 12 _ (by decide +kernel) fun t _ y => ?_
  blk_simp
  refine point t y _ ?_
  unfold row
  blk_ext [idx t]

/-- Kernel and reference, from memories that agree on the arguments, end with equal results. -/
theorem algebraic : Cert.algebraic_MergeIdeal_MergeRefIdeal := by
  intro m ρ m' ρ' _ hag
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, Value.run_blocks m ρ, ?_⟩
  refine (θ_run Cert.MergeRefIdeal.defs _ _).mono (fun r h c => ?_) (Cert.MergeRefIdeal.Value.run (F := Ideal) m' ρ')
  obtain ⟨e0, e1, e2, e3, e4, e5, e6, e7⟩ := hag c
  refine ⟨(h c).1.trans ?_, (h c).2.1.trans ?_, (h c).2.2.1.trans ?_, (h c).2.2.2.1.trans ?_, (h c).2.2.2.2.1.trans ?_, (h c).2.2.2.2.2⟩
  · have e := result8 m c
    rw [← e0, ← e1, ← e2, ← e3, ← e4, ← e5, ← e6, ← e7] at e
    rw [Cert.MergeRefIdeal.Read.val_main_v47_eq]; exact e.symm
  · have e := result9 m c
    rw [← e0, ← e1, ← e2, ← e4, ← e5, ← e6] at e
    rw [Cert.MergeRefIdeal.Read.val_main_v32_eq]; exact e.symm
  · have e := result10 m c
    rw [← e0, ← e1, ← e2, ← e4, ← e5] at e
    rw [Cert.MergeRefIdeal.Read.val_main_v48_eq]; exact e.symm
  · have e := result11 m c
    rw [← e0, ← e2, ← e4] at e
    rw [Cert.MergeRefIdeal.Read.val_main_v49_eq]; exact e.symm
  · have e := result12 m c
    rw [← e1, ← e2, ← e5] at e
    rw [Cert.MergeRefIdeal.Read.val_main_v50_eq]; exact e.symm

end Cert.MergeIdeal.Proof

/-- The reference's frame: its run, read at the arguments; it declares no semaphore. -/
theorem Cert.MergeRefIdeal.Proof.frame : Cert.quiescent_MergeRefIdeal := fun m ρ _ =>
  (θ_run Cert.MergeRefIdeal.defs _ _).mono (fun _ h => ⟨fun c => (h c).2.2.2.2.2, funext fun q => nomatch q⟩)
    (Cert.MergeRefIdeal.Value.run (F := Ideal) m ρ)

end

end
-- ==== Proof.lean ====
module

public import proofs.«01_k».proof.Defs
public import proofs.«01_k».proof.Proof.FfnInClaim
public import proofs.«01_k».proof.Proof.MixInClaim
public import proofs.«01_k».proof.Proof.ActsClaim
public import proofs.«01_k».proof.Proof.FfnClaim
public import proofs.«01_k».proof.Proof.AttnClaim
public import proofs.«01_k».proof.Proof.LossClaim
public import proofs.«01_k».proof.Proof.UpClaim
public import proofs.«01_k».proof.Proof.DownClaim
public import proofs.«01_k».proof.Proof.ProjClaim
public import proofs.«01_k».proof.Proof.MergeClaim
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.Acts
public import proofs.«01_k».proof.Proof.Gen.Acts.Skeleton
public import proofs.«01_k».proof.Proof.Gen.Acts.Launch
public import proofs.«01_k».proof.Proof.Gen.Acts.Points
public import proofs.«01_k».proof.Proof.Gen.Acts.Frame
public import proofs.«01_k».proof.Proof.Gen.ActsIdeal
public import proofs.«01_k».proof.Proof.Gen.ActsIdeal.Skeleton
public import proofs.«01_k».proof.Proof.Gen.ActsIdeal.Launch
public import proofs.«01_k».proof.Proof.Gen.ActsIdeal.Points
public import proofs.«01_k».proof.Proof.Gen.ActsIdeal.Frame
public import proofs.«01_k».proof.Proof.Gen.ActsIdeal.Value
public import proofs.«01_k».proof.Proof.Gen.ActsRefIdeal
public import proofs.«01_k».proof.Proof.Gen.ActsRefIdeal.Run
public import proofs.«01_k».proof.Proof.Gen.ActsRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Pre_ffn_in_finite
public import proofs.«01_k».proof.Proof.Gen.Pre_mix_in_finite
public import proofs.«01_k».proof.Proof.Gen.Pre_ffn_finite
public import proofs.«01_k».proof.Proof.Gen.Pre_attn_finite
public import Idealize.ShloMosaic.Adequacy
public import Idealize.ShloMosaic.Init

@[expose] public section

noncomputable section

namespace Cert.Proof

open Idealize.ShloMosaic Idealize.SL.Sem Cert.FfnIn

theorem claim : Cert.Claim := ⟨Cert.FfnIn.Gen.facts, Cert.FfnInIdeal.Gen.facts, Cert.FfnInRefIdeal.Gen.facts,
  Cert.MixIn.Gen.facts, Cert.MixInIdeal.Gen.facts, Cert.MixInRefIdeal.Gen.facts,
  Cert.Acts.Gen.facts, Cert.ActsIdeal.Gen.facts, Cert.ActsRefIdeal.Gen.facts,
  Cert.Ffn.Gen.facts, Cert.FfnIdeal.Gen.facts, Cert.FfnRefIdeal.Gen.facts,
  Cert.Attn.Gen.facts, Cert.AttnIdeal.Gen.facts, Cert.AttnRefIdeal.Gen.facts,
  Cert.Bias.Gen.facts, Cert.BiasIdeal.Gen.facts, Cert.Loss.Gen.facts,
  Cert.LossIdeal.Gen.facts, Cert.LossRefIdeal.Gen.facts, Cert.Up.Gen.facts,
  Cert.UpIdeal.Gen.facts, Cert.UpRefIdeal.Gen.facts, Cert.Down.Gen.facts,
  Cert.DownIdeal.Gen.facts, Cert.DownRefIdeal.Gen.facts, Cert.Proj.Gen.facts,
  Cert.ProjIdeal.Gen.facts, Cert.ProjRefIdeal.Gen.facts, Cert.Merge.Gen.facts,
  Cert.MergeIdeal.Gen.facts, Cert.MergeRefIdeal.Gen.facts, Cert.Pre_ffn_in_finite.Gen.facts,
  Cert.Pre_mix_in_finite.Gen.facts, Cert.Pre_ffn_finite.Gen.facts, Cert.Pre_attn_finite.Gen.facts,
  fun m ρ _ => Cert.FfnIn.Gen.frame m ρ,
  fun m ρ _ => Cert.FfnInIdeal.Gen.frame m ρ,
  fun m ρ _ => Cert.FfnInIdeal.Gen.frame m ρ,
  Cert.FfnInRefIdeal.Proof.frame,
  fun m ρ _ => Cert.FfnInRefIdeal.Proof.frame m ρ trivial,
  fun m ρ _ => Cert.MixIn.Gen.frame m ρ,
  fun m ρ _ => Cert.MixInIdeal.Gen.frame m ρ,
  fun m ρ _ => Cert.MixInIdeal.Gen.frame m ρ,
  Cert.MixInRefIdeal.Proof.frame,
  fun m ρ _ => Cert.MixInRefIdeal.Proof.frame m ρ trivial,
  fun m ρ _ => Cert.Acts.Gen.frame m ρ,
  fun m ρ _ => Cert.ActsIdeal.Gen.frame m ρ,
  fun m ρ _ => Cert.ActsIdeal.Gen.frame m ρ,
  Cert.ActsRefIdeal.Proof.frame,
  fun m ρ _ => Cert.ActsRefIdeal.Proof.frame m ρ trivial,
  fun m ρ _ => Cert.Ffn.Gen.frame m ρ,
  fun m ρ _ => Cert.FfnIdeal.Gen.frame m ρ,
  fun m ρ _ => Cert.FfnIdeal.Gen.frame m ρ,
  Cert.FfnRefIdeal.Proof.frame,
  fun m ρ _ => Cert.FfnRefIdeal.Proof.frame m ρ trivial,
  fun m ρ _ => Cert.Attn.Gen.frame m ρ,
  fun m ρ _ => Cert.AttnIdeal.Gen.frame m ρ,
  fun m ρ _ => Cert.AttnIdeal.Gen.frame m ρ,
  Cert.AttnRefIdeal.Proof.frame,
  fun m ρ _ => Cert.AttnRefIdeal.Proof.frame m ρ trivial,
  fun m ρ _ => Cert.Bias.Gen.frame m ρ,
  fun m ρ _ => Cert.BiasIdeal.Gen.frame m ρ,
  fun m ρ _ => Cert.Loss.Gen.frame m ρ,
  fun m ρ _ => Cert.LossIdeal.Gen.frame m ρ,
  Cert.LossRefIdeal.Proof.frame,
  fun m ρ _ => Cert.Up.Gen.frame m ρ,
  fun m ρ _ => Cert.UpIdeal.Gen.frame m ρ,
  Cert.UpRefIdeal.Proof.frame,
  fun m ρ _ => Cert.Down.Gen.frame m ρ,
  fun m ρ _ => Cert.DownIdeal.Gen.frame m ρ,
  Cert.DownRefIdeal.Proof.frame,
  fun m ρ _ => Cert.Proj.Gen.frame m ρ,
  fun m ρ _ => Cert.ProjIdeal.Gen.frame m ρ,
  Cert.ProjRefIdeal.Proof.frame,
  fun m ρ _ => Cert.Merge.Gen.frame m ρ,
  fun m ρ _ => Cert.MergeIdeal.Gen.frame m ρ,
  Cert.MergeRefIdeal.Proof.frame,
  trivial,
  Cert.FfnInIdeal.Proof.algebraic,
  trivial,
  Cert.MixInIdeal.Proof.algebraic,
  trivial,
  Cert.ActsIdeal.Proof.algebraic,
  trivial,
  Cert.FfnIdeal.Proof.algebraic,
  trivial,
  Cert.AttnIdeal.Proof.algebraic,
  trivial,
  trivial,
  Cert.LossIdeal.Proof.algebraic,
  trivial,
  Cert.UpIdeal.Proof.algebraic,
  trivial,
  Cert.DownIdeal.Proof.algebraic,
  trivial,
  Cert.ProjIdeal.Proof.algebraic,
  trivial,
  Cert.MergeIdeal.Proof.algebraic⟩

end Cert.Proof

end
